-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GuDx (m : (ℓ : Loc Cert.GuDx.nD Cert.GuDx.τ Cert.GuDx.sig) → Buf (Elt Bits) ℓ) : Prop :=
  True

def Pre_GuDxIdeal (m : (ℓ : Loc Cert.GuDxIdeal.nD Cert.GuDxIdeal.τ Cert.GuDxIdeal.sig) → Buf (Elt Ideal) ℓ) : Prop :=
  True

def Pre_GuDxRefIdeal (m : (ℓ : Loc Cert.GuDxRefIdeal.nD Cert.GuDxRefIdeal.τ Cert.GuDxRefIdeal.sig) → Buf (Elt Ideal) ℓ) : Prop :=
  True

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwRefIdeal (m : (ℓ : Loc Cert.GuDwRefIdeal.nD Cert.GuDwRefIdeal.τ Cert.GuDwRefIdeal.sig) → Buf (Elt Ideal) ℓ) : Prop :=
  True

def Pre_GuFwd (m : (ℓ : Loc Cert.GuFwd.nD Cert.GuFwd.τ Cert.GuFwd.sig) → Buf (Elt Bits) ℓ) : Prop :=
  True

def Pre_GuFwdIdeal (m : (ℓ : Loc Cert.GuFwdIdeal.nD Cert.GuFwdIdeal.τ Cert.GuFwdIdeal.sig) → Buf (Elt Ideal) ℓ) : Prop :=
  True

def Pre_GuFwdRefIdeal (m : (ℓ : Loc Cert.GuFwdRefIdeal.nD Cert.GuFwdRefIdeal.τ Cert.GuFwdRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdRefIdeal (m : (ℓ : Loc Cert.ActBwdRefIdeal.nD Cert.ActBwdRefIdeal.τ Cert.ActBwdRefIdeal.sig) → Buf (Elt Ideal) ℓ) : Prop :=
  True

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumGu (m : (ℓ : Loc Cert.SumGu.nD Cert.SumGu.τ Cert.SumGu.sig) → Buf (Elt Bits) ℓ) : Prop :=
  True

def Pre_SumGuIdeal (m : (ℓ : Loc Cert.SumGuIdeal.nD Cert.SumGuIdeal.τ Cert.SumGuIdeal.sig) → Buf (Elt Ideal) ℓ) : Prop :=
  True

def Pre_SumGuRefIdeal (m : (ℓ : Loc Cert.SumGuRefIdeal.nD Cert.SumGuRefIdeal.τ Cert.SumGuRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumKv (m : (ℓ : Loc Cert.SumKv.nD Cert.SumKv.τ Cert.SumKv.sig) → Buf (Elt Bits) ℓ) : Prop :=
  True

def Pre_SumKvIdeal (m : (ℓ : Loc Cert.SumKvIdeal.nD Cert.SumKvIdeal.τ Cert.SumKvIdeal.sig) → Buf (Elt Ideal) ℓ) : Prop :=
  True

def Pre_SumKvRefIdeal (m : (ℓ : Loc Cert.SumKvRefIdeal.nD Cert.SumKvRefIdeal.τ Cert.SumKvRefIdeal.sig) → Buf (Elt Ideal) ℓ) : Prop :=
  True

def Pre_SumBranch (m : (ℓ : Loc Cert.SumBranch.nD Cert.SumBranch.τ Cert.SumBranch.sig) → Buf (Elt Bits) ℓ) : Prop :=
  True

def Pre_SumBranchIdeal (m : (ℓ : Loc Cert.SumBranchIdeal.nD Cert.SumBranchIdeal.τ Cert.SumBranchIdeal.sig) → Buf (Elt Ideal) ℓ) : Prop :=
  True

def Pre_SumBranchRefIdeal (m : (ℓ : Loc Cert.SumBranchRefIdeal.nD Cert.SumBranchRefIdeal.τ Cert.SumBranchRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdRefIdeal (m : (ℓ : Loc Cert.LossFwdRefIdeal.nD Cert.LossFwdRefIdeal.τ Cert.LossFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GuDx [hGuDx : Cert.GuDx.Facts] : Prop :=
  ∀ (m : (ℓ : Loc Cert.GuDx.nD Cert.GuDx.τ Cert.GuDx.sig) → Buf (Elt Bits) ℓ) (g : Dev Cert.GuDx.nD → PrngReg), Pre_GuDx m →
    θ_run (Cert.GuDx.defs (F := Bits)) (onTc (τ := Cert.GuDx.τ) (Cert.GuDx.main (F := Bits))) ⟨m, fun _ => 0, g⟩ (fun r => (∀ c : Dev Cert.GuDx.nD,
      r.2.mem ((c.tc : Thread Cert.GuDx.nD Cert.GuDx.τ).loc Cert.GuDx.main_arg0) = m ((c.tc : Thread Cert.GuDx.nD Cert.GuDx.τ).loc Cert.GuDx.main_arg0)
      ∧ r.2.mem ((c.tc : Thread Cert.GuDx.nD Cert.GuDx.τ).loc Cert.GuDx.main_arg1) = m ((c.tc : Thread Cert.GuDx.nD Cert.GuDx.τ).loc Cert.GuDx.main_arg1)
      ∧ r.2.mem ((c.tc : Thread Cert.GuDx.nD Cert.GuDx.τ).loc Cert.GuDx.main_arg2) = m ((c.tc : Thread Cert.GuDx.nD Cert.GuDx.τ).loc Cert.GuDx.main_arg2))
      ∧ r.2.sem = fun _ => 0)

def quiescent_GuDxIdeal [hGuDxIdeal : Cert.GuDxIdeal.Facts] : Prop :=
  ∀ (m : (ℓ : Loc Cert.GuDxIdeal.nD Cert.GuDxIdeal.τ Cert.GuDxIdeal.sig) → Buf (Elt Ideal) ℓ) (g : Dev Cert.GuDxIdeal.nD → PrngReg), Pre_GuDxIdeal m →
    θ_run (Cert.GuDxIdeal.defs (F := Ideal)) (onTc (τ := Cert.GuDxIdeal.τ) (Cert.GuDxIdeal.main (F := Ideal))) ⟨m, fun _ => 0, g⟩ (fun r => (∀ c : Dev Cert.GuDxIdeal.nD,
      r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
      ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1)
      ∧ r.2.mem ((c.tc : Thread Cert.GuDxIdeal.nD Cert.GuDxIdeal.τ).loc Cert.GuDxIdeal.main_arg2) = m ((c.tc : Thread Cert.GuDxIdeal.nD Cert.GuDxIdeal.τ).loc Cert.GuDxIdeal.main_arg2))
      ∧ r.2.sem = fun _ => 0)

def quiescent_GuDxRefIdeal [hGuDxRefIdeal : Cert.GuDxRefIdeal.Facts] : Prop :=
  ∀ (m : (ℓ : Loc Cert.GuDxRefIdeal.nD Cert.GuDxRefIdeal.τ Cert.GuDxRefIdeal.sig) → Buf (Elt Ideal) ℓ) (g : Dev Cert.GuDxRefIdeal.nD → PrngReg), Pre_GuDxRefIdeal m →
    θ_run (Cert.GuDxRefIdeal.defs (F := Ideal)) (onTc (τ := Cert.GuDxRefIdeal.τ) (Cert.GuDxRefIdeal.main (F := Ideal))) ⟨m, fun _ => 0, g⟩ (fun r => (∀ c : Dev Cert.GuDxRefIdeal.nD,
      r.2.mem ((c.tc : Thread Cert.GuDxRefIdeal.nD Cert.GuDxRefIdeal.τ).loc Cert.GuDxRefIdeal.main_arg0) = m ((c.tc : Thread Cert.GuDxRefIdeal.nD Cert.GuDxRefIdeal.τ).loc Cert.GuDxRefIdeal.main_arg0)
      ∧ r.2.mem ((c.tc : Thread Cert.GuDxRefIdeal.nD Cert.GuDxRefIdeal.τ).loc Cert.GuDxRefIdeal.main_arg1) = m ((c.tc : Thread Cert.GuDxRefIdeal.nD Cert.GuDxRefIdeal.τ).loc Cert.GuDxRefIdeal.main_arg1)
      ∧ r.2.mem ((c.tc : Thread Cert.GuDxRefIdeal.nD Cert.GuDxRefIdeal.τ).loc Cert.GuDxRefIdeal.main_arg2) = m ((c.tc : Thread Cert.GuDxRefIdeal.nD Cert.GuDxRefIdeal.τ).loc Cert.GuDxRefIdeal.main_arg2))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ r.2.sem = fun _ => 0)

def quiescent_GuDwRefIdeal [hGuDwRefIdeal : Cert.GuDwRefIdeal.Facts] : Prop :=
  ∀ (m : (ℓ : Loc Cert.GuDwRefIdeal.nD Cert.GuDwRefIdeal.τ Cert.GuDwRefIdeal.sig) → Buf (Elt Ideal) ℓ) (g : Dev Cert.GuDwRefIdeal.nD → PrngReg), Pre_GuDwRefIdeal m →
    θ_run (Cert.GuDwRefIdeal.defs (F := Ideal)) (onTc (τ := Cert.GuDwRefIdeal.τ) (Cert.GuDwRefIdeal.main (F := Ideal))) ⟨m, fun _ => 0, g⟩ (fun r => (∀ c : Dev Cert.GuDwRefIdeal.nD,
      r.2.mem ((c.tc : Thread Cert.GuDwRefIdeal.nD Cert.GuDwRefIdeal.τ).loc Cert.GuDwRefIdeal.main_arg0) = m ((c.tc : Thread Cert.GuDwRefIdeal.nD Cert.GuDwRefIdeal.τ).loc Cert.GuDwRefIdeal.main_arg0)
      ∧ r.2.mem ((c.tc : Thread Cert.GuDwRefIdeal.nD Cert.GuDwRefIdeal.τ).loc Cert.GuDwRefIdeal.main_arg1) = m ((c.tc : Thread Cert.GuDwRefIdeal.nD Cert.GuDwRefIdeal.τ).loc Cert.GuDwRefIdeal.main_arg1))
      ∧ r.2.sem = fun _ => 0)

def quiescent_GuFwd [hGuFwd : Cert.GuFwd.Facts] : Prop :=
  ∀ (m : (ℓ : Loc Cert.GuFwd.nD Cert.GuFwd.τ Cert.GuFwd.sig) → Buf (Elt Bits) ℓ) (g : Dev Cert.GuFwd.nD → PrngReg), Pre_GuFwd m →
    θ_run (Cert.GuFwd.defs (F := Bits)) (onTc (τ := Cert.GuFwd.τ) (Cert.GuFwd.main (F := Bits))) ⟨m, fun _ => 0, g⟩ (fun r => (∀ c : Dev Cert.GuFwd.nD,
      r.2.mem ((c.tc : Thread Cert.GuFwd.nD Cert.GuFwd.τ).loc Cert.GuFwd.main_arg0) = m ((c.tc : Thread Cert.GuFwd.nD Cert.GuFwd.τ).loc Cert.GuFwd.main_arg0)
      ∧ r.2.mem ((c.tc : Thread Cert.GuFwd.nD Cert.GuFwd.τ).loc Cert.GuFwd.main_arg1) = m ((c.tc : Thread Cert.GuFwd.nD Cert.GuFwd.τ).loc Cert.GuFwd.main_arg1))
      ∧ r.2.sem = fun _ => 0)

def quiescent_GuFwdIdeal [hGuFwdIdeal : Cert.GuFwdIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg), Pre_GuFwdIdeal m →
    θ_run (Cert.GuFwdIdeal.defs (F := Ideal)) (onTc (τ := Cert.GuFwdIdeal.τ) (Cert.GuFwdIdeal.main (F := Ideal))) ⟨m, fun _ => 0, g⟩ (fun r => (∀ c : Dev Cert.GuFwdIdeal.nD,
      r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
      ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ r.2.sem = fun _ => 0)

def quiescent_GuFwdRefIdeal [hGuFwdRefIdeal : Cert.GuFwdRefIdeal.Facts] : Prop :=
  ∀ (m : (ℓ : Loc Cert.GuFwdRefIdeal.nD Cert.GuFwdRefIdeal.τ Cert.GuFwdRefIdeal.sig) → Buf (Elt Ideal) ℓ) (g : Dev Cert.GuFwdRefIdeal.nD → PrngReg), Pre_GuFwdRefIdeal m →
    θ_run (Cert.GuFwdRefIdeal.defs (F := Ideal)) (onTc (τ := Cert.GuFwdRefIdeal.τ) (Cert.GuFwdRefIdeal.main (F := Ideal))) ⟨m, fun _ => 0, g⟩ (fun r => (∀ c : Dev Cert.GuFwdRefIdeal.nD,
      r.2.mem ((c.tc : Thread Cert.GuFwdRefIdeal.nD Cert.GuFwdRefIdeal.τ).loc Cert.GuFwdRefIdeal.main_arg0) = m ((c.tc : Thread Cert.GuFwdRefIdeal.nD Cert.GuFwdRefIdeal.τ).loc Cert.GuFwdRefIdeal.main_arg0)
      ∧ r.2.mem ((c.tc : Thread Cert.GuFwdRefIdeal.nD Cert.GuFwdRefIdeal.τ).loc Cert.GuFwdRefIdeal.main_arg1) = m ((c.tc : Thread Cert.GuFwdRefIdeal.nD Cert.GuFwdRefIdeal.τ).loc Cert.GuFwdRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def quiescent_SumGu [hSumGu : Cert.SumGu.Facts] : Prop :=
  ∀ (m : (ℓ : Loc Cert.SumGu.nD Cert.SumGu.τ Cert.SumGu.sig) → Buf (Elt Bits) ℓ) (g : Dev Cert.SumGu.nD → PrngReg), Pre_SumGu m →
    θ_run (Cert.SumGu.defs (F := Bits)) (onTc (τ := Cert.SumGu.τ) (Cert.SumGu.main (F := Bits))) ⟨m, fun _ => 0, g⟩ (fun r => (∀ c : Dev Cert.SumGu.nD,
      r.2.mem ((c.tc : Thread Cert.SumGu.nD Cert.SumGu.τ).loc Cert.SumGu.main_arg0) = m ((c.tc : Thread Cert.SumGu.nD Cert.SumGu.τ).loc Cert.SumGu.main_arg0))
      ∧ r.2.sem = fun _ => 0)

def quiescent_SumGuIdeal [hSumGuIdeal : Cert.SumGuIdeal.Facts] : Prop :=
  ∀ (m : (ℓ : Loc Cert.SumGuIdeal.nD Cert.SumGuIdeal.τ Cert.SumGuIdeal.sig) → Buf (Elt Ideal) ℓ) (g : Dev Cert.SumGuIdeal.nD → PrngReg), Pre_SumGuIdeal m →
    θ_run (Cert.SumGuIdeal.defs (F := Ideal)) (onTc (τ := Cert.SumGuIdeal.τ) (Cert.SumGuIdeal.main (F := Ideal))) ⟨m, fun _ => 0, g⟩ (fun r => (∀ c : Dev Cert.SumGuIdeal.nD,
      r.2.mem ((c.tc : Thread Cert.SumGuIdeal.nD Cert.SumGuIdeal.τ).loc Cert.SumGuIdeal.main_arg0) = m ((c.tc : Thread Cert.SumGuIdeal.nD Cert.SumGuIdeal.τ).loc Cert.SumGuIdeal.main_arg0))
      ∧ r.2.sem = fun _ => 0)

def quiescent_SumGuRefIdeal [hSumGuRefIdeal : Cert.SumGuRefIdeal.Facts] : Prop :=
  ∀ (m : (ℓ : Loc Cert.SumGuRefIdeal.nD Cert.SumGuRefIdeal.τ Cert.SumGuRefIdeal.sig) → Buf (Elt Ideal) ℓ) (g : Dev Cert.SumGuRefIdeal.nD → PrngReg), Pre_SumGuRefIdeal m →
    θ_run (Cert.SumGuRefIdeal.defs (F := Ideal)) (onTc (τ := Cert.SumGuRefIdeal.τ) (Cert.SumGuRefIdeal.main (F := Ideal))) ⟨m, fun _ => 0, g⟩ (fun r => (∀ c : Dev Cert.SumGuRefIdeal.nD,
      r.2.mem ((c.tc : Thread Cert.SumGuRefIdeal.nD Cert.SumGuRefIdeal.τ).loc Cert.SumGuRefIdeal.main_arg0) = m ((c.tc : Thread Cert.SumGuRefIdeal.nD Cert.SumGuRefIdeal.τ).loc Cert.SumGuRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumKv [hSumKv : Cert.SumKv.Facts] : Prop :=
  ∀ (m : (ℓ : Loc Cert.SumKv.nD Cert.SumKv.τ Cert.SumKv.sig) → Buf (Elt Bits) ℓ) (g : Dev Cert.SumKv.nD → PrngReg), Pre_SumKv m →
    θ_run (Cert.SumKv.defs (F := Bits)) (onTc (τ := Cert.SumKv.τ) (Cert.SumKv.main (F := Bits))) ⟨m, fun _ => 0, g⟩ (fun r => (∀ c : Dev Cert.SumKv.nD,
      r.2.mem ((c.tc : Thread Cert.SumKv.nD Cert.SumKv.τ).loc Cert.SumKv.main_arg0) = m ((c.tc : Thread Cert.SumKv.nD Cert.SumKv.τ).loc Cert.SumKv.main_arg0))
      ∧ r.2.sem = fun _ => 0)

def quiescent_SumKvIdeal [hSumKvIdeal : Cert.SumKvIdeal.Facts] : Prop :=
  ∀ (m : (ℓ : Loc Cert.SumKvIdeal.nD Cert.SumKvIdeal.τ Cert.SumKvIdeal.sig) → Buf (Elt Ideal) ℓ) (g : Dev Cert.SumKvIdeal.nD → PrngReg), Pre_SumKvIdeal m →
    θ_run (Cert.SumKvIdeal.defs (F := Ideal)) (onTc (τ := Cert.SumKvIdeal.τ) (Cert.SumKvIdeal.main (F := Ideal))) ⟨m, fun _ => 0, g⟩ (fun r => (∀ c : Dev Cert.SumKvIdeal.nD,
      r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0))
      ∧ r.2.sem = fun _ => 0)

def quiescent_SumKvRefIdeal [hSumKvRefIdeal : Cert.SumKvRefIdeal.Facts] : Prop :=
  ∀ (m : (ℓ : Loc Cert.SumKvRefIdeal.nD Cert.SumKvRefIdeal.τ Cert.SumKvRefIdeal.sig) → Buf (Elt Ideal) ℓ) (g : Dev Cert.SumKvRefIdeal.nD → PrngReg), Pre_SumKvRefIdeal m →
    θ_run (Cert.SumKvRefIdeal.defs (F := Ideal)) (onTc (τ := Cert.SumKvRefIdeal.τ) (Cert.SumKvRefIdeal.main (F := Ideal))) ⟨m, fun _ => 0, g⟩ (fun r => (∀ c : Dev Cert.SumKvRefIdeal.nD,
      r.2.mem ((c.tc : Thread Cert.SumKvRefIdeal.nD Cert.SumKvRefIdeal.τ).loc Cert.SumKvRefIdeal.main_arg0) = m ((c.tc : Thread Cert.SumKvRefIdeal.nD Cert.SumKvRefIdeal.τ).loc Cert.SumKvRefIdeal.main_arg0))
      ∧ r.2.sem = fun _ => 0)

def quiescent_SumBranch [hSumBranch : Cert.SumBranch.Facts] : Prop :=
  ∀ (m : (ℓ : Loc Cert.SumBranch.nD Cert.SumBranch.τ Cert.SumBranch.sig) → Buf (Elt Bits) ℓ) (g : Dev Cert.SumBranch.nD → PrngReg), Pre_SumBranch m →
    θ_run (Cert.SumBranch.defs (F := Bits)) (onTc (τ := Cert.SumBranch.τ) (Cert.SumBranch.main (F := Bits))) ⟨m, fun _ => 0, g⟩ (fun r => (∀ c : Dev Cert.SumBranch.nD,
      r.2.mem ((c.tc : Thread Cert.SumBranch.nD Cert.SumBranch.τ).loc Cert.SumBranch.main_arg0) = m ((c.tc : Thread Cert.SumBranch.nD Cert.SumBranch.τ).loc Cert.SumBranch.main_arg0))
      ∧ r.2.sem = fun _ => 0)

def quiescent_SumBranchIdeal [hSumBranchIdeal : Cert.SumBranchIdeal.Facts] : Prop :=
  ∀ (m : (ℓ : Loc Cert.SumBranchIdeal.nD Cert.SumBranchIdeal.τ Cert.SumBranchIdeal.sig) → Buf (Elt Ideal) ℓ) (g : Dev Cert.SumBranchIdeal.nD → PrngReg), Pre_SumBranchIdeal m →
    θ_run (Cert.SumBranchIdeal.defs (F := Ideal)) (onTc (τ := Cert.SumBranchIdeal.τ) (Cert.SumBranchIdeal.main (F := Ideal))) ⟨m, fun _ => 0, g⟩ (fun r => (∀ c : Dev Cert.SumBranchIdeal.nD,
      r.2.mem ((c.tc : Thread Cert.SumBranchIdeal.nD Cert.SumBranchIdeal.τ).loc Cert.SumBranchIdeal.main_arg0) = m ((c.tc : Thread Cert.SumBranchIdeal.nD Cert.SumBranchIdeal.τ).loc Cert.SumBranchIdeal.main_arg0))
      ∧ r.2.sem = fun _ => 0)

def quiescent_SumBranchRefIdeal [hSumBranchRefIdeal : Cert.SumBranchRefIdeal.Facts] : Prop :=
  ∀ (m : (ℓ : Loc Cert.SumBranchRefIdeal.nD Cert.SumBranchRefIdeal.τ Cert.SumBranchRefIdeal.sig) → Buf (Elt Ideal) ℓ) (g : Dev Cert.SumBranchRefIdeal.nD → PrngReg), Pre_SumBranchRefIdeal m →
    θ_run (Cert.SumBranchRefIdeal.defs (F := Ideal)) (onTc (τ := Cert.SumBranchRefIdeal.τ) (Cert.SumBranchRefIdeal.main (F := Ideal))) ⟨m, fun _ => 0, g⟩ (fun r => (∀ c : Dev Cert.SumBranchRefIdeal.nD,
      r.2.mem ((c.tc : Thread Cert.SumBranchRefIdeal.nD Cert.SumBranchRefIdeal.τ).loc Cert.SumBranchRefIdeal.main_arg0) = m ((c.tc : Thread Cert.SumBranchRefIdeal.nD Cert.SumBranchRefIdeal.τ).loc Cert.SumBranchRefIdeal.main_arg0))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ r.2.sem = fun _ => 0)

def quiescent_LossFwdRefIdeal [hLossFwdRefIdeal : Cert.LossFwdRefIdeal.Facts] : Prop :=
  ∀ (m : (ℓ : Loc Cert.LossFwdRefIdeal.nD Cert.LossFwdRefIdeal.τ Cert.LossFwdRefIdeal.sig) → Buf (Elt Ideal) ℓ) (g : Dev Cert.LossFwdRefIdeal.nD → PrngReg), Pre_LossFwdRefIdeal m →
    θ_run (Cert.LossFwdRefIdeal.defs (F := Ideal)) (onTc (τ := Cert.LossFwdRefIdeal.τ) (Cert.LossFwdRefIdeal.main (F := Ideal))) ⟨m, fun _ => 0, g⟩ (fun r => (∀ c : Dev Cert.LossFwdRefIdeal.nD,
      r.2.mem ((c.tc : Thread Cert.LossFwdRefIdeal.nD Cert.LossFwdRefIdeal.τ).loc Cert.LossFwdRefIdeal.main_arg0) = m ((c.tc : Thread Cert.LossFwdRefIdeal.nD Cert.LossFwdRefIdeal.τ).loc Cert.LossFwdRefIdeal.main_arg0)
      ∧ r.2.mem ((c.tc : Thread Cert.LossFwdRefIdeal.nD Cert.LossFwdRefIdeal.τ).loc Cert.LossFwdRefIdeal.main_arg1) = m ((c.tc : Thread Cert.LossFwdRefIdeal.nD Cert.LossFwdRefIdeal.τ).loc Cert.LossFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GuDx_GuDxIdeal : Prop :=
  True

def algebraic_GuDxIdeal_GuDxRefIdeal [hGuDxIdeal : Cert.GuDxIdeal.Facts] [hGuDxRefIdeal : Cert.GuDxRefIdeal.Facts] : Prop :=
  ∀ (m : (ℓ : Loc Cert.GuDxIdeal.nD Cert.GuDxIdeal.τ Cert.GuDxIdeal.sig) → Buf (Elt Ideal) ℓ) (g : Dev Cert.GuDxIdeal.nD → PrngReg)
    (m' : (ℓ : Loc Cert.GuDxRefIdeal.nD Cert.GuDxRefIdeal.τ Cert.GuDxRefIdeal.sig) → Buf (Elt Ideal) ℓ) (g' : Dev Cert.GuDxRefIdeal.nD → PrngReg), Pre_GuDxIdeal m →
    (∀ c : Dev Cert.GuDxIdeal.nD,
      m' ((c.tc : Thread Cert.GuDxRefIdeal.nD Cert.GuDxRefIdeal.τ).loc Cert.GuDxRefIdeal.main_arg0) = m ((c.tc : Thread Cert.GuDxIdeal.nD Cert.GuDxIdeal.τ).loc Cert.GuDxIdeal.main_arg0)
      ∧ m' ((c.tc : Thread Cert.GuDxRefIdeal.nD Cert.GuDxRefIdeal.τ).loc Cert.GuDxRefIdeal.main_arg1) = m ((c.tc : Thread Cert.GuDxIdeal.nD Cert.GuDxIdeal.τ).loc Cert.GuDxIdeal.main_arg1)
      ∧ m' ((c.tc : Thread Cert.GuDxRefIdeal.nD Cert.GuDxRefIdeal.τ).loc Cert.GuDxRefIdeal.main_arg2) = m ((c.tc : Thread Cert.GuDxIdeal.nD Cert.GuDxIdeal.τ).loc Cert.GuDxIdeal.main_arg2)) →
    ∃ (v0 : (c : Dev Cert.GuDxIdeal.nD) → Buf (Elt Ideal) ((c.tc : Thread Cert.GuDxIdeal.nD Cert.GuDxIdeal.τ).loc Cert.GuDxIdeal.main_v2)),
      θ_run (Cert.GuDxIdeal.defs (F := Ideal)) (onTc (τ := Cert.GuDxIdeal.τ) (Cert.GuDxIdeal.main (F := Ideal))) ⟨m, fun _ => 0, g⟩ (fun r => ∀ c : Dev Cert.GuDxIdeal.nD,
          r.2.mem ((c.tc : Thread Cert.GuDxIdeal.nD Cert.GuDxIdeal.τ).loc Cert.GuDxIdeal.main_v2) = v0 c
          ∧ r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
          ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1)
          ∧ r.2.mem ((c.tc : Thread Cert.GuDxIdeal.nD Cert.GuDxIdeal.τ).loc Cert.GuDxIdeal.main_arg2) = m ((c.tc : Thread Cert.GuDxIdeal.nD Cert.GuDxIdeal.τ).loc Cert.GuDxIdeal.main_arg2))
      ∧ θ_run (Cert.GuDxRefIdeal.defs (F := Ideal)) (onTc (τ := Cert.GuDxRefIdeal.τ) (Cert.GuDxRefIdeal.main (F := Ideal))) ⟨m', fun _ => 0, g'⟩ (fun r => ∀ c : Dev Cert.GuDxRefIdeal.nD,
          r.2.mem ((c.tc : Thread Cert.GuDxRefIdeal.nD Cert.GuDxRefIdeal.τ).loc Cert.GuDxRefIdeal.main_v3) = v0 c
          ∧ r.2.mem ((c.tc : Thread Cert.GuDxRefIdeal.nD Cert.GuDxRefIdeal.τ).loc Cert.GuDxRefIdeal.main_arg0) = m' ((c.tc : Thread Cert.GuDxRefIdeal.nD Cert.GuDxRefIdeal.τ).loc Cert.GuDxRefIdeal.main_arg0)
          ∧ r.2.mem ((c.tc : Thread Cert.GuDxRefIdeal.nD Cert.GuDxRefIdeal.τ).loc Cert.GuDxRefIdeal.main_arg1) = m' ((c.tc : Thread Cert.GuDxRefIdeal.nD Cert.GuDxRefIdeal.τ).loc Cert.GuDxRefIdeal.main_arg1)
          ∧ r.2.mem ((c.tc : Thread Cert.GuDxRefIdeal.nD Cert.GuDxRefIdeal.τ).loc Cert.GuDxRefIdeal.main_arg2) = m' ((c.tc : Thread Cert.GuDxRefIdeal.nD Cert.GuDxRefIdeal.τ).loc Cert.GuDxRefIdeal.main_arg2))

def preserves_GuDw_GuDwIdeal : Prop :=
  True

def algebraic_GuDwIdeal_GuDwRefIdeal [hGuDwIdeal : Cert.GuDwIdeal.Facts] [hGuDwRefIdeal : Cert.GuDwRefIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwRefIdeal.nD Cert.GuDwRefIdeal.τ Cert.GuDwRefIdeal.sig) → Buf (Elt Ideal) ℓ) (g' : Dev Cert.GuDwRefIdeal.nD → PrngReg), Pre_GuDwIdeal m →
    (∀ c : Dev Cert.GuDwIdeal.nD,
      m' ((c.tc : Thread Cert.GuDwRefIdeal.nD Cert.GuDwRefIdeal.τ).loc Cert.GuDwRefIdeal.main_arg0) = m ((c.tc : Thread Cert.GuDwIdeal.nD Cert.GuDwIdeal.τ).loc Cert.GuDwIdeal.main_arg0)
      ∧ m' ((c.tc : Thread Cert.GuDwRefIdeal.nD Cert.GuDwRefIdeal.τ).loc Cert.GuDwRefIdeal.main_arg1) = m ((c.tc : Thread Cert.GuDwIdeal.nD Cert.GuDwIdeal.τ).loc Cert.GuDwIdeal.main_arg1)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ θ_run (Cert.GuDwRefIdeal.defs (F := Ideal)) (onTc (τ := Cert.GuDwRefIdeal.τ) (Cert.GuDwRefIdeal.main (F := Ideal))) ⟨m', fun _ => 0, g'⟩ (fun r => ∀ c : Dev Cert.GuDwRefIdeal.nD,
          r.2.mem ((c.tc : Thread Cert.GuDwRefIdeal.nD Cert.GuDwRefIdeal.τ).loc Cert.GuDwRefIdeal.main_v3) = v0 c
          ∧ r.2.mem ((c.tc : Thread Cert.GuDwRefIdeal.nD Cert.GuDwRefIdeal.τ).loc Cert.GuDwRefIdeal.main_arg0) = m' ((c.tc : Thread Cert.GuDwRefIdeal.nD Cert.GuDwRefIdeal.τ).loc Cert.GuDwRefIdeal.main_arg0)
          ∧ r.2.mem ((c.tc : Thread Cert.GuDwRefIdeal.nD Cert.GuDwRefIdeal.τ).loc Cert.GuDwRefIdeal.main_arg1) = m' ((c.tc : Thread Cert.GuDwRefIdeal.nD Cert.GuDwRefIdeal.τ).loc Cert.GuDwRefIdeal.main_arg1))

def preserves_GuFwd_GuFwdIdeal : Prop :=
  True

def algebraic_GuFwdIdeal_GuFwdRefIdeal [hGuFwdIdeal : Cert.GuFwdIdeal.Facts] [hGuFwdRefIdeal : Cert.GuFwdRefIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg)
    (m' : (ℓ : Loc Cert.GuFwdRefIdeal.nD Cert.GuFwdRefIdeal.τ Cert.GuFwdRefIdeal.sig) → Buf (Elt Ideal) ℓ) (g' : Dev Cert.GuFwdRefIdeal.nD → PrngReg), Pre_GuFwdIdeal m →
    (∀ c : Dev Cert.GuFwdIdeal.nD,
      m' ((c.tc : Thread Cert.GuFwdRefIdeal.nD Cert.GuFwdRefIdeal.τ).loc Cert.GuFwdRefIdeal.main_arg0) = m ((c.tc : Thread Cert.GuFwdIdeal.nD Cert.GuFwdIdeal.τ).loc Cert.GuFwdIdeal.main_arg0)
      ∧ m' ((c.tc : Thread Cert.GuFwdRefIdeal.nD Cert.GuFwdRefIdeal.τ).loc Cert.GuFwdRefIdeal.main_arg1) = m ((c.tc : Thread Cert.GuFwdIdeal.nD Cert.GuFwdIdeal.τ).loc Cert.GuFwdIdeal.main_arg1)) →
    ∃ (v0 : (c : Dev Cert.GuFwdIdeal.nD) → Buf (Elt Ideal) ((c.tc : Thread Cert.GuFwdIdeal.nD Cert.GuFwdIdeal.τ).loc Cert.GuFwdIdeal.main_v1)),
      θ_run (Cert.GuFwdIdeal.defs (F := Ideal)) (onTc (τ := Cert.GuFwdIdeal.τ) (Cert.GuFwdIdeal.main (F := Ideal))) ⟨m, fun _ => 0, g⟩ (fun r => ∀ c : Dev Cert.GuFwdIdeal.nD,
          r.2.mem ((c.tc : Thread Cert.GuFwdIdeal.nD Cert.GuFwdIdeal.τ).loc Cert.GuFwdIdeal.main_v1) = v0 c
          ∧ r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
          ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ θ_run (Cert.GuFwdRefIdeal.defs (F := Ideal)) (onTc (τ := Cert.GuFwdRefIdeal.τ) (Cert.GuFwdRefIdeal.main (F := Ideal))) ⟨m', fun _ => 0, g'⟩ (fun r => ∀ c : Dev Cert.GuFwdRefIdeal.nD,
          r.2.mem ((c.tc : Thread Cert.GuFwdRefIdeal.nD Cert.GuFwdRefIdeal.τ).loc Cert.GuFwdRefIdeal.main_v0) = v0 c
          ∧ r.2.mem ((c.tc : Thread Cert.GuFwdRefIdeal.nD Cert.GuFwdRefIdeal.τ).loc Cert.GuFwdRefIdeal.main_arg0) = m' ((c.tc : Thread Cert.GuFwdRefIdeal.nD Cert.GuFwdRefIdeal.τ).loc Cert.GuFwdRefIdeal.main_arg0)
          ∧ r.2.mem ((c.tc : Thread Cert.GuFwdRefIdeal.nD Cert.GuFwdRefIdeal.τ).loc Cert.GuFwdRefIdeal.main_arg1) = m' ((c.tc : Thread Cert.GuFwdRefIdeal.nD Cert.GuFwdRefIdeal.τ).loc Cert.GuFwdRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v3) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v1) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v0) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v11)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v11) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v9)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v9) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v3) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v10)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v10) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v0) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v0) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v1)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v1) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v2) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v3) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v1)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v1) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v0) = v0 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1))

def preserves_ActBwd_ActBwdIdeal : Prop :=
  True

def algebraic_ActBwdIdeal_ActBwdRefIdeal [hActBwdIdeal : Cert.ActBwdIdeal.Facts] [hActBwdRefIdeal : Cert.ActBwdRefIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)) →
    ∃ (v0 : (c : Dev Cert.ActBwdIdeal.nD) → Buf (Elt Ideal) ((c.tc : Thread Cert.ActBwdIdeal.nD Cert.ActBwdIdeal.τ).loc Cert.ActBwdIdeal.main_v0)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0) = v0 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v7) = v0 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1))

def preserves_ActFwd_ActFwdIdeal : Prop :=
  True

def algebraic_ActFwdIdeal_ActFwdRefIdeal [hActFwdIdeal : Cert.ActFwdIdeal.Facts] [hActFwdRefIdeal : Cert.ActFwdRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)) →
    ∃ (v0 : (c : Dev Cert.ActFwdIdeal.nD) → Buf (Elt Ideal) ((c.tc : Thread Cert.ActFwdIdeal.nD Cert.ActFwdIdeal.τ).loc Cert.ActFwdIdeal.main_v0)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v0) = v0 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v3) = v0 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v5)) (v1 : (c : Dev Cert.AdamGuIdeal.nD) → Buf (Elt Ideal) ((c.tc : Thread Cert.AdamGuIdeal.nD Cert.AdamGuIdeal.τ).loc Cert.AdamGuIdeal.main_v6)) (v2 : (c : Dev Cert.AdamGuIdeal.nD) → Buf (Elt Ideal) ((c.tc : Thread Cert.AdamGuIdeal.nD Cert.AdamGuIdeal.τ).loc Cert.AdamGuIdeal.main_v7)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v5) = v0 c
          ∧ r.2.mem ((c.tc : Thread Cert.AdamGuIdeal.nD Cert.AdamGuIdeal.τ).loc Cert.AdamGuIdeal.main_v6) = v1 c
          ∧ r.2.mem ((c.tc : Thread Cert.AdamGuIdeal.nD Cert.AdamGuIdeal.τ).loc Cert.AdamGuIdeal.main_v7) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v23) = v0 c
          ∧ r.2.mem ((c.tc : Thread Cert.AdamGuRefIdeal.nD Cert.AdamGuRefIdeal.τ).loc Cert.AdamGuRefIdeal.main_v4) = v1 c
          ∧ r.2.mem ((c.tc : Thread Cert.AdamGuRefIdeal.nD Cert.AdamGuRefIdeal.τ).loc Cert.AdamGuRefIdeal.main_v10) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v5)) (v1 : (c : Dev Cert.AdamDownIdeal.nD) → Buf (Elt Ideal) ((c.tc : Thread Cert.AdamDownIdeal.nD Cert.AdamDownIdeal.τ).loc Cert.AdamDownIdeal.main_v6)) (v2 : (c : Dev Cert.AdamDownIdeal.nD) → Buf (Elt Ideal) ((c.tc : Thread Cert.AdamDownIdeal.nD Cert.AdamDownIdeal.τ).loc Cert.AdamDownIdeal.main_v7)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v5) = v0 c
          ∧ r.2.mem ((c.tc : Thread Cert.AdamDownIdeal.nD Cert.AdamDownIdeal.τ).loc Cert.AdamDownIdeal.main_v6) = v1 c
          ∧ r.2.mem ((c.tc : Thread Cert.AdamDownIdeal.nD Cert.AdamDownIdeal.τ).loc Cert.AdamDownIdeal.main_v7) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v5)) (v1 : (c : Dev Cert.AdamKvIdeal.nD) → Buf (Elt Ideal) ((c.tc : Thread Cert.AdamKvIdeal.nD Cert.AdamKvIdeal.τ).loc Cert.AdamKvIdeal.main_v6)) (v2 : (c : Dev Cert.AdamKvIdeal.nD) → Buf (Elt Ideal) ((c.tc : Thread Cert.AdamKvIdeal.nD Cert.AdamKvIdeal.τ).loc Cert.AdamKvIdeal.main_v7)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v5) = v0 c
          ∧ r.2.mem ((c.tc : Thread Cert.AdamKvIdeal.nD Cert.AdamKvIdeal.τ).loc Cert.AdamKvIdeal.main_v6) = v1 c
          ∧ r.2.mem ((c.tc : Thread Cert.AdamKvIdeal.nD Cert.AdamKvIdeal.τ).loc Cert.AdamKvIdeal.main_v7) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v5)) (v1 : (c : Dev Cert.AdamBranchIdeal.nD) → Buf (Elt Ideal) ((c.tc : Thread Cert.AdamBranchIdeal.nD Cert.AdamBranchIdeal.τ).loc Cert.AdamBranchIdeal.main_v6)) (v2 : (c : Dev Cert.AdamBranchIdeal.nD) → Buf (Elt Ideal) ((c.tc : Thread Cert.AdamBranchIdeal.nD Cert.AdamBranchIdeal.τ).loc Cert.AdamBranchIdeal.main_v7)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v5) = v0 c
          ∧ r.2.mem ((c.tc : Thread Cert.AdamBranchIdeal.nD Cert.AdamBranchIdeal.τ).loc Cert.AdamBranchIdeal.main_v6) = v1 c
          ∧ r.2.mem ((c.tc : Thread Cert.AdamBranchIdeal.nD Cert.AdamBranchIdeal.τ).loc Cert.AdamBranchIdeal.main_v7) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v47)) (v1 : (c : Dev Cert.AdamSmallIdeal.nD) → Buf (Elt Ideal) ((c.tc : Thread Cert.AdamSmallIdeal.nD Cert.AdamSmallIdeal.τ).loc Cert.AdamSmallIdeal.main_v49)) (v2 : (c : Dev Cert.AdamSmallIdeal.nD) → Buf (Elt Ideal) ((c.tc : Thread Cert.AdamSmallIdeal.nD Cert.AdamSmallIdeal.τ).loc Cert.AdamSmallIdeal.main_v51)) (v3 : (c : Dev Cert.AdamSmallIdeal.nD) → Buf (Elt Ideal) ((c.tc : Thread Cert.AdamSmallIdeal.nD Cert.AdamSmallIdeal.τ).loc Cert.AdamSmallIdeal.main_v52)) (v4 : (c : Dev Cert.AdamSmallIdeal.nD) → Buf (Elt Ideal) ((c.tc : Thread Cert.AdamSmallIdeal.nD Cert.AdamSmallIdeal.τ).loc Cert.AdamSmallIdeal.main_v53)) (v5 : (c : Dev Cert.AdamSmallIdeal.nD) → Buf (Elt Ideal) ((c.tc : Thread Cert.AdamSmallIdeal.nD Cert.AdamSmallIdeal.τ).loc Cert.AdamSmallIdeal.main_v55)) (v6 : (c : Dev Cert.AdamSmallIdeal.nD) → Buf (Elt Ideal) ((c.tc : Thread Cert.AdamSmallIdeal.nD Cert.AdamSmallIdeal.τ).loc Cert.AdamSmallIdeal.main_v57)) (v7 : (c : Dev Cert.AdamSmallIdeal.nD) → Buf (Elt Ideal) ((c.tc : Thread Cert.AdamSmallIdeal.nD Cert.AdamSmallIdeal.τ).loc Cert.AdamSmallIdeal.main_v59)) (v8 : (c : Dev Cert.AdamSmallIdeal.nD) → Buf (Elt Ideal) ((c.tc : Thread Cert.AdamSmallIdeal.nD Cert.AdamSmallIdeal.τ).loc Cert.AdamSmallIdeal.main_v61)) (v9 : (c : Dev Cert.AdamSmallIdeal.nD) → Buf (Elt Ideal) ((c.tc : Thread Cert.AdamSmallIdeal.nD Cert.AdamSmallIdeal.τ).loc Cert.AdamSmallIdeal.main_v64)) (v10 : (c : Dev Cert.AdamSmallIdeal.nD) → Buf (Elt Ideal) ((c.tc : Thread Cert.AdamSmallIdeal.nD Cert.AdamSmallIdeal.τ).loc Cert.AdamSmallIdeal.main_v66)) (v11 : (c : Dev Cert.AdamSmallIdeal.nD) → Buf (Elt Ideal) ((c.tc : Thread Cert.AdamSmallIdeal.nD Cert.AdamSmallIdeal.τ).loc Cert.AdamSmallIdeal.main_v68)) (v12 : (c : Dev Cert.AdamSmallIdeal.nD) → Buf (Elt Ideal) ((c.tc : Thread Cert.AdamSmallIdeal.nD Cert.AdamSmallIdeal.τ).loc Cert.AdamSmallIdeal.main_v69)) (v13 : (c : Dev Cert.AdamSmallIdeal.nD) → Buf (Elt Ideal) ((c.tc : Thread Cert.AdamSmallIdeal.nD Cert.AdamSmallIdeal.τ).loc Cert.AdamSmallIdeal.main_v70)) (v14 : (c : Dev Cert.AdamSmallIdeal.nD) → Buf (Elt Ideal) ((c.tc : Thread Cert.AdamSmallIdeal.nD Cert.AdamSmallIdeal.τ).loc Cert.AdamSmallIdeal.main_v72)) (v15 : (c : Dev Cert.AdamSmallIdeal.nD) → Buf (Elt Ideal) ((c.tc : Thread Cert.AdamSmallIdeal.nD Cert.AdamSmallIdeal.τ).loc Cert.AdamSmallIdeal.main_v74)) (v16 : (c : Dev Cert.AdamSmallIdeal.nD) → Buf (Elt Ideal) ((c.tc : Thread Cert.AdamSmallIdeal.nD Cert.AdamSmallIdeal.τ).loc Cert.AdamSmallIdeal.main_v76)) (v17 : (c : Dev Cert.AdamSmallIdeal.nD) → Buf (Elt Ideal) ((c.tc : Thread Cert.AdamSmallIdeal.nD Cert.AdamSmallIdeal.τ).loc Cert.AdamSmallIdeal.main_v78)) (v18 : (c : Dev Cert.AdamSmallIdeal.nD) → Buf (Elt Ideal) ((c.tc : Thread Cert.AdamSmallIdeal.nD Cert.AdamSmallIdeal.τ).loc Cert.AdamSmallIdeal.main_v81)) (v19 : (c : Dev Cert.AdamSmallIdeal.nD) → Buf (Elt Ideal) ((c.tc : Thread Cert.AdamSmallIdeal.nD Cert.AdamSmallIdeal.τ).loc Cert.AdamSmallIdeal.main_v83)) (v20 : (c : Dev Cert.AdamSmallIdeal.nD) → Buf (Elt Ideal) ((c.tc : Thread Cert.AdamSmallIdeal.nD Cert.AdamSmallIdeal.τ).loc Cert.AdamSmallIdeal.main_v85)) (v21 : (c : Dev Cert.AdamSmallIdeal.nD) → Buf (Elt Ideal) ((c.tc : Thread Cert.AdamSmallIdeal.nD Cert.AdamSmallIdeal.τ).loc Cert.AdamSmallIdeal.main_v86)) (v22 : (c : Dev Cert.AdamSmallIdeal.nD) → Buf (Elt Ideal) ((c.tc : Thread Cert.AdamSmallIdeal.nD Cert.AdamSmallIdeal.τ).loc Cert.AdamSmallIdeal.main_v87)) (v23 : (c : Dev Cert.AdamSmallIdeal.nD) → Buf (Elt Ideal) ((c.tc : Thread Cert.AdamSmallIdeal.nD Cert.AdamSmallIdeal.τ).loc Cert.AdamSmallIdeal.main_v89)) (v24 : (c : Dev Cert.AdamSmallIdeal.nD) → Buf (Elt Ideal) ((c.tc : Thread Cert.AdamSmallIdeal.nD Cert.AdamSmallIdeal.τ).loc Cert.AdamSmallIdeal.main_v91)) (v25 : (c : Dev Cert.AdamSmallIdeal.nD) → Buf (Elt Ideal) ((c.tc : Thread Cert.AdamSmallIdeal.nD Cert.AdamSmallIdeal.τ).loc Cert.AdamSmallIdeal.main_v93)) (v26 : (c : Dev Cert.AdamSmallIdeal.nD) → Buf (Elt Ideal) ((c.tc : Thread Cert.AdamSmallIdeal.nD Cert.AdamSmallIdeal.τ).loc Cert.AdamSmallIdeal.main_v95)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v47) = v0 c
          ∧ r.2.mem ((c.tc : Thread Cert.AdamSmallIdeal.nD Cert.AdamSmallIdeal.τ).loc Cert.AdamSmallIdeal.main_v49) = v1 c
          ∧ r.2.mem ((c.tc : Thread Cert.AdamSmallIdeal.nD Cert.AdamSmallIdeal.τ).loc Cert.AdamSmallIdeal.main_v51) = v2 c
          ∧ r.2.mem ((c.tc : Thread Cert.AdamSmallIdeal.nD Cert.AdamSmallIdeal.τ).loc Cert.AdamSmallIdeal.main_v52) = v3 c
          ∧ r.2.mem ((c.tc : Thread Cert.AdamSmallIdeal.nD Cert.AdamSmallIdeal.τ).loc Cert.AdamSmallIdeal.main_v53) = v4 c
          ∧ r.2.mem ((c.tc : Thread Cert.AdamSmallIdeal.nD Cert.AdamSmallIdeal.τ).loc Cert.AdamSmallIdeal.main_v55) = v5 c
          ∧ r.2.mem ((c.tc : Thread Cert.AdamSmallIdeal.nD Cert.AdamSmallIdeal.τ).loc Cert.AdamSmallIdeal.main_v57) = v6 c
          ∧ r.2.mem ((c.tc : Thread Cert.AdamSmallIdeal.nD Cert.AdamSmallIdeal.τ).loc Cert.AdamSmallIdeal.main_v59) = v7 c
          ∧ r.2.mem ((c.tc : Thread Cert.AdamSmallIdeal.nD Cert.AdamSmallIdeal.τ).loc Cert.AdamSmallIdeal.main_v61) = v8 c
          ∧ r.2.mem ((c.tc : Thread Cert.AdamSmallIdeal.nD Cert.AdamSmallIdeal.τ).loc Cert.AdamSmallIdeal.main_v64) = v9 c
          ∧ r.2.mem ((c.tc : Thread Cert.AdamSmallIdeal.nD Cert.AdamSmallIdeal.τ).loc Cert.AdamSmallIdeal.main_v66) = v10 c
          ∧ r.2.mem ((c.tc : Thread Cert.AdamSmallIdeal.nD Cert.AdamSmallIdeal.τ).loc Cert.AdamSmallIdeal.main_v68) = v11 c
          ∧ r.2.mem ((c.tc : Thread Cert.AdamSmallIdeal.nD Cert.AdamSmallIdeal.τ).loc Cert.AdamSmallIdeal.main_v69) = v12 c
          ∧ r.2.mem ((c.tc : Thread Cert.AdamSmallIdeal.nD Cert.AdamSmallIdeal.τ).loc Cert.AdamSmallIdeal.main_v70) = v13 c
          ∧ r.2.mem ((c.tc : Thread Cert.AdamSmallIdeal.nD Cert.AdamSmallIdeal.τ).loc Cert.AdamSmallIdeal.main_v72) = v14 c
          ∧ r.2.mem ((c.tc : Thread Cert.AdamSmallIdeal.nD Cert.AdamSmallIdeal.τ).loc Cert.AdamSmallIdeal.main_v74) = v15 c
          ∧ r.2.mem ((c.tc : Thread Cert.AdamSmallIdeal.nD Cert.AdamSmallIdeal.τ).loc Cert.AdamSmallIdeal.main_v76) = v16 c
          ∧ r.2.mem ((c.tc : Thread Cert.AdamSmallIdeal.nD Cert.AdamSmallIdeal.τ).loc Cert.AdamSmallIdeal.main_v78) = v17 c
          ∧ r.2.mem ((c.tc : Thread Cert.AdamSmallIdeal.nD Cert.AdamSmallIdeal.τ).loc Cert.AdamSmallIdeal.main_v81) = v18 c
          ∧ r.2.mem ((c.tc : Thread Cert.AdamSmallIdeal.nD Cert.AdamSmallIdeal.τ).loc Cert.AdamSmallIdeal.main_v83) = v19 c
          ∧ r.2.mem ((c.tc : Thread Cert.AdamSmallIdeal.nD Cert.AdamSmallIdeal.τ).loc Cert.AdamSmallIdeal.main_v85) = v20 c
          ∧ r.2.mem ((c.tc : Thread Cert.AdamSmallIdeal.nD Cert.AdamSmallIdeal.τ).loc Cert.AdamSmallIdeal.main_v86) = v21 c
          ∧ r.2.mem ((c.tc : Thread Cert.AdamSmallIdeal.nD Cert.AdamSmallIdeal.τ).loc Cert.AdamSmallIdeal.main_v87) = v22 c
          ∧ r.2.mem ((c.tc : Thread Cert.AdamSmallIdeal.nD Cert.AdamSmallIdeal.τ).loc Cert.AdamSmallIdeal.main_v89) = v23 c
          ∧ r.2.mem ((c.tc : Thread Cert.AdamSmallIdeal.nD Cert.AdamSmallIdeal.τ).loc Cert.AdamSmallIdeal.main_v91) = v24 c
          ∧ r.2.mem ((c.tc : Thread Cert.AdamSmallIdeal.nD Cert.AdamSmallIdeal.τ).loc Cert.AdamSmallIdeal.main_v93) = v25 c
          ∧ r.2.mem ((c.tc : Thread Cert.AdamSmallIdeal.nD Cert.AdamSmallIdeal.τ).loc Cert.AdamSmallIdeal.main_v95) = v26 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v4) = v9 c
          ∧ r.2.mem ((c.tc : Thread Cert.AdamSmallRefIdeal.nD Cert.AdamSmallRefIdeal.τ).loc Cert.AdamSmallRefIdeal.main_v28) = v10 c
          ∧ r.2.mem ((c.tc : Thread Cert.AdamSmallRefIdeal.nD Cert.AdamSmallRefIdeal.τ).loc Cert.AdamSmallRefIdeal.main_v52) = v11 c
          ∧ r.2.mem ((c.tc : Thread Cert.AdamSmallRefIdeal.nD Cert.AdamSmallRefIdeal.τ).loc Cert.AdamSmallRefIdeal.main_v76) = v12 c
          ∧ r.2.mem ((c.tc : Thread Cert.AdamSmallRefIdeal.nD Cert.AdamSmallRefIdeal.τ).loc Cert.AdamSmallRefIdeal.main_v100) = v13 c
          ∧ r.2.mem ((c.tc : Thread Cert.AdamSmallRefIdeal.nD Cert.AdamSmallRefIdeal.τ).loc Cert.AdamSmallRefIdeal.main_v124) = v14 c
          ∧ r.2.mem ((c.tc : Thread Cert.AdamSmallRefIdeal.nD Cert.AdamSmallRefIdeal.τ).loc Cert.AdamSmallRefIdeal.main_v148) = v15 c
          ∧ r.2.mem ((c.tc : Thread Cert.AdamSmallRefIdeal.nD Cert.AdamSmallRefIdeal.τ).loc Cert.AdamSmallRefIdeal.main_v172) = v16 c
          ∧ r.2.mem ((c.tc : Thread Cert.AdamSmallRefIdeal.nD Cert.AdamSmallRefIdeal.τ).loc Cert.AdamSmallRefIdeal.main_v196) = v17 c
          ∧ r.2.mem ((c.tc : Thread Cert.AdamSmallRefIdeal.nD Cert.AdamSmallRefIdeal.τ).loc Cert.AdamSmallRefIdeal.main_v10) = v18 c
          ∧ r.2.mem ((c.tc : Thread Cert.AdamSmallRefIdeal.nD Cert.AdamSmallRefIdeal.τ).loc Cert.AdamSmallRefIdeal.main_v34) = v19 c
          ∧ r.2.mem ((c.tc : Thread Cert.AdamSmallRefIdeal.nD Cert.AdamSmallRefIdeal.τ).loc Cert.AdamSmallRefIdeal.main_v58) = v20 c
          ∧ r.2.mem ((c.tc : Thread Cert.AdamSmallRefIdeal.nD Cert.AdamSmallRefIdeal.τ).loc Cert.AdamSmallRefIdeal.main_v82) = v21 c
          ∧ r.2.mem ((c.tc : Thread Cert.AdamSmallRefIdeal.nD Cert.AdamSmallRefIdeal.τ).loc Cert.AdamSmallRefIdeal.main_v106) = v22 c
          ∧ r.2.mem ((c.tc : Thread Cert.AdamSmallRefIdeal.nD Cert.AdamSmallRefIdeal.τ).loc Cert.AdamSmallRefIdeal.main_v130) = v23 c
          ∧ r.2.mem ((c.tc : Thread Cert.AdamSmallRefIdeal.nD Cert.AdamSmallRefIdeal.τ).loc Cert.AdamSmallRefIdeal.main_v154) = v24 c
          ∧ r.2.mem ((c.tc : Thread Cert.AdamSmallRefIdeal.nD Cert.AdamSmallRefIdeal.τ).loc Cert.AdamSmallRefIdeal.main_v178) = v25 c
          ∧ r.2.mem ((c.tc : Thread Cert.AdamSmallRefIdeal.nD Cert.AdamSmallRefIdeal.τ).loc Cert.AdamSmallRefIdeal.main_v202) = v26 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def preserves_SumGu_SumGuIdeal : Prop :=
  True

def algebraic_SumGuIdeal_SumGuRefIdeal [hSumGuIdeal : Cert.SumGuIdeal.Facts] [hSumGuRefIdeal : Cert.SumGuRefIdeal.Facts] : Prop :=
  ∀ (m : (ℓ : Loc Cert.SumGuIdeal.nD Cert.SumGuIdeal.τ Cert.SumGuIdeal.sig) → Buf (Elt Ideal) ℓ) (g : Dev Cert.SumGuIdeal.nD → PrngReg)
    (m' : (ℓ : Loc Cert.SumGuRefIdeal.nD Cert.SumGuRefIdeal.τ Cert.SumGuRefIdeal.sig) → Buf (Elt Ideal) ℓ) (g' : Dev Cert.SumGuRefIdeal.nD → PrngReg), Pre_SumGuIdeal m →
    (∀ c : Dev Cert.SumGuIdeal.nD,
      m' ((c.tc : Thread Cert.SumGuRefIdeal.nD Cert.SumGuRefIdeal.τ).loc Cert.SumGuRefIdeal.main_arg0) = m ((c.tc : Thread Cert.SumGuIdeal.nD Cert.SumGuIdeal.τ).loc Cert.SumGuIdeal.main_arg0)) →
    ∃ (v0 : (c : Dev Cert.SumGuIdeal.nD) → Buf (Elt Ideal) ((c.tc : Thread Cert.SumGuIdeal.nD Cert.SumGuIdeal.τ).loc Cert.SumGuIdeal.main_v2)),
      θ_run (Cert.SumGuIdeal.defs (F := Ideal)) (onTc (τ := Cert.SumGuIdeal.τ) (Cert.SumGuIdeal.main (F := Ideal))) ⟨m, fun _ => 0, g⟩ (fun r => ∀ c : Dev Cert.SumGuIdeal.nD,
          r.2.mem ((c.tc : Thread Cert.SumGuIdeal.nD Cert.SumGuIdeal.τ).loc Cert.SumGuIdeal.main_v2) = v0 c
          ∧ r.2.mem ((c.tc : Thread Cert.SumGuIdeal.nD Cert.SumGuIdeal.τ).loc Cert.SumGuIdeal.main_arg0) = m ((c.tc : Thread Cert.SumGuIdeal.nD Cert.SumGuIdeal.τ).loc Cert.SumGuIdeal.main_arg0))
      ∧ θ_run (Cert.SumGuRefIdeal.defs (F := Ideal)) (onTc (τ := Cert.SumGuRefIdeal.τ) (Cert.SumGuRefIdeal.main (F := Ideal))) ⟨m', fun _ => 0, g'⟩ (fun r => ∀ c : Dev Cert.SumGuRefIdeal.nD,
          r.2.mem ((c.tc : Thread Cert.SumGuRefIdeal.nD Cert.SumGuRefIdeal.τ).loc Cert.SumGuRefIdeal.main_v1) = v0 c
          ∧ r.2.mem ((c.tc : Thread Cert.SumGuRefIdeal.nD Cert.SumGuRefIdeal.τ).loc Cert.SumGuRefIdeal.main_arg0) = m' ((c.tc : Thread Cert.SumGuRefIdeal.nD Cert.SumGuRefIdeal.τ).loc Cert.SumGuRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v2)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v2) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v2)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v2) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumKv_SumKvIdeal : Prop :=
  True

def algebraic_SumKvIdeal_SumKvRefIdeal [hSumKvIdeal : Cert.SumKvIdeal.Facts] [hSumKvRefIdeal : Cert.SumKvRefIdeal.Facts] : Prop :=
  ∀ (m : (ℓ : Loc Cert.SumKvIdeal.nD Cert.SumKvIdeal.τ Cert.SumKvIdeal.sig) → Buf (Elt Ideal) ℓ) (g : Dev Cert.SumKvIdeal.nD → PrngReg)
    (m' : (ℓ : Loc Cert.SumKvRefIdeal.nD Cert.SumKvRefIdeal.τ Cert.SumKvRefIdeal.sig) → Buf (Elt Ideal) ℓ) (g' : Dev Cert.SumKvRefIdeal.nD → PrngReg), Pre_SumKvIdeal m →
    (∀ c : Dev Cert.SumKvIdeal.nD,
      m' ((c.tc : Thread Cert.SumKvRefIdeal.nD Cert.SumKvRefIdeal.τ).loc Cert.SumKvRefIdeal.main_arg0) = m ((c.tc : Thread Cert.SumKvIdeal.nD Cert.SumKvIdeal.τ).loc Cert.SumKvIdeal.main_arg0)) →
    ∃ (v0 : (c : Dev Cert.SumKvIdeal.nD) → Buf (Elt Ideal) ((c.tc : Thread Cert.SumKvIdeal.nD Cert.SumKvIdeal.τ).loc Cert.SumKvIdeal.main_v2)),
      θ_run (Cert.SumKvIdeal.defs (F := Ideal)) (onTc (τ := Cert.SumKvIdeal.τ) (Cert.SumKvIdeal.main (F := Ideal))) ⟨m, fun _ => 0, g⟩ (fun r => ∀ c : Dev Cert.SumKvIdeal.nD,
          r.2.mem ((c.tc : Thread Cert.SumKvIdeal.nD Cert.SumKvIdeal.τ).loc Cert.SumKvIdeal.main_v2) = v0 c
          ∧ r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0))
      ∧ θ_run (Cert.SumKvRefIdeal.defs (F := Ideal)) (onTc (τ := Cert.SumKvRefIdeal.τ) (Cert.SumKvRefIdeal.main (F := Ideal))) ⟨m', fun _ => 0, g'⟩ (fun r => ∀ c : Dev Cert.SumKvRefIdeal.nD,
          r.2.mem ((c.tc : Thread Cert.SumKvRefIdeal.nD Cert.SumKvRefIdeal.τ).loc Cert.SumKvRefIdeal.main_v1) = v0 c
          ∧ r.2.mem ((c.tc : Thread Cert.SumKvRefIdeal.nD Cert.SumKvRefIdeal.τ).loc Cert.SumKvRefIdeal.main_arg0) = m' ((c.tc : Thread Cert.SumKvRefIdeal.nD Cert.SumKvRefIdeal.τ).loc Cert.SumKvRefIdeal.main_arg0))

def preserves_SumBranch_SumBranchIdeal : Prop :=
  True

def algebraic_SumBranchIdeal_SumBranchRefIdeal [hSumBranchIdeal : Cert.SumBranchIdeal.Facts] [hSumBranchRefIdeal : Cert.SumBranchRefIdeal.Facts] : Prop :=
  ∀ (m : (ℓ : Loc Cert.SumBranchIdeal.nD Cert.SumBranchIdeal.τ Cert.SumBranchIdeal.sig) → Buf (Elt Ideal) ℓ) (g : Dev Cert.SumBranchIdeal.nD → PrngReg)
    (m' : (ℓ : Loc Cert.SumBranchRefIdeal.nD Cert.SumBranchRefIdeal.τ Cert.SumBranchRefIdeal.sig) → Buf (Elt Ideal) ℓ) (g' : Dev Cert.SumBranchRefIdeal.nD → PrngReg), Pre_SumBranchIdeal m →
    (∀ c : Dev Cert.SumBranchIdeal.nD,
      m' ((c.tc : Thread Cert.SumBranchRefIdeal.nD Cert.SumBranchRefIdeal.τ).loc Cert.SumBranchRefIdeal.main_arg0) = m ((c.tc : Thread Cert.SumBranchIdeal.nD Cert.SumBranchIdeal.τ).loc Cert.SumBranchIdeal.main_arg0)) →
    ∃ (v0 : (c : Dev Cert.SumBranchIdeal.nD) → Buf (Elt Ideal) ((c.tc : Thread Cert.SumBranchIdeal.nD Cert.SumBranchIdeal.τ).loc Cert.SumBranchIdeal.main_v2)),
      θ_run (Cert.SumBranchIdeal.defs (F := Ideal)) (onTc (τ := Cert.SumBranchIdeal.τ) (Cert.SumBranchIdeal.main (F := Ideal))) ⟨m, fun _ => 0, g⟩ (fun r => ∀ c : Dev Cert.SumBranchIdeal.nD,
          r.2.mem ((c.tc : Thread Cert.SumBranchIdeal.nD Cert.SumBranchIdeal.τ).loc Cert.SumBranchIdeal.main_v2) = v0 c
          ∧ r.2.mem ((c.tc : Thread Cert.SumBranchIdeal.nD Cert.SumBranchIdeal.τ).loc Cert.SumBranchIdeal.main_arg0) = m ((c.tc : Thread Cert.SumBranchIdeal.nD Cert.SumBranchIdeal.τ).loc Cert.SumBranchIdeal.main_arg0))
      ∧ θ_run (Cert.SumBranchRefIdeal.defs (F := Ideal)) (onTc (τ := Cert.SumBranchRefIdeal.τ) (Cert.SumBranchRefIdeal.main (F := Ideal))) ⟨m', fun _ => 0, g'⟩ (fun r => ∀ c : Dev Cert.SumBranchRefIdeal.nD,
          r.2.mem ((c.tc : Thread Cert.SumBranchRefIdeal.nD Cert.SumBranchRefIdeal.τ).loc Cert.SumBranchRefIdeal.main_v1) = v0 c
          ∧ r.2.mem ((c.tc : Thread Cert.SumBranchRefIdeal.nD Cert.SumBranchRefIdeal.τ).loc Cert.SumBranchRefIdeal.main_arg0) = m' ((c.tc : Thread Cert.SumBranchRefIdeal.nD Cert.SumBranchRefIdeal.τ).loc Cert.SumBranchRefIdeal.main_arg0))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v26) = v0 c
          ∧ r.2.mem ((c.tc : Thread Cert.MergeBwdRefIdeal.nD Cert.MergeBwdRefIdeal.τ).loc Cert.MergeBwdRefIdeal.main_v20) = v1 c
          ∧ r.2.mem ((c.tc : Thread Cert.MergeBwdRefIdeal.nD Cert.MergeBwdRefIdeal.τ).loc Cert.MergeBwdRefIdeal.main_v22) = v2 c
          ∧ r.2.mem ((c.tc : Thread Cert.MergeBwdRefIdeal.nD Cert.MergeBwdRefIdeal.τ).loc Cert.MergeBwdRefIdeal.main_v24) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v12) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)) →
    ∃ (v0 : (c : Dev Cert.LossBwdIdeal.nD) → Buf (Elt Ideal) ((c.tc : Thread Cert.LossBwdIdeal.nD Cert.LossBwdIdeal.τ).loc Cert.LossBwdIdeal.main_v3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v3) = v0 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v14) = v0 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1))

def preserves_LossFwd_LossFwdIdeal : Prop :=
  True

def algebraic_LossFwdIdeal_LossFwdRefIdeal [hLossFwdIdeal : Cert.LossFwdIdeal.Facts] [hLossFwdRefIdeal : Cert.LossFwdRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdRefIdeal.nD Cert.LossFwdRefIdeal.τ Cert.LossFwdRefIdeal.sig) → Buf (Elt Ideal) ℓ) (g' : Dev Cert.LossFwdRefIdeal.nD → PrngReg), Pre_LossFwdIdeal m →
    (∀ c : Dev Cert.LossFwdIdeal.nD,
      m' ((c.tc : Thread Cert.LossFwdRefIdeal.nD Cert.LossFwdRefIdeal.τ).loc Cert.LossFwdRefIdeal.main_arg0) = m ((c.tc : Thread Cert.LossFwdIdeal.nD Cert.LossFwdIdeal.τ).loc Cert.LossFwdIdeal.main_arg0)
      ∧ m' ((c.tc : Thread Cert.LossFwdRefIdeal.nD Cert.LossFwdRefIdeal.τ).loc Cert.LossFwdRefIdeal.main_arg1) = m ((c.tc : Thread Cert.LossFwdIdeal.nD Cert.LossFwdIdeal.τ).loc Cert.LossFwdIdeal.main_arg1)) →
    ∃ (v0 : (c : Dev Cert.LossFwdIdeal.nD) → Buf (Elt Ideal) ((c.tc : Thread Cert.LossFwdIdeal.nD Cert.LossFwdIdeal.τ).loc Cert.LossFwdIdeal.main_v3)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v3) = v0 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ θ_run (Cert.LossFwdRefIdeal.defs (F := Ideal)) (onTc (τ := Cert.LossFwdRefIdeal.τ) (Cert.LossFwdRefIdeal.main (F := Ideal))) ⟨m', fun _ => 0, g'⟩ (fun r => ∀ c : Dev Cert.LossFwdRefIdeal.nD,
          r.2.mem ((c.tc : Thread Cert.LossFwdRefIdeal.nD Cert.LossFwdRefIdeal.τ).loc Cert.LossFwdRefIdeal.main_v6) = v0 c
          ∧ r.2.mem ((c.tc : Thread Cert.LossFwdRefIdeal.nD Cert.LossFwdRefIdeal.τ).loc Cert.LossFwdRefIdeal.main_arg0) = m' ((c.tc : Thread Cert.LossFwdRefIdeal.nD Cert.LossFwdRefIdeal.τ).loc Cert.LossFwdRefIdeal.main_arg0)
          ∧ r.2.mem ((c.tc : Thread Cert.LossFwdRefIdeal.nD Cert.LossFwdRefIdeal.τ).loc Cert.LossFwdRefIdeal.main_arg1) = m' ((c.tc : Thread Cert.LossFwdRefIdeal.nD Cert.LossFwdRefIdeal.τ).loc Cert.LossFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)) (v3 : (c : Dev Cert.NormBwdIdeal.nD) → Buf (Elt Ideal) ((c.tc : Thread Cert.NormBwdIdeal.nD Cert.NormBwdIdeal.τ).loc Cert.NormBwdIdeal.main_v2_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_v2_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v71) = v0 c
          ∧ r.2.mem ((c.tc : Thread Cert.NormBwdRefIdeal.nD Cert.NormBwdRefIdeal.τ).loc Cert.NormBwdRefIdeal.main_v69) = v1 c
          ∧ r.2.mem ((c.tc : Thread Cert.NormBwdRefIdeal.nD Cert.NormBwdRefIdeal.τ).loc Cert.NormBwdRefIdeal.main_v72) = v2 c
          ∧ r.2.mem ((c.tc : Thread Cert.NormBwdRefIdeal.nD Cert.NormBwdRefIdeal.τ).loc Cert.NormBwdRefIdeal.main_v73) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v28) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def Claim : Prop :=
  ∃ (hKernel : Cert.Kernel.Facts) (hKernelIdeal : Cert.KernelIdeal.Facts) (hReferenceIdeal : Cert.ReferenceIdeal.Facts) (hGuDx : Cert.GuDx.Facts) (hGuDxIdeal : Cert.GuDxIdeal.Facts) (hGuDxRefIdeal : Cert.GuDxRefIdeal.Facts) (hGuDw : Cert.GuDw.Facts) (hGuDwIdeal : Cert.GuDwIdeal.Facts) (hGuDwRefIdeal : Cert.GuDwRefIdeal.Facts) (hGuFwd : Cert.GuFwd.Facts) (hGuFwdIdeal : Cert.GuFwdIdeal.Facts) (hGuFwdRefIdeal : Cert.GuFwdRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hDownFwd : Cert.DownFwd.Facts) (hDownFwdIdeal : Cert.DownFwdIdeal.Facts) (hDownFwdRefIdeal : Cert.DownFwdRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOutFwd : Cert.OutFwd.Facts) (hOutFwdIdeal : Cert.OutFwdIdeal.Facts) (hOutFwdRefIdeal : Cert.OutFwdRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hBranchFwd : Cert.BranchFwd.Facts) (hBranchFwdIdeal : Cert.BranchFwdIdeal.Facts) (hBranchFwdRefIdeal : Cert.BranchFwdRefIdeal.Facts) (hActBwd : Cert.ActBwd.Facts) (hActBwdIdeal : Cert.ActBwdIdeal.Facts) (hActBwdRefIdeal : Cert.ActBwdRefIdeal.Facts) (hActFwd : Cert.ActFwd.Facts) (hActFwdIdeal : Cert.ActFwdIdeal.Facts) (hActFwdRefIdeal : Cert.ActFwdRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamKv : Cert.AdamKv.Facts) (hAdamKvIdeal : Cert.AdamKvIdeal.Facts) (hAdamKvRefIdeal : Cert.AdamKvRefIdeal.Facts) (hAdamBranch : Cert.AdamBranch.Facts) (hAdamBranchIdeal : Cert.AdamBranchIdeal.Facts) (hAdamBranchRefIdeal : Cert.AdamBranchRefIdeal.Facts) (hAdamSmall : Cert.AdamSmall.Facts) (hAdamSmallIdeal : Cert.AdamSmallIdeal.Facts) (hAdamSmallRefIdeal : Cert.AdamSmallRefIdeal.Facts) (hSumGu : Cert.SumGu.Facts) (hSumGuIdeal : Cert.SumGuIdeal.Facts) (hSumGuRefIdeal : Cert.SumGuRefIdeal.Facts) (hSumDown : Cert.SumDown.Facts) (hSumDownIdeal : Cert.SumDownIdeal.Facts) (hSumDownRefIdeal : Cert.SumDownRefIdeal.Facts) (hSumIn : Cert.SumIn.Facts) (hSumInIdeal : Cert.SumInIdeal.Facts) (hSumInRefIdeal : Cert.SumInRefIdeal.Facts) (hSumKv : Cert.SumKv.Facts) (hSumKvIdeal : Cert.SumKvIdeal.Facts) (hSumKvRefIdeal : Cert.SumKvRefIdeal.Facts) (hSumBranch : Cert.SumBranch.Facts) (hSumBranchIdeal : Cert.SumBranchIdeal.Facts) (hSumBranchRefIdeal : Cert.SumBranchRefIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hLossBwd : Cert.LossBwd.Facts) (hLossBwdIdeal : Cert.LossBwdIdeal.Facts) (hLossBwdRefIdeal : Cert.LossBwdRefIdeal.Facts) (hLossFwd : Cert.LossFwd.Facts) (hLossFwdIdeal : Cert.LossFwdIdeal.Facts) (hLossFwdRefIdeal : Cert.LossFwdRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts),
    quiescent_Kernel (hKernel := hKernel)
    ∧ quiescent_KernelIdeal (hKernelIdeal := hKernelIdeal)
    ∧ quiescent_ReferenceIdeal (hReferenceIdeal := hReferenceIdeal)
    ∧ quiescent_GuDx (hGuDx := hGuDx)
    ∧ quiescent_GuDxIdeal (hGuDxIdeal := hGuDxIdeal)
    ∧ quiescent_GuDxRefIdeal (hGuDxRefIdeal := hGuDxRefIdeal)
    ∧ quiescent_GuDw (hGuDw := hGuDw)
    ∧ quiescent_GuDwIdeal (hGuDwIdeal := hGuDwIdeal)
    ∧ quiescent_GuDwRefIdeal (hGuDwRefIdeal := hGuDwRefIdeal)
    ∧ quiescent_GuFwd (hGuFwd := hGuFwd)
    ∧ quiescent_GuFwdIdeal (hGuFwdIdeal := hGuFwdIdeal)
    ∧ quiescent_GuFwdRefIdeal (hGuFwdRefIdeal := hGuFwdRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_ActBwd (hActBwd := hActBwd)
    ∧ quiescent_ActBwdIdeal (hActBwdIdeal := hActBwdIdeal)
    ∧ quiescent_ActBwdRefIdeal (hActBwdRefIdeal := hActBwdRefIdeal)
    ∧ quiescent_ActFwd (hActFwd := hActFwd)
    ∧ quiescent_ActFwdIdeal (hActFwdIdeal := hActFwdIdeal)
    ∧ quiescent_ActFwdRefIdeal (hActFwdRefIdeal := hActFwdRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumGu (hSumGu := hSumGu)
    ∧ quiescent_SumGuIdeal (hSumGuIdeal := hSumGuIdeal)
    ∧ quiescent_SumGuRefIdeal (hSumGuRefIdeal := hSumGuRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumKv (hSumKv := hSumKv)
    ∧ quiescent_SumKvIdeal (hSumKvIdeal := hSumKvIdeal)
    ∧ quiescent_SumKvRefIdeal (hSumKvRefIdeal := hSumKvRefIdeal)
    ∧ quiescent_SumBranch (hSumBranch := hSumBranch)
    ∧ quiescent_SumBranchIdeal (hSumBranchIdeal := hSumBranchIdeal)
    ∧ quiescent_SumBranchRefIdeal (hSumBranchRefIdeal := hSumBranchRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_LossFwd (hLossFwd := hLossFwd)
    ∧ quiescent_LossFwdIdeal (hLossFwdIdeal := hLossFwdIdeal)
    ∧ quiescent_LossFwdRefIdeal (hLossFwdRefIdeal := hLossFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ preserves_Kernel_KernelIdeal
    ∧ algebraic_KernelIdeal_ReferenceIdeal (hKernelIdeal := hKernelIdeal) (hReferenceIdeal := hReferenceIdeal)
    ∧ preserves_GuDx_GuDxIdeal
    ∧ algebraic_GuDxIdeal_GuDxRefIdeal (hGuDxIdeal := hGuDxIdeal) (hGuDxRefIdeal := hGuDxRefIdeal)
    ∧ preserves_GuDw_GuDwIdeal
    ∧ algebraic_GuDwIdeal_GuDwRefIdeal (hGuDwIdeal := hGuDwIdeal) (hGuDwRefIdeal := hGuDwRefIdeal)
    ∧ preserves_GuFwd_GuFwdIdeal
    ∧ algebraic_GuFwdIdeal_GuFwdRefIdeal (hGuFwdIdeal := hGuFwdIdeal) (hGuFwdRefIdeal := hGuFwdRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_DownFwd_DownFwdIdeal
    ∧ algebraic_DownFwdIdeal_DownFwdRefIdeal (hDownFwdIdeal := hDownFwdIdeal) (hDownFwdRefIdeal := hDownFwdRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_OutFwd_OutFwdIdeal
    ∧ algebraic_OutFwdIdeal_OutFwdRefIdeal (hOutFwdIdeal := hOutFwdIdeal) (hOutFwdRefIdeal := hOutFwdRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_ActBwd_ActBwdIdeal
    ∧ algebraic_ActBwdIdeal_ActBwdRefIdeal (hActBwdIdeal := hActBwdIdeal) (hActBwdRefIdeal := hActBwdRefIdeal)
    ∧ preserves_ActFwd_ActFwdIdeal
    ∧ algebraic_ActFwdIdeal_ActFwdRefIdeal (hActFwdIdeal := hActFwdIdeal) (hActFwdRefIdeal := hActFwdRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumGu_SumGuIdeal
    ∧ algebraic_SumGuIdeal_SumGuRefIdeal (hSumGuIdeal := hSumGuIdeal) (hSumGuRefIdeal := hSumGuRefIdeal)
    ∧ preserves_SumDown_SumDownIdeal
    ∧ algebraic_SumDownIdeal_SumDownRefIdeal (hSumDownIdeal := hSumDownIdeal) (hSumDownRefIdeal := hSumDownRefIdeal)
    ∧ preserves_SumIn_SumInIdeal
    ∧ algebraic_SumInIdeal_SumInRefIdeal (hSumInIdeal := hSumInIdeal) (hSumInRefIdeal := hSumInRefIdeal)
    ∧ preserves_SumKv_SumKvIdeal
    ∧ algebraic_SumKvIdeal_SumKvRefIdeal (hSumKvIdeal := hSumKvIdeal) (hSumKvRefIdeal := hSumKvRefIdeal)
    ∧ preserves_SumBranch_SumBranchIdeal
    ∧ algebraic_SumBranchIdeal_SumBranchRefIdeal (hSumBranchIdeal := hSumBranchIdeal) (hSumBranchRefIdeal := hSumBranchRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_LossBwd_LossBwdIdeal
    ∧ algebraic_LossBwdIdeal_LossBwdRefIdeal (hLossBwdIdeal := hLossBwdIdeal) (hLossBwdRefIdeal := hLossBwdRefIdeal)
    ∧ preserves_LossFwd_LossFwdIdeal
    ∧ algebraic_LossFwdIdeal_LossFwdRefIdeal (hLossFwdIdeal := hLossFwdIdeal) (hLossFwdRefIdeal := hLossFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormFwd_NormFwdIdeal
    ∧ algebraic_NormFwdIdeal_NormFwdRefIdeal (hNormFwdIdeal := hNormFwdIdeal) (hNormFwdRefIdeal := hNormFwdRefIdeal)
-- ==== Kernel.lean ====
abbrev S16384x512 : Shape := ⟨2, ![16384, 512]⟩
abbrev S16384x256 : Shape := ⟨2, ![16384, 256]⟩
abbrev S8 : Shape := ⟨1, ![8]⟩
abbrev S8x1 : Shape := ⟨2, ![8, 1]⟩
abbrev S8x128 : Shape := ⟨2, ![8, 128]⟩
abbrev S128x512 : Shape := ⟨2, ![128, 512]⟩
abbrev S128x256 : Shape := ⟨2, ![128, 256]⟩
abbrev S512x256 : Shape := ⟨2, ![512, 256]⟩
abbrev S128x64 : Shape := ⟨2, ![128, 64]⟩
abbrev S256x64 : Shape := ⟨2, ![256, 64]⟩
abbrev S512x64 : Shape := ⟨2, ![512, 64]⟩
abbrev S128 : Shape := ⟨1, ![128]⟩
abbrev S1x128 : Shape := ⟨2, ![1, 128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S384x64 : Shape := ⟨2, ![384, 64]⟩
abbrev S128x448 : Shape := ⟨2, ![128, 448]⟩
abbrev S128x384 : Shape := ⟨2, ![128, 384]⟩
abbrev S128x320 : Shape := ⟨2, ![128, 320]⟩
abbrev S128x192 : Shape := ⟨2, ![128, 192]⟩
abbrev S16256x256 : Shape := ⟨2, ![16256, 256]⟩
abbrev S_ : Shape := ⟨0, ![]⟩

abbrev nBuf : Space → Nat
  | .hbm => 17
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S8, .f32⟩
  | .hbm, ⟨3, _⟩ => ⟨S16384x512, .f32⟩
  | .hbm, ⟨4, _⟩ => ⟨S8x1, .f32⟩
  | .hbm, ⟨5, _⟩ => ⟨S8x128, .f32⟩
  | .hbm, ⟨6, _⟩ => ⟨S16384x512, .f32⟩
  | .hbm, ⟨7, _⟩ => ⟨S16384x256, .f32⟩
  | .hbm, ⟨8, _⟩ => ⟨S16384x256, .f32⟩
  | .hbm, ⟨9, _⟩ => ⟨S8x128, .f32⟩
  | .hbm, ⟨10, _⟩ => ⟨S16256x256, .f32⟩
  | .hbm, ⟨11, _⟩ => ⟨S_, .f32⟩
  | .hbm, ⟨12, _⟩ => ⟨S128x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S8, .f32⟩
  | .local _ .vmem, ⟨0, _⟩ => ⟨S128x512, .f32⟩
  | .local _ .vmem, ⟨1, _⟩ => ⟨S128x512, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S8x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32_140 : BitVec 32 := 0#32
  let v512 : BitVec 1 := Scalar.cmpi .eq arg0 c0_i32_140
  let v513 : BitVec 32 := Scalar.extui v512
  let c0_i32_141 : BitVec 32 := 0#32
  let v514 : BitVec 1 := Scalar.cmpi .ne v513 c0_i32_141
  v514

def k0_cond2 (i : grid0.Coords) : BitVec 1 :=
  let arg0 : BitVec 32 := BitVec.ofNat 32 (i 0).val
  let c0_i32_142 : BitVec 32 := 0#32
  let v515 : BitVec 1 := Scalar.cmpi .ne arg0 c0_i32_142
  let v516 : BitVec 32 := Scalar.extui v515
  let c0_i32_143 : BitVec 32 := 0#32
  let v517 : BitVec 1 := Scalar.cmpi .ne v516 c0_i32_143
  v517

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S16384x256 : Shape := ⟨2, ![16384, 256]⟩
abbrev S8 : Shape := ⟨1, ![8]⟩
abbrev S16384x128 : Shape := ⟨2, ![16384, 128]⟩
abbrev S128x128x2x4x64 : Shape := ⟨5, ![128, 128, 2, 4, 64]⟩
abbrev S128x128x2x64 : Shape := ⟨4, ![128, 128, 2, 64]⟩
abbrev S1x128x2x64 : Shape := ⟨4, ![1, 128, 2, 64]⟩
abbrev S_ : Shape := ⟨0, ![]⟩
abbrev S127x128x2x64 : Shape := ⟨4, ![127, 128, 2, 64]⟩
abbrev S128x256x2x64 : Shape := ⟨4, ![128, 256, 2, 64]⟩
abbrev S128x2x256x128x4 : Shape := ⟨5, ![128, 2, 256, 128, 4]⟩
abbrev S128x2x4x128x256 : Shape := ⟨5, ![128, 2, 4, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256 : Shape := ⟨1, ![256]⟩
abbrev S1x256 : Shape := ⟨2, ![1, 256]⟩
abbrev S128x256 : Shape := ⟨2, ![128, 256]⟩
abbrev S128x128x1 : Shape := ⟨3, ![128, 128, 1]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S2x4x1 : Shape := ⟨3, ![2, 4, 1]⟩
abbrev S2x4x128 : Shape := ⟨3, ![2, 4, 128]⟩
abbrev S128x2x4x128 : Shape := ⟨4, ![128, 2, 4, 128]⟩
abbrev S128x2x4x128x1 : Shape := ⟨5, ![128, 2, 4, 128, 1]⟩
abbrev S128x2x64x4x128 : Shape := ⟨5, ![128, 2, 64, 4, 128]⟩
abbrev S128x2x64x256 : Shape := ⟨4, ![128, 2, 64, 256]⟩
abbrev S2x4 : Shape := ⟨2, ![2, 4]⟩
abbrev S128x2x128x4x64 : Shape := ⟨5, ![128, 2, 128, 4, 64]⟩
abbrev S128x2x256x64 : Shape := ⟨4, ![128, 2, 256, 64]⟩

abbrev nBuf : Space → Nat
  | .hbm => 204
  | .vmem => 0
  | .smem => 0
  | _ => 0

abbrev hbmTy0_0 (i : Nat) : BufTy := match i % 128 with
  | 0 => ⟨S16384x512, .f32⟩
  | 1 => ⟨S16384x256, .f32⟩
  | 2 => ⟨S8, .f32⟩
  | 3 => ⟨S16384x512, .f32⟩
  | 4 => ⟨S16384x128, .f32⟩
  | 5 => ⟨S16384x128, .f32⟩
  | 6 => ⟨S128x128x2x4x64, .f32⟩
  | 7 => ⟨S128x128x2x64, .f32⟩
  | 8 => ⟨S1x128x2x64, .f32⟩
  | 9 => ⟨S_, .f32⟩
  | 10 => ⟨S1x128x2x64, .f32⟩
  | 11 => ⟨S127x128x2x64, .f32⟩
  | 12 => ⟨S128x128x2x64, .f32⟩
  | 13 => ⟨S_, .f32⟩
  | 14 => ⟨S1x128x2x64, .f32⟩
  | 15 => ⟨S128x256x2x64, .f32⟩
  | 16 => ⟨S128x128x2x64, .f32⟩
  | 17 => ⟨S1x128x2x64, .f32⟩
  | 18 => ⟨S_, .f32⟩
  | 19 => ⟨S1x128x2x64, .f32⟩
  | 20 => ⟨S127x128x2x64, .f32⟩
  | 21 => ⟨S128x128x2x64, .f32⟩
  | 22 => ⟨S_, .f32⟩
  | 23 => ⟨S1x128x2x64, .f32⟩
  | 24 => ⟨S128x256x2x64, .f32⟩
  | 25 => ⟨S128x2x256x128x4, .f32⟩
  | 26 => ⟨S128x2x4x128x256, .f32⟩
  | 27 => ⟨S_, .f32⟩
  | 28 => ⟨S128x2x4x128x256, .f32⟩
  | 29 => ⟨S128x2x4x128x256, .f32⟩
  | 30 => ⟨S128, .i32⟩
  | 31 => ⟨S128x1, .i32⟩
  | 32 => ⟨S_, .i32⟩
  | 33 => ⟨S128x1, .i32⟩
  | 34 => ⟨S128x1, .i32⟩
  | 35 => ⟨S128, .i32⟩
  | 36 => ⟨S1x128, .i32⟩
  | 37 => ⟨S128x128, .i32⟩
  | 38 => ⟨S128x128, .i32⟩
  | 39 => ⟨S128x128, .i32⟩
  | 40 => ⟨S128, .i32⟩
  | 41 => ⟨S128x1, .i32⟩
  | 42 => ⟨S_, .i32⟩
  | 43 => ⟨S128x1, .i32⟩
  | 44 => ⟨S128x1, .i32⟩
  | 45 => ⟨S_, .i32⟩
  | 46 => ⟨S128x1, .i32⟩
  | 47 => ⟨S128x1, .i32⟩
  | 48 => ⟨S256, .i32⟩
  | 49 => ⟨S1x256, .i32⟩
  | 50 => ⟨S128x256, .i32⟩
  | 51 => ⟨S128x256, .i32⟩
  | 52 => ⟨S128x256, .i32⟩
  | 53 => ⟨S128x128x1, .i32⟩
  | 54 => ⟨S128x1x256, .i32⟩
  | 55 => ⟨S128x128x256, .i32⟩
  | 56 => ⟨S128x128x256, .i32⟩
  | 57 => ⟨S128x128x256, .i32⟩
  | 58 => ⟨S_, .i32⟩
  | 59 => ⟨S128x128x256, .i32⟩
  | 60 => ⟨S128x128x256, .i1⟩
  | 61 => ⟨S_, .i32⟩
  | 62 => ⟨S128x128x256, .i32⟩
  | 63 => ⟨S128x128x256, .i1⟩
  | 64 => ⟨S128x128x256, .i1⟩
  | 65 => ⟨S128x1x256, .i32⟩
  | 66 => ⟨S_, .i32⟩
  | 67 => ⟨S128x1x256, .i32⟩
  | 68 => ⟨S128x1x256, .i1⟩
  | 69 => ⟨S128x128x256, .i1⟩
  | 70 => ⟨S128x128x256, .i1⟩
  | 71 => ⟨S128x1x1x128x256, .i1⟩
  | 72 => ⟨S_, .f32⟩
  | 73 => ⟨S_, .f32⟩
  | 74 => ⟨S128x2x4x128x256, .i1⟩
  | 75 => ⟨S128x2x4x128x256, .f32⟩
  | 76 => ⟨S128x2x4x128x256, .f32⟩
  | 77 => ⟨S_, .f32⟩
  | 78 => ⟨S128x2x4x128x256, .f32⟩
  | 79 => ⟨S2x4x1, .f32⟩
  | 80 => ⟨S2x4x128, .f32⟩
  | 81 => ⟨S128x2x4x128, .f32⟩
  | 82 => ⟨S_, .f32⟩
  | 83 => ⟨S128x2x4x128, .f32⟩
  | 84 => ⟨S128x2x4x128x1, .f32⟩
  | 85 => ⟨S128x2x4x128x256, .f32⟩
  | 86 => ⟨S128x2x4x128x256, .i1⟩
  | 87 => ⟨S128x2x4x128x256, .f32⟩
  | 88 => ⟨S_, .f32⟩
  | 89 => ⟨S128x2x4x128, .f32⟩
  | 90 => ⟨S128x2x4x128, .f32⟩
  | 91 => ⟨S128x2x4x128, .i1⟩
  | 92 => ⟨S128x2x4x128, .i1⟩
  | 93 => ⟨S_, .f32⟩
  | 94 => ⟨S128x2x4x128, .f32⟩
  | 95 => ⟨S_, .f32⟩
  | 96 => ⟨S128x2x4x128, .f32⟩
  | 97 => ⟨S_, .f32⟩
  | 98 => ⟨S128x2x4x128, .f32⟩
  | 99 => ⟨S128x2x4x128, .f32⟩
  | 100 => ⟨S128x2x4x128, .f32⟩
  | 101 => ⟨S128x2x4x128, .i1⟩
  | 102 => ⟨S128x2x4x128, .i1⟩
  | 103 => ⟨S_, .f32⟩
  | 104 => ⟨S128x2x4x128, .f32⟩
  | 105 => ⟨S_, .f32⟩
  | 106 => ⟨S128x2x4x128, .f32⟩
  | 107 => ⟨S_, .f32⟩
  | 108 => ⟨S128x2x4x128, .f32⟩
  | 109 => ⟨S128x2x4x128, .f32⟩
  | 110 => ⟨S128x2x4x128, .f32⟩
  | 111 => ⟨S128x2x4x128x1, .f32⟩
  | 112 => ⟨S128x2x4x128x256, .f32⟩
  | 113 => ⟨S128x2x4x128x256, .f32⟩
  | 114 => ⟨S128x2x4x128x256, .f32⟩
  | 115 => ⟨S_, .f32⟩
  | 116 => ⟨S128x2x4x128, .f32⟩
  | 117 => ⟨S128x2x4x128, .f32⟩
  | 118 => ⟨S128x2x4x128, .f32⟩
  | 119 => ⟨S128x2x4x128, .f32⟩
  | 120 => ⟨S128x2x4x128x1, .f32⟩
  | 121 => ⟨S128x2x4x128x256, .f32⟩
  | 122 => ⟨S128x2x4x128x256, .f32⟩
  | 123 => ⟨S128x2x4x128x1, .f32⟩
  | 124 => ⟨S_, .f32⟩
  | 125 => ⟨S128x2x4x128x1, .f32⟩
  | 126 => ⟨S128x2x4x128x1, .f32⟩
  | 127 => ⟨S128x2x64x4x128, .f32⟩
  | _ => ⟨S16384x512, .f32⟩

abbrev hbmTy0_1 (i : Nat) : BufTy := match i % 128 with
  | 0 => ⟨S128x128x2x4x64, .f32⟩
  | 1 => ⟨S16384x512, .f32⟩
  | 2 => ⟨S128x128x2x4x64, .f32⟩
  | 3 => ⟨S128x2x64x4x128, .f32⟩
  | 4 => ⟨S128x2x4x128x256, .f32⟩
  | 5 => ⟨S128x2x64x256, .f32⟩
  | 6 => ⟨S128x256x2x64, .f32⟩
  | 7 => ⟨S128x2x4x128x256, .f32⟩
  | 8 => ⟨S128x2x4x128x256, .f32⟩
  | 9 => ⟨S128x2x4x128x256, .f32⟩
  | 10 => ⟨S_, .f32⟩
  | 11 => ⟨S128x2x4x128, .f32⟩
  | 12 => ⟨S128x2x4x128x1, .f32⟩
  | 13 => ⟨S128x2x4x128x1, .f32⟩
  | 14 => ⟨S128x2x4x128x256, .f32⟩
  | 15 => ⟨S128x2x4x128x256, .f32⟩
  | 16 => ⟨S_, .f32⟩
  | 17 => ⟨S128x2x4x128, .f32⟩
  | 18 => ⟨S128x2x4x128, .f32⟩
  | 19 => ⟨S128x2x4x128, .f32⟩
  | 20 => ⟨S128x2x4x128x256, .f32⟩
  | 21 => ⟨S128x2x4x128x256, .f32⟩
  | 22 => ⟨S128x2x4x128x256, .f32⟩
  | 23 => ⟨S128x2x4x128x256, .f32⟩
  | 24 => ⟨S_, .f32⟩
  | 25 => ⟨S128x2x4x128, .f32⟩
  | 26 => ⟨S128x2x4x128x1, .f32⟩
  | 27 => ⟨S_, .f32⟩
  | 28 => ⟨S128x2x4x128, .f32⟩
  | 29 => ⟨S128x2x4x128, .f32⟩
  | 30 => ⟨S128x2x4x128, .f32⟩
  | 31 => ⟨S128x2x4x128, .f32⟩
  | 32 => ⟨S128x2x4x128, .f32⟩
  | 33 => ⟨S128x2x4x128, .f32⟩
  | 34 => ⟨S128x2x4x128x256, .f32⟩
  | 35 => ⟨S128x2x4x128x256, .f32⟩
  | 36 => ⟨S128x2x4x128x256, .f32⟩
  | 37 => ⟨S_, .f32⟩
  | 38 => ⟨S2x4x128, .f32⟩
  | 39 => ⟨S_, .f32⟩
  | 40 => ⟨S2x4, .f32⟩
  | 41 => ⟨S2x4x1, .f32⟩
  | 42 => ⟨S8, .f32⟩
  | 43 => ⟨S_, .f32⟩
  | 44 => ⟨S128x2x4x128x256, .f32⟩
  | 45 => ⟨S128x2x4x128x256, .f32⟩
  | 46 => ⟨S_, .f32⟩
  | 47 => ⟨S128x2x4x128x256, .f32⟩
  | 48 => ⟨S128x2x4x128x256, .f32⟩
  | 49 => ⟨S128x2x256x128x4, .f32⟩
  | 50 => ⟨S128x2x128x4x64, .f32⟩
  | 51 => ⟨S128x128x2x4x64, .f32⟩
  | 52 => ⟨S128x2x256x64, .f32⟩
  | 53 => ⟨S128x256x2x64, .f32⟩
  | 54 => ⟨S128x128x2x64, .f32⟩
  | 55 => ⟨S128x128x2x64, .f32⟩
  | 56 => ⟨S1x128x2x64, .f32⟩
  | 57 => ⟨S127x128x2x64, .f32⟩
  | 58 => ⟨S_, .f32⟩
  | 59 => ⟨S128x128x2x64, .f32⟩
  | 60 => ⟨S128x128x2x64, .f32⟩
  | 61 => ⟨S16384x128, .f32⟩
  | 62 => ⟨S128x128x2x64, .f32⟩
  | 63 => ⟨S128x128x2x64, .f32⟩
  | 64 => ⟨S1x128x2x64, .f32⟩
  | 65 => ⟨S127x128x2x64, .f32⟩
  | 66 => ⟨S_, .f32⟩
  | 67 => ⟨S128x128x2x64, .f32⟩
  | 68 => ⟨S128x128x2x64, .f32⟩
  | 69 => ⟨S16384x128, .f32⟩
  | 70 => ⟨S16384x512, .f32⟩
  | 71 => ⟨S_, .f32⟩
  | 72 => ⟨S16384x256, .f32⟩
  | 73 => ⟨S_, .f32⟩
  | 74 => ⟨S16384x256, .f32⟩
  | 75 => ⟨S16384x256, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_call0_v0 : Ref sig .tc := ⟨.hbm, 73, rfl⟩
abbrev main_v57_1 : Ref sig .tc := ⟨.hbm, 74, rfl⟩
abbrev main_call0_v2 : Ref sig .tc := ⟨.hbm, 75, rfl⟩
abbrev main_v57_0 : Ref sig .tc := ⟨.hbm, 76, rfl⟩
abbrev main_call0_cst : Ref sig .tc := ⟨.hbm, 77, rfl⟩
abbrev main_v57_2 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_20 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_22 : Ref sig .tc := ⟨.hbm, 152, rfl⟩
abbrev main_v119 : Ref sig .tc := ⟨.hbm, 153, rfl⟩
abbrev main_v120 : Ref sig .tc := ⟨.hbm, 154, rfl⟩
abbrev main_cst_23 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_24 : Ref sig .tc := ⟨.hbm, 165, rfl⟩
abbrev main_v130 : Ref sig .tc := ⟨.hbm, 166, rfl⟩
abbrev main_cst_25 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_call1_cst : Ref sig .tc := ⟨.hbm, 171, rfl⟩
abbrev main_call1_v0 : Ref sig .tc := ⟨.hbm, 172, rfl⟩
abbrev main_v134 : Ref sig .tc := ⟨.hbm, 173, rfl⟩
abbrev main_cst_26 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_27 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_28 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_29 : Ref sig .tc := ⟨.hbm, 199, rfl⟩
abbrev main_v157 : Ref sig .tc := ⟨.hbm, 200, rfl⟩
abbrev main_cst_30 : Ref sig .tc := ⟨.hbm, 201, rfl⟩
abbrev main_v158 : Ref sig .tc := ⟨.hbm, 202, rfl⟩
abbrev main_v159 : Ref sig .tc := ⟨.hbm, 203, rfl⟩

abbrev nD : Nat := 1
abbrev τ : Topo := Topo.v7x

variable {F : FTy → Type} [FloatOps F]
-- ==== GuDx.lean ====
abbrev S1024x5632 : Shape := ⟨2, ![1024, 5632]⟩
abbrev S16384x5632 : Shape := ⟨2, ![16384, 5632]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x5632, .f32⟩
  | .hbm, ⟨1, _⟩ => ⟨S16384x5632, .f32⟩
  | .hbm, ⟨2, _⟩ => ⟨S16384x1024, .f32⟩
  | .hbm, ⟨3, _⟩ => ⟨S1024x5632, .bf16⟩
  | .hbm, ⟨4, _⟩ => ⟨S16384x1024, .f32⟩
  | .hbm, ⟨5, _⟩ => ⟨S16384x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDxRefIdeal.lean ====
abbrev S1024x5632 : Shape := ⟨2, ![1024, 5632]⟩
abbrev S16384x5632 : Shape := ⟨2, ![16384, 5632]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S16384x5632, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x5632, .f32⟩
  | .hbm, ⟨6, _⟩ => ⟨S16384x1024, .f32⟩
  | .hbm, ⟨7, _⟩ => ⟨S16384x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GuDw.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S1024x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDwRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GuFwd.lean ====
abbrev S16384x1024 : Shape := ⟨2, ![16384, 1024]⟩
abbrev S1024x5632 : Shape := ⟨2, ![1024, 5632]⟩
abbrev S16384x5632 : Shape := ⟨2, ![16384, 5632]⟩
abbrev S256x1024 : Shape := ⟨2, ![256, 1024]⟩
abbrev S256x5632 : Shape := ⟨2, ![256, 5632]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x5632, .bf16⟩
  | .hbm, ⟨3, _⟩ => ⟨S16384x5632, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S256x5632, .f32⟩
  | .local _ .vmem, ⟨4, _⟩ => ⟨S256x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 64, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuFwdRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDx.lean ====
abbrev S2816x1024 : Shape := ⟨2, ![2816, 1024]⟩
abbrev S16384x1024 : Shape := ⟨2, ![16384, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S16384x1024, .f32⟩
  | .hbm, ⟨2, _⟩ => ⟨S2816x1024, .bf16⟩
  | .hbm, ⟨3, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2816x1024 : Shape := ⟨2, ![2816, 1024]⟩
abbrev S16384x1024 : Shape := ⟨2, ![16384, 1024]⟩
abbrev S_ : Shape := ⟨0, ![]⟩
abbrev S16384x2816 : Shape := ⟨2, ![16384, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S16384x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S16384x2816 : Shape := ⟨2, ![16384, 2816]⟩
abbrev S16384x1024 : Shape := ⟨2, ![16384, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S2816x1024, .f32⟩
  | .local _ .vmem, ⟨0, _⟩ => ⟨S512x1408, .f32⟩
  | .local _ .vmem, ⟨1, _⟩ => ⟨S512x1408, .f32⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 32], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownFwd.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S2816x1024, .bf16⟩
  | .hbm, ⟨3, _⟩ => ⟨S16384x1024, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDx.lean ====
abbrev S1024x6408 : Shape := ⟨2, ![1024, 6408]⟩
abbrev S16384x6408 : Shape := ⟨2, ![16384, 6408]⟩
abbrev S_ : Shape := ⟨0, ![]⟩
abbrev S16384x120 : Shape := ⟨2, ![16384, 120]⟩
abbrev S16384x1536 : Shape := ⟨2, ![16384, 1536]⟩
abbrev S16384x4864 : Shape := ⟨2, ![16384, 4864]⟩
abbrev S16384x8 : Shape := ⟨2, ![16384, 8]⟩
abbrev S16384x6528 : Shape := ⟨2, ![16384, 6528]⟩
abbrev S1024x120 : Shape := ⟨2, ![1024, 120]⟩
abbrev S1024x1536 : Shape := ⟨2, ![1024, 1536]⟩
abbrev S1024x4864 : Shape := ⟨2, ![1024, 4864]⟩
abbrev S1024x8 : Shape := ⟨2, ![1024, 8]⟩
abbrev S1024x6528 : Shape := ⟨2, ![1024, 6528]⟩
abbrev S16384x1024 : Shape := ⟨2, ![16384, 1024]⟩
abbrev S1024x2176 : Shape := ⟨2, ![1024, 2176]⟩
abbrev S1024x1024 : Shape := ⟨2, ![1024, 1024]⟩

abbrev nBuf : Space → Nat
  | .hbm => 16
  | .vmem => 6
  | .smem => 0
  | _ => 0

abbrev bufTy : (tb : Table) → Fin (tcTables nBuf tb) → BufTy
  | .hbm, ⟨0, _⟩ => ⟨S1024x6408, .f32⟩
  | .hbm, ⟨1, _⟩ => ⟨S16384x6408, .f32⟩
  | .hbm, ⟨2, _⟩ => ⟨S_, .f32⟩
  | .hbm, ⟨3, _⟩ => ⟨S16384x120, .f32⟩
  | .hbm, ⟨4, _⟩ => ⟨S16384x1536, .f32⟩
  | .hbm, ⟨5, _⟩ => ⟨S16384x4864, .f32⟩
  | .hbm, ⟨6, _⟩ => ⟨S16384x8, .f32⟩
  | .hbm, ⟨7, _⟩ => ⟨S16384x6528, .f32⟩
  | .hbm, ⟨8, _⟩ => ⟨S_, .f32⟩
  | .hbm, ⟨9, _⟩ => ⟨S1024x120, .f32⟩
  | .hbm, ⟨10, _⟩ => ⟨S1024x1536, .f32⟩
  | .hbm, ⟨11, _⟩ => ⟨S1024x4864, .f32⟩
  | .hbm, ⟨12, _⟩ => ⟨S1024x8, .f32⟩
  | .hbm, ⟨13, _⟩ => ⟨S1024x6528, .f32⟩
  | .hbm, ⟨14, _⟩ => ⟨S1024x6528, .bf16⟩
  | .hbm, ⟨15, _⟩ => ⟨S16384x1024, .f32⟩
  | .local _ .vmem, ⟨0, _⟩ => ⟨S1024x2176, .f32⟩
  | .local _ .vmem, ⟨1, _⟩ => ⟨S1024x2176, .f32⟩
  | .local _ .vmem, ⟨2, _⟩ => ⟨S1024x2176, .bf16⟩
  | .local _ .vmem, ⟨3, _⟩ => ⟨S1024x2176, .bf16⟩
  | .local _ .vmem, ⟨4, _⟩ => ⟨S1024x1024, .f32⟩
  | .local _ .vmem, ⟨5, _⟩ => ⟨S1024x1024, .f32⟩
  | _, _ => ⟨S1024x6408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 3], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S1024x6408 : Shape := ⟨2, ![1024, 6408]⟩
abbrev S16384x6408 : Shape := ⟨2, ![16384, 6408]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x6408, .f32⟩
  | .hbm, ⟨1, _⟩ => ⟨S16384x6408, .f32⟩
  | .hbm, ⟨2, _⟩ => ⟨S_, .f32⟩
  | .hbm, ⟨3, _⟩ => ⟨S16384x1024, .f32⟩
  | .hbm, ⟨4, _⟩ => ⟨S16384x6408, .f32⟩
  | .hbm, ⟨5, _⟩ => ⟨S16384x1024, .f32⟩
  | _, _ => ⟨S1024x6408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S16384x1024 : Shape := ⟨2, ![16384, 1024]⟩
abbrev S16384x6408 : Shape := ⟨2, ![16384, 6408]⟩
abbrev S_ : Shape := ⟨0, ![]⟩
abbrev S16384x120 : Shape := ⟨2, ![16384, 120]⟩
abbrev S16384x1536 : Shape := ⟨2, ![16384, 1536]⟩
abbrev S16384x4864 : Shape := ⟨2, ![16384, 4864]⟩
abbrev S16384x8 : Shape := ⟨2, ![16384, 8]⟩
abbrev S16384x6528 : Shape := ⟨2, ![16384, 6528]⟩
abbrev S1024x6528 : Shape := ⟨2, ![1024, 6528]⟩
abbrev S512x1024 : Shape := ⟨2, ![512, 1024]⟩
abbrev S512x2176 : Shape := ⟨2, ![512, 2176]⟩
abbrev S1024x2176 : Shape := ⟨2, ![1024, 2176]⟩
abbrev S1024x1536 : Shape := ⟨2, ![1024, 1536]⟩
abbrev S1024x8 : Shape := ⟨2, ![1024, 8]⟩
abbrev S1024x4864 : Shape := ⟨2, ![1024, 4864]⟩
abbrev S1024x6408 : Shape := ⟨2, ![1024, 6408]⟩

abbrev nBuf : Space → Nat
  | .hbm => 13
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x6408, .f32⟩
  | .hbm, ⟨2, _⟩ => ⟨S_, .f32⟩
  | .hbm, ⟨3, _⟩ => ⟨S16384x120, .f32⟩
  | .hbm, ⟨4, _⟩ => ⟨S16384x1536, .f32⟩
  | .hbm, ⟨5, _⟩ => ⟨S16384x4864, .f32⟩
  | .hbm, ⟨6, _⟩ => ⟨S16384x8, .f32⟩
  | .hbm, ⟨7, _⟩ => ⟨S16384x6528, .f32⟩
  | .hbm, ⟨8, _⟩ => ⟨S1024x6528, .f32⟩
  | .hbm, ⟨9, _⟩ => ⟨S1024x1536, .f32⟩
  | .hbm, ⟨10, _⟩ => ⟨S1024x8, .f32⟩
  | .hbm, ⟨11, _⟩ => ⟨S1024x4864, .f32⟩
  | .hbm, ⟨12, _⟩ => ⟨S1024x6408, .f32⟩
  | .local _ .vmem, ⟨0, _⟩ => ⟨S512x1024, .f32⟩
  | .local _ .vmem, ⟨1, _⟩ => ⟨S512x1024, .f32⟩
  | .local _ .vmem, ⟨2, _⟩ => ⟨S512x2176, .f32⟩
  | .local _ .vmem, ⟨3, _⟩ => ⟨S512x2176, .f32⟩
  | .local _ .vmem, ⟨4, _⟩ => ⟨S1024x2176, .f32⟩
  | .local _ .vmem, ⟨5, _⟩ => ⟨S1024x2176, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 32], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S16384x1024 : Shape := ⟨2, ![16384, 1024]⟩
abbrev S16384x6408 : Shape := ⟨2, ![16384, 6408]⟩
abbrev S_ : Shape := ⟨0, ![]⟩
abbrev S1024x6408 : Shape := ⟨2, ![1024, 6408]⟩
abbrev S6408x1024 : Shape := ⟨2, ![6408, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6408, .f32⟩
  | .hbm, ⟨2, _⟩ => ⟨S_, .f32⟩
  | .hbm, ⟨3, _⟩ => ⟨S1024x6408, .f32⟩
  | .hbm, ⟨4, _⟩ => ⟨S16384x6408, .f32⟩
  | .hbm, ⟨5, _⟩ => ⟨S6408x1024, .f32⟩
  | .hbm, ⟨6, _⟩ => ⟨S1024x6408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InFwd.lean ====
abbrev S16384x1024 : Shape := ⟨2, ![16384, 1024]⟩
abbrev S1024x6408 : Shape := ⟨2, ![1024, 6408]⟩
abbrev S_ : Shape := ⟨0, ![]⟩
abbrev S1024x120 : Shape := ⟨2, ![1024, 120]⟩
abbrev S1024x1536 : Shape := ⟨2, ![1024, 1536]⟩
abbrev S1024x4864 : Shape := ⟨2, ![1024, 4864]⟩
abbrev S1024x8 : Shape := ⟨2, ![1024, 8]⟩
abbrev S1024x6528 : Shape := ⟨2, ![1024, 6528]⟩
abbrev S16384x6528 : Shape := ⟨2, ![16384, 6528]⟩
abbrev S256x1024 : Shape := ⟨2, ![256, 1024]⟩
abbrev S256x6528 : Shape := ⟨2, ![256, 6528]⟩
abbrev S16384x1536 : Shape := ⟨2, ![16384, 1536]⟩
abbrev S16384x8 : Shape := ⟨2, ![16384, 8]⟩
abbrev S16384x4864 : Shape := ⟨2, ![16384, 4864]⟩
abbrev S16384x6408 : Shape := ⟨2, ![16384, 6408]⟩

abbrev nBuf : Space → Nat
  | .hbm => 14
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x6408, .f32⟩
  | .hbm, ⟨2, _⟩ => ⟨S_, .f32⟩
  | .hbm, ⟨3, _⟩ => ⟨S1024x120, .f32⟩
  | .hbm, ⟨4, _⟩ => ⟨S1024x1536, .f32⟩
  | .hbm, ⟨5, _⟩ => ⟨S1024x4864, .f32⟩
  | .hbm, ⟨6, _⟩ => ⟨S1024x8, .f32⟩
  | .hbm, ⟨7, _⟩ => ⟨S1024x6528, .f32⟩
  | .hbm, ⟨8, _⟩ => ⟨S1024x6528, .bf16⟩
  | .hbm, ⟨9, _⟩ => ⟨S16384x6528, .f32⟩
  | .hbm, ⟨10, _⟩ => ⟨S16384x1536, .f32⟩
  | .hbm, ⟨11, _⟩ => ⟨S16384x8, .f32⟩
  | .hbm, ⟨12, _⟩ => ⟨S16384x4864, .f32⟩
  | .hbm, ⟨13, _⟩ => ⟨S16384x6408, .f32⟩
  | .local _ .vmem, ⟨0, _⟩ => ⟨S256x1024, .f32⟩
  | .local _ .vmem, ⟨1, _⟩ => ⟨S256x1024, .f32⟩
  | .local _ .vmem, ⟨2, _⟩ => ⟨S1024x6528, .bf16⟩
  | .local _ .vmem, ⟨3, _⟩ => ⟨S256x6528, .f32⟩
  | .local _ .vmem, ⟨4, _⟩ => ⟨S256x6528, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 64, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x6528 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x6528 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S16384x1024 : Shape := ⟨2, ![16384, 1024]⟩
abbrev S1024x6408 : Shape := ⟨2, ![1024, 6408]⟩
abbrev S16384x6408 : Shape := ⟨2, ![16384, 6408]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6408, .f32⟩
  | .hbm, ⟨2, _⟩ => ⟨S16384x6408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S1024x1024 : Shape := ⟨2, ![1024, 1024]⟩
abbrev S16384x1024 : Shape := ⟨2, ![16384, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S1024x1024 : Shape := ⟨2, ![1024, 1024]⟩
abbrev S16384x1024 : Shape := ⟨2, ![16384, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwd.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchDx.lean ====
abbrev S512x1024 : Shape := ⟨2, ![512, 1024]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S16384x1024, .f32⟩
  | .hbm, ⟨2, _⟩ => ⟨S512x1024, .bf16⟩
  | .hbm, ⟨3, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S512x1024 : Shape := ⟨2, ![512, 1024]⟩
abbrev S16384x1024 : Shape := ⟨2, ![16384, 1024]⟩
abbrev S_ : Shape := ⟨0, ![]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S16384x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchDw.lean ====
abbrev S16384x512 : Shape := ⟨2, ![16384, 512]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchFwd.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S512x1024, .bf16⟩
  | .hbm, ⟨3, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ActBwd.lean ====
abbrev S16384x5632 : Shape := ⟨2, ![16384, 5632]⟩
abbrev S16384x2816 : Shape := ⟨2, ![16384, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x5632, .f32⟩
  | .local _ .vmem, ⟨0, _⟩ => ⟨S256x5632, .f32⟩
  | .local _ .vmem, ⟨1, _⟩ => ⟨S256x5632, .f32⟩
  | .local _ .vmem, ⟨2, _⟩ => ⟨S256x2816, .f32⟩
  | .local _ .vmem, ⟨3, _⟩ => ⟨S256x2816, .f32⟩
  | .local _ .vmem, ⟨4, _⟩ => ⟨S256x5632, .f32⟩
  | .local _ .vmem, ⟨5, _⟩ => ⟨S256x5632, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActBwdRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x5632, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩

abbrev nD : Nat := 1
abbrev τ : Topo := Topo.v7x

variable {F : FTy → Type} [FloatOps F]
-- ==== ActFwd.lean ====
abbrev S16384x5632 : Shape := ⟨2, ![16384, 5632]⟩
abbrev S16384x2816 : Shape := ⟨2, ![16384, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .local _ .vmem, ⟨0, _⟩ => ⟨S256x5632, .f32⟩
  | .local _ .vmem, ⟨1, _⟩ => ⟨S256x5632, .f32⟩
  | .local _ .vmem, ⟨2, _⟩ => ⟨S256x2816, .f32⟩
  | .local _ .vmem, ⟨3, _⟩ => ⟨S256x2816, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ActFwdRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S_, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== AdamGu.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuRefIdeal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x352x1024 : Shape := ⟨3, ![2, 352, 1024]⟩
abbrev S704x1024 : Shape := ⟨2, ![704, 1024]⟩
abbrev S176x1024 : Shape := ⟨2, ![176, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x352x1024 : Shape := ⟨3, ![2, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x1024x801 : Shape := ⟨3, ![2, 1024, 801]⟩
abbrev S2048x801 : Shape := ⟨2, ![2048, 801]⟩
abbrev S256x801 : Shape := ⟨2, ![256, 801]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x801, .f32⟩
  | .hbm, ⟨1, _⟩ => ⟨S2x1024x801, .f32⟩
  | .hbm, ⟨2, _⟩ => ⟨S2x1024x801, .f32⟩
  | .hbm, ⟨3, _⟩ => ⟨S2x1024x801, .f32⟩
  | .hbm, ⟨4, _⟩ => ⟨S2048x801, .f32⟩
  | .hbm, ⟨5, _⟩ => ⟨S2048x801, .f32⟩
  | .hbm, ⟨6, _⟩ => ⟨S2048x801, .f32⟩
  | .hbm, ⟨7, _⟩ => ⟨S2048x801, .f32⟩
  | .hbm, ⟨8, _⟩ => ⟨S2048x801, .f32⟩
  | .hbm, ⟨9, _⟩ => ⟨S2048x801, .f32⟩
  | .hbm, ⟨10, _⟩ => ⟨S2048x801, .f32⟩
  | .hbm, ⟨11, _⟩ => ⟨S2x1024x801, .f32⟩
  | .hbm, ⟨12, _⟩ => ⟨S2x1024x801, .f32⟩
  | .hbm, ⟨13, _⟩ => ⟨S2x1024x801, .f32⟩
  | .local _ .vmem, ⟨0, _⟩ => ⟨S256x801, .f32⟩
  | .local _ .vmem, ⟨1, _⟩ => ⟨S256x801, .f32⟩
  | .local _ .vmem, ⟨2, _⟩ => ⟨S256x801, .f32⟩
  | .local _ .vmem, ⟨3, _⟩ => ⟨S256x801, .f32⟩
  | .local _ .vmem, ⟨4, _⟩ => ⟨S256x801, .f32⟩
  | .local _ .vmem, ⟨5, _⟩ => ⟨S256x801, .f32⟩
  | .local _ .vmem, ⟨6, _⟩ => ⟨S256x801, .f32⟩
  | .local _ .vmem, ⟨7, _⟩ => ⟨S256x801, .f32⟩
  | .local _ .vmem, ⟨8, _⟩ => ⟨S256x801, .f32⟩
  | .local _ .vmem, ⟨9, _⟩ => ⟨S256x801, .f32⟩
  | .local _ .vmem, ⟨10, _⟩ => ⟨S256x801, .f32⟩
  | .local _ .vmem, ⟨11, _⟩ => ⟨S256x801, .f32⟩
  | .local _ .vmem, ⟨12, _⟩ => ⟨S256x801, .f32⟩
  | .local _ .vmem, ⟨13, _⟩ => ⟨S256x801, .f32⟩
  | _, _ => ⟨S2x1024x801, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x801 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x801 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x801 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x801 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x801 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x801 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x801 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x1024x801 : Shape := ⟨3, ![2, 1024, 801]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x801, .f32⟩
  | .hbm, ⟨1, _⟩ => ⟨S2x1024x801, .f32⟩
  | .hbm, ⟨2, _⟩ => ⟨S2x1024x801, .f32⟩
  | .hbm, ⟨3, _⟩ => ⟨S2x1024x801, .f32⟩
  | .hbm, ⟨4, _⟩ => ⟨S_, .f32⟩
  | .hbm, ⟨5, _⟩ => ⟨S2x1024x801, .f32⟩
  | .hbm, ⟨6, _⟩ => ⟨S2x1024x801, .f32⟩
  | .hbm, ⟨7, _⟩ => ⟨S_, .f32⟩
  | .hbm, ⟨8, _⟩ => ⟨S2x1024x801, .f32⟩
  | .hbm, ⟨9, _⟩ => ⟨S2x1024x801, .f32⟩
  | .hbm, ⟨10, _⟩ => ⟨S2x1024x801, .f32⟩
  | .hbm, ⟨11, _⟩ => ⟨S_, .f32⟩
  | .hbm, ⟨12, _⟩ => ⟨S2x1024x801, .f32⟩
  | .hbm, ⟨13, _⟩ => ⟨S2x1024x801, .f32⟩
  | .hbm, ⟨14, _⟩ => ⟨S2x1024x801, .f32⟩
  | .hbm, ⟨15, _⟩ => ⟨S_, .f32⟩
  | .hbm, ⟨16, _⟩ => ⟨S2x1024x801, .f32⟩
  | .hbm, ⟨17, _⟩ => ⟨S2x1024x801, .f32⟩
  | .hbm, ⟨18, _⟩ => ⟨S2x1024x801, .f32⟩
  | .hbm, ⟨19, _⟩ => ⟨S_, .f32⟩
  | .hbm, ⟨20, _⟩ => ⟨S2x1024x801, .f32⟩
  | .hbm, ⟨21, _⟩ => ⟨S2x1024x801, .f32⟩
  | .hbm, ⟨22, _⟩ => ⟨S_, .f32⟩
  | .hbm, ⟨23, _⟩ => ⟨S2x1024x801, .f32⟩
  | .hbm, ⟨24, _⟩ => ⟨S2x1024x801, .f32⟩
  | .hbm, ⟨25, _⟩ => ⟨S2x1024x801, .f32⟩
  | .hbm, ⟨26, _⟩ => ⟨S_, .f32⟩
  | .hbm, ⟨27, _⟩ => ⟨S2x1024x801, .f32⟩
  | .hbm, ⟨28, _⟩ => ⟨S2x1024x801, .f32⟩
  | .hbm, ⟨29, _⟩ => ⟨S2x1024x801, .f32⟩
  | .hbm, ⟨30, _⟩ => ⟨S_, .f32⟩
  | .hbm, ⟨31, _⟩ => ⟨S2x1024x801, .f32⟩
  | .hbm, ⟨32, _⟩ => ⟨S2x1024x801, .f32⟩
  | .hbm, ⟨33, _⟩ => ⟨S2x1024x801, .f32⟩
  | .hbm, ⟨34, _⟩ => ⟨S_, .f32⟩
  | .hbm, ⟨35, _⟩ => ⟨S2x1024x801, .f32⟩
  | .hbm, ⟨36, _⟩ => ⟨S2x1024x801, .f32⟩
  | _, _ => ⟨S2x1024x801, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2x128x1024 : Shape := ⟨3, ![2, 128, 1024]⟩
abbrev S256x1024 : Shape := ⟨2, ![256, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvRefIdeal.lean ====
abbrev S2x128x1024 : Shape := ⟨3, ![2, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S2x3x512x128 : Shape := ⟨4, ![2, 3, 512, 128]⟩
abbrev S3072x128 : Shape := ⟨2, ![3072, 128]⟩
abbrev S256x128 : Shape := ⟨2, ![256, 128]⟩

abbrev nBuf : Space → Nat
  | .hbm => 14
  | .vmem => 14
  | .smem => 0
  | _ => 0

abbrev bufTy : (tb : Table) → Fin (tcTables nBuf tb) → BufTy
  | .hbm, ⟨0, _⟩ => ⟨S2x3x512x128, .f32⟩
  | .hbm, ⟨1, _⟩ => ⟨S2x3x512x128, .f32⟩
  | .hbm, ⟨2, _⟩ => ⟨S2x3x512x128, .f32⟩
  | .hbm, ⟨3, _⟩ => ⟨S2x3x512x128, .f32⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S2x3x512x128, .f32⟩
  | .hbm, ⟨12, _⟩ => ⟨S2x3x512x128, .f32⟩
  | .hbm, ⟨13, _⟩ => ⟨S2x3x512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x3x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S2x3x512x128 : Shape := ⟨4, ![2, 3, 512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x512x128, .f32⟩
  | .hbm, ⟨1, _⟩ => ⟨S2x3x512x128, .f32⟩
  | .hbm, ⟨2, _⟩ => ⟨S2x3x512x128, .f32⟩
  | .hbm, ⟨3, _⟩ => ⟨S2x3x512x128, .f32⟩
  | .hbm, ⟨4, _⟩ => ⟨S_, .f32⟩
  | .hbm, ⟨5, _⟩ => ⟨S2x3x512x128, .f32⟩
  | .hbm, ⟨6, _⟩ => ⟨S2x3x512x128, .f32⟩
  | .hbm, ⟨7, _⟩ => ⟨S_, .f32⟩
  | .hbm, ⟨8, _⟩ => ⟨S2x3x512x128, .f32⟩
  | .hbm, ⟨9, _⟩ => ⟨S2x3x512x128, .f32⟩
  | .hbm, ⟨10, _⟩ => ⟨S2x3x512x128, .f32⟩
  | .hbm, ⟨11, _⟩ => ⟨S_, .f32⟩
  | .hbm, ⟨12, _⟩ => ⟨S2x3x512x128, .f32⟩
  | .hbm, ⟨13, _⟩ => ⟨S2x3x512x128, .f32⟩
  | .hbm, ⟨14, _⟩ => ⟨S2x3x512x128, .f32⟩
  | .hbm, ⟨15, _⟩ => ⟨S_, .f32⟩
  | .hbm, ⟨16, _⟩ => ⟨S2x3x512x128, .f32⟩
  | .hbm, ⟨17, _⟩ => ⟨S2x3x512x128, .f32⟩
  | .hbm, ⟨18, _⟩ => ⟨S2x3x512x128, .f32⟩
  | .hbm, ⟨19, _⟩ => ⟨S_, .f32⟩
  | .hbm, ⟨20, _⟩ => ⟨S2x3x512x128, .f32⟩
  | .hbm, ⟨21, _⟩ => ⟨S2x3x512x128, .f32⟩
  | .hbm, ⟨22, _⟩ => ⟨S_, .f32⟩
  | .hbm, ⟨23, _⟩ => ⟨S2x3x512x128, .f32⟩
  | .hbm, ⟨24, _⟩ => ⟨S2x3x512x128, .f32⟩
  | .hbm, ⟨25, _⟩ => ⟨S2x3x512x128, .f32⟩
  | .hbm, ⟨26, _⟩ => ⟨S_, .f32⟩
  | .hbm, ⟨27, _⟩ => ⟨S2x3x512x128, .f32⟩
  | .hbm, ⟨28, _⟩ => ⟨S2x3x512x128, .f32⟩
  | .hbm, ⟨29, _⟩ => ⟨S2x3x512x128, .f32⟩
  | .hbm, ⟨30, _⟩ => ⟨S_, .f32⟩
  | .hbm, ⟨31, _⟩ => ⟨S2x3x512x128, .f32⟩
  | .hbm, ⟨32, _⟩ => ⟨S2x3x512x128, .f32⟩
  | .hbm, ⟨33, _⟩ => ⟨S2x3x512x128, .f32⟩
  | .hbm, ⟨34, _⟩ => ⟨S_, .f32⟩
  | .hbm, ⟨35, _⟩ => ⟨S2x3x512x128, .f32⟩
  | .hbm, ⟨36, _⟩ => ⟨S2x3x512x128, .f32⟩
  | _, _ => ⟨S2x3x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2x3x128 : Shape := ⟨3, ![2, 3, 128]⟩
abbrev S2x4x192 : Shape := ⟨3, ![2, 4, 192]⟩
abbrev S1024 : Shape := ⟨1, ![1024]⟩
abbrev S2x4 : Shape := ⟨2, ![2, 4]⟩
abbrev S2x128 : Shape := ⟨2, ![2, 128]⟩
abbrev S2x8 : Shape := ⟨2, ![2, 8]⟩
abbrev S768 : Shape := ⟨1, ![768]⟩
abbrev S1536 : Shape := ⟨1, ![1536]⟩
abbrev S8 : Shape := ⟨1, ![8]⟩
abbrev S256 : Shape := ⟨1, ![256]⟩
abbrev S16 : Shape := ⟨1, ![16]⟩
abbrev S5408 : Shape := ⟨1, ![5408]⟩
abbrev S_ : Shape := ⟨0, ![]⟩
abbrev S736 : Shape := ⟨1, ![736]⟩
abbrev S6144 : Shape := ⟨1, ![6144]⟩
abbrev S48x128 : Shape := ⟨2, ![48, 128]⟩

abbrev nBuf : Space → Nat
  | .hbm => 138
  | .vmem => 7
  | .smem => 0
  | _ => 0

abbrev hbmTy0_0 (i : Nat) : BufTy := match i % 128 with
  | 0 => ⟨S2x3x128, .f32⟩
  | 1 => ⟨S2x3x128, .f32⟩
  | 2 => ⟨S2x4x192, .f32⟩
  | 3 => ⟨S1024, .f32⟩
  | 4 => ⟨S1024, .f32⟩
  | 5 => ⟨S2x4, .f32⟩
  | 6 => ⟨S2x4, .f32⟩
  | 7 => ⟨S2x128, .f32⟩
  | 8 => ⟨S2x8, .f32⟩
  | 9 => ⟨S2x3x128, .f32⟩
  | 10 => ⟨S2x3x128, .f32⟩
  | 11 => ⟨S2x4x192, .f32⟩
  | 12 => ⟨S1024, .f32⟩
  | 13 => ⟨S1024, .f32⟩
  | 14 => ⟨S2x4, .f32⟩
  | 15 => ⟨S2x4, .f32⟩
  | 16 => ⟨S2x128, .f32⟩
  | 17 => ⟨S2x8, .f32⟩
  | 18 => ⟨S2x3x128, .f32⟩
  | 19 => ⟨S2x3x128, .f32⟩
  | 20 => ⟨S2x4x192, .f32⟩
  | 21 => ⟨S1024, .f32⟩
  | 22 => ⟨S1024, .f32⟩
  | 23 => ⟨S2x4, .f32⟩
  | 24 => ⟨S2x4, .f32⟩
  | 25 => ⟨S2x128, .f32⟩
  | 26 => ⟨S2x8, .f32⟩
  | 27 => ⟨S2x3x128, .f32⟩
  | 28 => ⟨S2x3x128, .f32⟩
  | 29 => ⟨S2x4x192, .f32⟩
  | 30 => ⟨S1024, .f32⟩
  | 31 => ⟨S1024, .f32⟩
  | 32 => ⟨S2x4, .f32⟩
  | 33 => ⟨S2x4, .f32⟩
  | 34 => ⟨S2x128, .f32⟩
  | 35 => ⟨S2x8, .f32⟩
  | 36 => ⟨S768, .f32⟩
  | 37 => ⟨S768, .f32⟩
  | 38 => ⟨S1536, .f32⟩
  | 39 => ⟨S8, .f32⟩
  | 40 => ⟨S8, .f32⟩
  | 41 => ⟨S256, .f32⟩
  | 42 => ⟨S16, .f32⟩
  | 43 => ⟨S5408, .f32⟩
  | 44 => ⟨S_, .f32⟩
  | 45 => ⟨S736, .f32⟩
  | 46 => ⟨S6144, .f32⟩
  | 47 => ⟨S48x128, .f32⟩
  | 48 => ⟨S768, .f32⟩
  | 49 => ⟨S768, .f32⟩
  | 50 => ⟨S1536, .f32⟩
  | 51 => ⟨S8, .f32⟩
  | 52 => ⟨S8, .f32⟩
  | 53 => ⟨S256, .f32⟩
  | 54 => ⟨S16, .f32⟩
  | 55 => ⟨S5408, .f32⟩
  | 56 => ⟨S_, .f32⟩
  | 57 => ⟨S736, .f32⟩
  | 58 => ⟨S6144, .f32⟩
  | 59 => ⟨S48x128, .f32⟩
  | 60 => ⟨S768, .f32⟩
  | 61 => ⟨S768, .f32⟩
  | 62 => ⟨S1536, .f32⟩
  | 63 => ⟨S8, .f32⟩
  | 64 => ⟨S8, .f32⟩
  | 65 => ⟨S256, .f32⟩
  | 66 => ⟨S16, .f32⟩
  | 67 => ⟨S5408, .f32⟩
  | 68 => ⟨S_, .f32⟩
  | 69 => ⟨S736, .f32⟩
  | 70 => ⟨S6144, .f32⟩
  | 71 => ⟨S48x128, .f32⟩
  | 72 => ⟨S768, .f32⟩
  | 73 => ⟨S768, .f32⟩
  | 74 => ⟨S1536, .f32⟩
  | 75 => ⟨S8, .f32⟩
  | 76 => ⟨S8, .f32⟩
  | 77 => ⟨S256, .f32⟩
  | 78 => ⟨S16, .f32⟩
  | 79 => ⟨S5408, .f32⟩
  | 80 => ⟨S_, .f32⟩
  | 81 => ⟨S736, .f32⟩
  | 82 => ⟨S6144, .f32⟩
  | 83 => ⟨S48x128, .f32⟩
  | 84 => ⟨S48x128, .f32⟩
  | 85 => ⟨S48x128, .f32⟩
  | 86 => ⟨S48x128, .f32⟩
  | 87 => ⟨S6144, .f32⟩
  | 88 => ⟨S768, .f32⟩
  | 89 => ⟨S2x3x128, .f32⟩
  | 90 => ⟨S768, .f32⟩
  | 91 => ⟨S2x3x128, .f32⟩
  | 92 => ⟨S1536, .f32⟩
  | 93 => ⟨S2x4x192, .f32⟩
  | 94 => ⟨S1024, .f32⟩
  | 95 => ⟨S1024, .f32⟩
  | 96 => ⟨S8, .f32⟩
  | 97 => ⟨S2x4, .f32⟩
  | 98 => ⟨S8, .f32⟩
  | 99 => ⟨S2x4, .f32⟩
  | 100 => ⟨S256, .f32⟩
  | 101 => ⟨S2x128, .f32⟩
  | 102 => ⟨S16, .f32⟩
  | 103 => ⟨S2x8, .f32⟩
  | 104 => ⟨S6144, .f32⟩
  | 105 => ⟨S768, .f32⟩
  | 106 => ⟨S2x3x128, .f32⟩
  | 107 => ⟨S768, .f32⟩
  | 108 => ⟨S2x3x128, .f32⟩
  | 109 => ⟨S1536, .f32⟩
  | 110 => ⟨S2x4x192, .f32⟩
  | 111 => ⟨S1024, .f32⟩
  | 112 => ⟨S1024, .f32⟩
  | 113 => ⟨S8, .f32⟩
  | 114 => ⟨S2x4, .f32⟩
  | 115 => ⟨S8, .f32⟩
  | 116 => ⟨S2x4, .f32⟩
  | 117 => ⟨S256, .f32⟩
  | 118 => ⟨S2x128, .f32⟩
  | 119 => ⟨S16, .f32⟩
  | 120 => ⟨S2x8, .f32⟩
  | 121 => ⟨S6144, .f32⟩
  | 122 => ⟨S768, .f32⟩
  | 123 => ⟨S2x3x128, .f32⟩
  | 124 => ⟨S768, .f32⟩
  | 125 => ⟨S2x3x128, .f32⟩
  | 126 => ⟨S1536, .f32⟩
  | 127 => ⟨S2x4x192, .f32⟩
  | _ => ⟨S2x3x128, .f32⟩

abbrev hbmTy0_1 (i : Nat) : BufTy := match i % 128 with
  | 0 => ⟨S1024, .f32⟩
  | 1 => ⟨S1024, .f32⟩
  | 2 => ⟨S8, .f32⟩
  | 3 => ⟨S2x4, .f32⟩
  | 4 => ⟨S8, .f32⟩
  | 5 => ⟨S2x4, .f32⟩
  | 6 => ⟨S256, .f32⟩
  | 7 => ⟨S2x128, .f32⟩
  | 8 => ⟨S16, .f32⟩
  | 9 => ⟨S2x8, .f32⟩
  | _ => ⟨S2x3x128, .f32⟩

abbrev hbmTy (i : Nat) : BufTy := match i / 128 with
  | 0 => hbmTy0_0 i
  | 1 => hbmTy0_1 i
  | _ => ⟨S2x3x128, .f32⟩

abbrev bufTy : (tb : Table) → Fin (tcTables nBuf tb) → BufTy
  | .hbm, ⟨i, _⟩ => hbmTy i
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_2 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44_0 : Ref sig .tc := ⟨.hbm, 84, rfl⟩
abbrev main_v44_1 : Ref sig .tc := ⟨.hbm, 85, rfl⟩
abbrev main_v44_2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S2x3x128 : Shape := ⟨3, ![2, 3, 128]⟩
abbrev S2x4x192 : Shape := ⟨3, ![2, 4, 192]⟩
abbrev S1024 : Shape := ⟨1, ![1024]⟩
abbrev S2x4 : Shape := ⟨2, ![2, 4]⟩
abbrev S2x128 : Shape := ⟨2, ![2, 128]⟩
abbrev S2x8 : Shape := ⟨2, ![2, 8]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S2x3x128, .f32⟩
  | 1 => ⟨S2x3x128, .f32⟩
  | 2 => ⟨S2x4x192, .f32⟩
  | 3 => ⟨S1024, .f32⟩
  | 4 => ⟨S1024, .f32⟩
  | 5 => ⟨S2x4, .f32⟩
  | 6 => ⟨S2x4, .f32⟩
  | 7 => ⟨S2x128, .f32⟩
  | 8 => ⟨S2x8, .f32⟩
  | 9 => ⟨S2x3x128, .f32⟩
  | 10 => ⟨S2x3x128, .f32⟩
  | 11 => ⟨S2x4x192, .f32⟩
  | 12 => ⟨S1024, .f32⟩
  | 13 => ⟨S1024, .f32⟩
  | 14 => ⟨S2x4, .f32⟩
  | 15 => ⟨S2x4, .f32⟩
  | 16 => ⟨S2x128, .f32⟩
  | 17 => ⟨S2x8, .f32⟩
  | 18 => ⟨S2x3x128, .f32⟩
  | 19 => ⟨S2x3x128, .f32⟩
  | 20 => ⟨S2x4x192, .f32⟩
  | 21 => ⟨S1024, .f32⟩
  | 22 => ⟨S1024, .f32⟩
  | 23 => ⟨S2x4, .f32⟩
  | 24 => ⟨S2x4, .f32⟩
  | 25 => ⟨S2x128, .f32⟩
  | 26 => ⟨S2x8, .f32⟩
  | 27 => ⟨S2x3x128, .f32⟩
  | 28 => ⟨S2x3x128, .f32⟩
  | 29 => ⟨S2x4x192, .f32⟩
  | 30 => ⟨S1024, .f32⟩
  | 31 => ⟨S1024, .f32⟩
  | 32 => ⟨S2x4, .f32⟩
  | 33 => ⟨S2x4, .f32⟩
  | 34 => ⟨S2x128, .f32⟩
  | 35 => ⟨S2x8, .f32⟩
  | 36 => ⟨S_, .f32⟩
  | 37 => ⟨S2x3x128, .f32⟩
  | 38 => ⟨S2x3x128, .f32⟩
  | 39 => ⟨S_, .f32⟩
  | 40 => ⟨S2x3x128, .f32⟩
  | 41 => ⟨S2x3x128, .f32⟩
  | 42 => ⟨S2x3x128, .f32⟩
  | 43 => ⟨S_, .f32⟩
  | 44 => ⟨S2x3x128, .f32⟩
  | 45 => ⟨S2x3x128, .f32⟩
  | 46 => ⟨S2x3x128, .f32⟩
  | 47 => ⟨S_, .f32⟩
  | 48 => ⟨S2x3x128, .f32⟩
  | 49 => ⟨S2x3x128, .f32⟩
  | 50 => ⟨S2x3x128, .f32⟩
  | 51 => ⟨S_, .f32⟩
  | 52 => ⟨S2x3x128, .f32⟩
  | 53 => ⟨S2x3x128, .f32⟩
  | 54 => ⟨S_, .f32⟩
  | 55 => ⟨S2x3x128, .f32⟩
  | 56 => ⟨S2x3x128, .f32⟩
  | 57 => ⟨S2x3x128, .f32⟩
  | 58 => ⟨S_, .f32⟩
  | 59 => ⟨S2x3x128, .f32⟩
  | 60 => ⟨S2x3x128, .f32⟩
  | 61 => ⟨S2x3x128, .f32⟩
  | 62 => ⟨S_, .f32⟩
  | 63 => ⟨S2x3x128, .f32⟩
  | 64 => ⟨S2x3x128, .f32⟩
  | 65 => ⟨S2x3x128, .f32⟩
  | 66 => ⟨S_, .f32⟩
  | 67 => ⟨S2x3x128, .f32⟩
  | 68 => ⟨S2x3x128, .f32⟩
  | 69 => ⟨S_, .f32⟩
  | 70 => ⟨S2x3x128, .f32⟩
  | 71 => ⟨S2x3x128, .f32⟩
  | 72 => ⟨S_, .f32⟩
  | 73 => ⟨S2x3x128, .f32⟩
  | 74 => ⟨S2x3x128, .f32⟩
  | 75 => ⟨S2x3x128, .f32⟩
  | 76 => ⟨S_, .f32⟩
  | 77 => ⟨S2x3x128, .f32⟩
  | 78 => ⟨S2x3x128, .f32⟩
  | 79 => ⟨S2x3x128, .f32⟩
  | 80 => ⟨S_, .f32⟩
  | 81 => ⟨S2x3x128, .f32⟩
  | 82 => ⟨S2x3x128, .f32⟩
  | 83 => ⟨S2x3x128, .f32⟩
  | 84 => ⟨S_, .f32⟩
  | 85 => ⟨S2x3x128, .f32⟩
  | 86 => ⟨S2x3x128, .f32⟩
  | 87 => ⟨S_, .f32⟩
  | 88 => ⟨S2x3x128, .f32⟩
  | 89 => ⟨S2x3x128, .f32⟩
  | 90 => ⟨S2x3x128, .f32⟩
  | 91 => ⟨S_, .f32⟩
  | 92 => ⟨S2x3x128, .f32⟩
  | 93 => ⟨S2x3x128, .f32⟩
  | 94 => ⟨S2x3x128, .f32⟩
  | 95 => ⟨S_, .f32⟩
  | 96 => ⟨S2x3x128, .f32⟩
  | 97 => ⟨S2x3x128, .f32⟩
  | 98 => ⟨S2x3x128, .f32⟩
  | 99 => ⟨S_, .f32⟩
  | 100 => ⟨S2x3x128, .f32⟩
  | 101 => ⟨S2x3x128, .f32⟩
  | 102 => ⟨S_, .f32⟩
  | 103 => ⟨S2x4x192, .f32⟩
  | 104 => ⟨S2x4x192, .f32⟩
  | 105 => ⟨S_, .f32⟩
  | 106 => ⟨S2x4x192, .f32⟩
  | 107 => ⟨S2x4x192, .f32⟩
  | 108 => ⟨S2x4x192, .f32⟩
  | 109 => ⟨S_, .f32⟩
  | 110 => ⟨S2x4x192, .f32⟩
  | 111 => ⟨S2x4x192, .f32⟩
  | 112 => ⟨S2x4x192, .f32⟩
  | 113 => ⟨S_, .f32⟩
  | 114 => ⟨S2x4x192, .f32⟩
  | 115 => ⟨S2x4x192, .f32⟩
  | 116 => ⟨S2x4x192, .f32⟩
  | 117 => ⟨S_, .f32⟩
  | 118 => ⟨S2x4x192, .f32⟩
  | 119 => ⟨S2x4x192, .f32⟩
  | 120 => ⟨S_, .f32⟩
  | 121 => ⟨S2x4x192, .f32⟩
  | 122 => ⟨S2x4x192, .f32⟩
  | 123 => ⟨S2x4x192, .f32⟩
  | 124 => ⟨S_, .f32⟩
  | 125 => ⟨S2x4x192, .f32⟩
  | 126 => ⟨S2x4x192, .f32⟩
  | 127 => ⟨S2x4x192, .f32⟩
  | _ => ⟨S2x3x128, .f32⟩

abbrev hbmTy0_1 (i : Nat) : BufTy := match i % 128 with
  | 0 => ⟨S_, .f32⟩
  | 1 => ⟨S2x4x192, .f32⟩
  | 2 => ⟨S2x4x192, .f32⟩
  | 3 => ⟨S2x4x192, .f32⟩
  | 4 => ⟨S_, .f32⟩
  | 5 => ⟨S2x4x192, .f32⟩
  | 6 => ⟨S2x4x192, .f32⟩
  | 7 => ⟨S_, .f32⟩
  | 8 => ⟨S1024, .f32⟩
  | 9 => ⟨S1024, .f32⟩
  | 10 => ⟨S_, .f32⟩
  | 11 => ⟨S1024, .f32⟩
  | 12 => ⟨S1024, .f32⟩
  | 13 => ⟨S1024, .f32⟩
  | 14 => ⟨S_, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S_, .f32⟩
  | 74 => ⟨S2x4, .f32⟩
  | 75 => ⟨S2x4, .f32⟩
  | 76 => ⟨S_, .f32⟩
  | 77 => ⟨S2x4, .f32⟩
  | 78 => ⟨S2x4, .f32⟩
  | 79 => ⟨S2x4, .f32⟩
  | 80 => ⟨S_, .f32⟩
  | 81 => ⟨S2x4, .f32⟩
  | 82 => ⟨S2x4, .f32⟩
  | 83 => ⟨S2x4, .f32⟩
  | 84 => ⟨S_, .f32⟩
  | 85 => ⟨S2x4, .f32⟩
  | 86 => ⟨S2x4, .f32⟩
  | 87 => ⟨S2x4, .f32⟩
  | 88 => ⟨S_, .f32⟩
  | 89 => ⟨S2x4, .f32⟩
  | 90 => ⟨S2x4, .f32⟩
  | 91 => ⟨S_, .f32⟩
  | 92 => ⟨S2x4, .f32⟩
  | 93 => ⟨S2x4, .f32⟩
  | 94 => ⟨S2x4, .f32⟩
  | 95 => ⟨S_, .f32⟩
  | 96 => ⟨S2x4, .f32⟩
  | 97 => ⟨S2x4, .f32⟩
  | 98 => ⟨S2x4, .f32⟩
  | 99 => ⟨S_, .f32⟩
  | 100 => ⟨S2x4, .f32⟩
  | 101 => ⟨S2x4, .f32⟩
  | 102 => ⟨S2x4, .f32⟩
  | 103 => ⟨S_, .f32⟩
  | 104 => ⟨S2x4, .f32⟩
  | 105 => ⟨S2x4, .f32⟩
  | 106 => ⟨S_, .f32⟩
  | 107 => ⟨S2x4, .f32⟩
  | 108 => ⟨S2x4, .f32⟩
  | 109 => ⟨S_, .f32⟩
  | 110 => ⟨S2x4, .f32⟩
  | 111 => ⟨S2x4, .f32⟩
  | 112 => ⟨S2x4, .f32⟩
  | 113 => ⟨S_, .f32⟩
  | 114 => ⟨S2x4, .f32⟩
  | 115 => ⟨S2x4, .f32⟩
  | 116 => ⟨S2x4, .f32⟩
  | 117 => ⟨S_, .f32⟩
  | 118 => ⟨S2x4, .f32⟩
  | 119 => ⟨S2x4, .f32⟩
  | 120 => ⟨S2x4, .f32⟩
  | 121 => ⟨S_, .f32⟩
  | 122 => ⟨S2x4, .f32⟩
  | 123 => ⟨S2x4, .f32⟩
  | 124 => ⟨S_, .f32⟩
  | 125 => ⟨S2x4, .f32⟩
  | 126 => ⟨S2x4, .f32⟩
  | 127 => ⟨S2x4, .f32⟩
  | _ => ⟨S2x3x128, .f32⟩

abbrev hbmTy0_2 (i : Nat) : BufTy := match i % 128 with
  | 0 => ⟨S_, .f32⟩
  | 1 => ⟨S2x4, .f32⟩
  | 2 => ⟨S2x4, .f32⟩
  | 3 => ⟨S2x4, .f32⟩
  | 4 => ⟨S_, .f32⟩
  | 5 => ⟨S2x4, .f32⟩
  | 6 => ⟨S2x4, .f32⟩
  | 7 => ⟨S2x4, .f32⟩
  | 8 => ⟨S_, .f32⟩
  | 9 => ⟨S2x4, .f32⟩
  | 10 => ⟨S2x4, .f32⟩
  | 11 => ⟨S_, .f32⟩
  | 12 => ⟨S2x128, .f32⟩
  | 13 => ⟨S2x128, .f32⟩
  | 14 => ⟨S_, .f32⟩
  | 15 => ⟨S2x128, .f32⟩
  | 16 => ⟨S2x128, .f32⟩
  | 17 => ⟨S2x128, .f32⟩
  | 18 => ⟨S_, .f32⟩
  | 19 => ⟨S2x128, .f32⟩
  | 20 => ⟨S2x128, .f32⟩
  | 21 => ⟨S2x128, .f32⟩
  | 22 => ⟨S_, .f32⟩
  | 23 => ⟨S2x128, .f32⟩
  | 24 => ⟨S2x128, .f32⟩
  | 25 => ⟨S2x128, .f32⟩
  | 26 => ⟨S_, .f32⟩
  | 27 => ⟨S2x128, .f32⟩
  | 28 => ⟨S2x128, .f32⟩
  | 29 => ⟨S_, .f32⟩
  | 30 => ⟨S2x128, .f32⟩
  | 31 => ⟨S2x128, .f32⟩
  | 32 => ⟨S2x128, .f32⟩
  | 33 => ⟨S_, .f32⟩
  | 34 => ⟨S2x128, .f32⟩
  | 35 => ⟨S2x128, .f32⟩
  | 36 => ⟨S2x128, .f32⟩
  | 37 => ⟨S_, .f32⟩
  | 38 => ⟨S2x128, .f32⟩
  | 39 => ⟨S2x128, .f32⟩
  | 40 => ⟨S2x128, .f32⟩
  | 41 => ⟨S_, .f32⟩
  | 42 => ⟨S2x128, .f32⟩
  | 43 => ⟨S2x128, .f32⟩
  | 44 => ⟨S_, .f32⟩
  | 45 => ⟨S2x8, .f32⟩
  | 46 => ⟨S2x8, .f32⟩
  | 47 => ⟨S_, .f32⟩
  | 48 => ⟨S2x8, .f32⟩
  | 49 => ⟨S2x8, .f32⟩
  | 50 => ⟨S2x8, .f32⟩
  | 51 => ⟨S_, .f32⟩
  | 52 => ⟨S2x8, .f32⟩
  | 53 => ⟨S2x8, .f32⟩
  | 54 => ⟨S2x8, .f32⟩
  | 55 => ⟨S_, .f32⟩
  | 56 => ⟨S2x8, .f32⟩
  | 57 => ⟨S2x8, .f32⟩
  | 58 => ⟨S2x8, .f32⟩
  | 59 => ⟨S_, .f32⟩
  | 60 => ⟨S2x8, .f32⟩
  | 61 => ⟨S2x8, .f32⟩
  | 62 => ⟨S_, .f32⟩
  | 63 => ⟨S2x8, .f32⟩
  | 64 => ⟨S2x8, .f32⟩
  | 65 => ⟨S2x8, .f32⟩
  | 66 => ⟨S_, .f32⟩
  | 67 => ⟨S2x8, .f32⟩
  | 68 => ⟨S2x8, .f32⟩
  | 69 => ⟨S2x8, .f32⟩
  | 70 => ⟨S_, .f32⟩
  | 71 => ⟨S2x8, .f32⟩
  | 72 => ⟨S2x8, .f32⟩
  | 73 => ⟨S2x8, .f32⟩
  | 74 => ⟨S_, .f32⟩
  | 75 => ⟨S2x8, .f32⟩
  | 76 => ⟨S2x8, .f32⟩
  | _ => ⟨S2x3x128, .f32⟩

abbrev hbmTy (i : Nat) : BufTy := match i / 128 with
  | 0 => hbmTy0_0 i
  | 1 => hbmTy0_1 i
  | 2 => hbmTy0_2 i
  | _ => ⟨S2x3x128, .f32⟩

abbrev bufTy : (tb : Table) → Fin (tcTables nBuf tb) → BufTy
  | .hbm, ⟨i, _⟩ => hbmTy i
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== SumGu.lean ====
abbrev S8x2x1024x704 : Shape := ⟨4, ![8, 2, 1024, 704]⟩
abbrev S8x2048x704 : Shape := ⟨3, ![8, 2048, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩
abbrev S2x1024x704 : Shape := ⟨3, ![2, 1024, 704]⟩

abbrev nBuf : Space → Nat
  | .hbm => 4
  | .vmem => 4
  | .smem => 0
  | _ => 0

abbrev bufTy : (tb : Table) → Fin (tcTables nBuf tb) → BufTy
  | .hbm, ⟨0, _⟩ => ⟨S8x2x1024x704, .bf16⟩
  | .hbm, ⟨1, _⟩ => ⟨S8x2048x704, .bf16⟩
  | .hbm, ⟨2, _⟩ => ⟨S2048x704, .f32⟩
  | .hbm, ⟨3, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | _, _ => ⟨S8x2x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGuRefIdeal.lean ====
abbrev S8x2x1024x704 : Shape := ⟨4, ![8, 2, 1024, 704]⟩
abbrev S_ : Shape := ⟨0, ![]⟩
abbrev S2x1024x704 : Shape := ⟨3, ![2, 1024, 704]⟩

abbrev nBuf : Space → Nat
  | .hbm => 4
  | .vmem => 0
  | .smem => 0
  | _ => 0

abbrev bufTy : (tb : Table) → Fin (tcTables nBuf tb) → BufTy
  | .hbm, ⟨0, _⟩ => ⟨S8x2x1024x704, .bf16⟩
  | .hbm, ⟨1, _⟩ => ⟨S8x2x1024x704, .f32⟩
  | .hbm, ⟨2, _⟩ => ⟨S_, .f32⟩
  | .hbm, ⟨3, _⟩ => ⟨S2x1024x704, .f32⟩
  | _, _ => ⟨S8x2x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S8x2x352x1024 : Shape := ⟨4, ![8, 2, 352, 1024]⟩
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩
abbrev S2x352x1024 : Shape := ⟨3, ![2, 352, 1024]⟩

abbrev nBuf : Space → Nat
  | .hbm => 4
  | .vmem => 4
  | .smem => 0
  | _ => 0

abbrev bufTy : (tb : Table) → Fin (tcTables nBuf tb) → BufTy
  | .hbm, ⟨0, _⟩ => ⟨S8x2x352x1024, .bf16⟩
  | .hbm, ⟨1, _⟩ => ⟨S8x704x1024, .bf16⟩
  | .hbm, ⟨2, _⟩ => ⟨S704x1024, .f32⟩
  | .hbm, ⟨3, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S8x2x352x1024 : Shape := ⟨4, ![8, 2, 352, 1024]⟩
abbrev S_ : Shape := ⟨0, ![]⟩
abbrev S2x352x1024 : Shape := ⟨3, ![2, 352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2x352x1024, .bf16⟩
  | .hbm, ⟨1, _⟩ => ⟨S8x2x352x1024, .f32⟩
  | .hbm, ⟨2, _⟩ => ⟨S_, .f32⟩
  | .hbm, ⟨3, _⟩ => ⟨S2x352x1024, .f32⟩
  | _, _ => ⟨S8x2x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumIn.lean ====
abbrev S8x2x1024x801 : Shape := ⟨4, ![8, 2, 1024, 801]⟩
abbrev S8x2048x801 : Shape := ⟨3, ![8, 2048, 801]⟩
abbrev S2048x801 : Shape := ⟨2, ![2048, 801]⟩
abbrev S8x256x801 : Shape := ⟨3, ![8, 256, 801]⟩
abbrev S256x801 : Shape := ⟨2, ![256, 801]⟩
abbrev S1x256x801 : Shape := ⟨3, ![1, 256, 801]⟩
abbrev S2x1024x801 : Shape := ⟨3, ![2, 1024, 801]⟩

abbrev nBuf : Space → Nat
  | .hbm => 4
  | .vmem => 4
  | .smem => 0
  | _ => 0

abbrev bufTy : (tb : Table) → Fin (tcTables nBuf tb) → BufTy
  | .hbm, ⟨0, _⟩ => ⟨S8x2x1024x801, .bf16⟩
  | .hbm, ⟨1, _⟩ => ⟨S8x2048x801, .bf16⟩
  | .hbm, ⟨2, _⟩ => ⟨S2048x801, .f32⟩
  | .hbm, ⟨3, _⟩ => ⟨S2x1024x801, .f32⟩
  | .local _ .vmem, ⟨0, _⟩ => ⟨S8x256x801, .bf16⟩
  | .local _ .vmem, ⟨1, _⟩ => ⟨S8x256x801, .bf16⟩
  | .local _ .vmem, ⟨2, _⟩ => ⟨S256x801, .f32⟩
  | .local _ .vmem, ⟨3, _⟩ => ⟨S256x801, .f32⟩
  | _, _ => ⟨S8x2x1024x801, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x801 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x801 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x2x1024x801 : Shape := ⟨4, ![8, 2, 1024, 801]⟩
abbrev S_ : Shape := ⟨0, ![]⟩
abbrev S2x1024x801 : Shape := ⟨3, ![2, 1024, 801]⟩

abbrev nBuf : Space → Nat
  | .hbm => 4
  | .vmem => 0
  | .smem => 0
  | _ => 0

abbrev bufTy : (tb : Table) → Fin (tcTables nBuf tb) → BufTy
  | .hbm, ⟨0, _⟩ => ⟨S8x2x1024x801, .bf16⟩
  | .hbm, ⟨1, _⟩ => ⟨S8x2x1024x801, .f32⟩
  | .hbm, ⟨2, _⟩ => ⟨S_, .f32⟩
  | .hbm, ⟨3, _⟩ => ⟨S2x1024x801, .f32⟩
  | _, _ => ⟨S8x2x1024x801, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumKv.lean ====
abbrev S8x2x128x1024 : Shape := ⟨4, ![8, 2, 128, 1024]⟩
abbrev S8x256x1024 : Shape := ⟨3, ![8, 256, 1024]⟩
abbrev S256x1024 : Shape := ⟨2, ![256, 1024]⟩
abbrev S1x256x1024 : Shape := ⟨3, ![1, 256, 1024]⟩
abbrev S2x128x1024 : Shape := ⟨3, ![2, 128, 1024]⟩

abbrev nBuf : Space → Nat
  | .hbm => 4
  | .vmem => 2
  | .smem => 0
  | _ => 0

abbrev bufTy : (tb : Table) → Fin (tcTables nBuf tb) → BufTy
  | .hbm, ⟨0, _⟩ => ⟨S8x2x128x1024, .bf16⟩
  | .hbm, ⟨1, _⟩ => ⟨S8x256x1024, .bf16⟩
  | .hbm, ⟨2, _⟩ => ⟨S256x1024, .f32⟩
  | .hbm, ⟨3, _⟩ => ⟨S2x128x1024, .f32⟩
  | .local _ .vmem, ⟨0, _⟩ => ⟨S8x256x1024, .bf16⟩
  | .local _ .vmem, ⟨1, _⟩ => ⟨S256x1024, .f32⟩
  | _, _ => ⟨S8x2x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumKvRefIdeal.lean ====
abbrev S8x2x128x1024 : Shape := ⟨4, ![8, 2, 128, 1024]⟩
abbrev S_ : Shape := ⟨0, ![]⟩
abbrev S2x128x1024 : Shape := ⟨3, ![2, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2x128x1024, .bf16⟩
  | .hbm, ⟨1, _⟩ => ⟨S8x2x128x1024, .f32⟩
  | .hbm, ⟨2, _⟩ => ⟨S_, .f32⟩
  | .hbm, ⟨3, _⟩ => ⟨S2x128x1024, .f32⟩
  | _, _ => ⟨S8x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumBranch.lean ====
abbrev S8x2x3x512x128 : Shape := ⟨5, ![8, 2, 3, 512, 128]⟩
abbrev S8x3072x128 : Shape := ⟨3, ![8, 3072, 128]⟩
abbrev S3072x128 : Shape := ⟨2, ![3072, 128]⟩
abbrev S8x256x128 : Shape := ⟨3, ![8, 256, 128]⟩
abbrev S256x128 : Shape := ⟨2, ![256, 128]⟩
abbrev S1x256x128 : Shape := ⟨3, ![1, 256, 128]⟩
abbrev S2x3x512x128 : Shape := ⟨4, ![2, 3, 512, 128]⟩

abbrev nBuf : Space → Nat
  | .hbm => 4
  | .vmem => 4
  | .smem => 0
  | _ => 0

abbrev bufTy : (tb : Table) → Fin (tcTables nBuf tb) → BufTy
  | .hbm, ⟨0, _⟩ => ⟨S8x2x3x512x128, .bf16⟩
  | .hbm, ⟨1, _⟩ => ⟨S8x3072x128, .bf16⟩
  | .hbm, ⟨2, _⟩ => ⟨S3072x128, .f32⟩
  | .hbm, ⟨3, _⟩ => ⟨S2x3x512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | _, _ => ⟨S8x2x3x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumBranchRefIdeal.lean ====
abbrev S8x2x3x512x128 : Shape := ⟨5, ![8, 2, 3, 512, 128]⟩
abbrev S_ : Shape := ⟨0, ![]⟩
abbrev S2x3x512x128 : Shape := ⟨4, ![2, 3, 512, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x2x3x512x128, .bf16⟩
  | .hbm, ⟨1, _⟩ => ⟨S8x2x3x512x128, .f32⟩
  | .hbm, ⟨2, _⟩ => ⟨S_, .f32⟩
  | .hbm, ⟨3, _⟩ => ⟨S2x3x512x128, .f32⟩
  | _, _ => ⟨S8x2x3x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MergeBwd.lean ====
abbrev S16384x3072 : Shape := ⟨2, ![16384, 3072]⟩
abbrev S16384x1024 : Shape := ⟨2, ![16384, 1024]⟩
abbrev S256x3072 : Shape := ⟨2, ![256, 3072]⟩
abbrev S256x1024 : Shape := ⟨2, ![256, 1024]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x3072, .f32⟩
  | .hbm, ⟨6, _⟩ => ⟨S16384x1024, .f32⟩
  | .hbm, ⟨7, _⟩ => ⟨S16384x1024, .f32⟩
  | .hbm, ⟨8, _⟩ => ⟨S16384x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x3072, .f32⟩
  | .local _ .vmem, ⟨11, _⟩ => ⟨S256x3072, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S16384x3072 : Shape := ⟨2, ![16384, 3072]⟩
abbrev S16384x1024 : Shape := ⟨2, ![16384, 1024]⟩
abbrev S16384x3x1024 : Shape := ⟨3, ![16384, 3, 1024]⟩
abbrev S_ : Shape := ⟨0, ![]⟩
abbrev S16384x1x1024 : Shape := ⟨3, ![16384, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x3x1024, .f32⟩
  | .hbm, ⟨6, _⟩ => ⟨S16384x3x1024, .f32⟩
  | .hbm, ⟨7, _⟩ => ⟨S16384x3x1024, .f32⟩
  | .hbm, ⟨8, _⟩ => ⟨S_, .f32⟩
  | .hbm, ⟨9, _⟩ => ⟨S16384x3x1024, .f32⟩
  | .hbm, ⟨10, _⟩ => ⟨S16384x3x1024, .f32⟩
  | .hbm, ⟨11, _⟩ => ⟨S_, .f32⟩
  | .hbm, ⟨12, _⟩ => ⟨S16384x3x1024, .f32⟩
  | .hbm, ⟨13, _⟩ => ⟨S16384x3x1024, .f32⟩
  | .hbm, ⟨14, _⟩ => ⟨S_, .f32⟩
  | .hbm, ⟨15, _⟩ => ⟨S16384x3x1024, .f32⟩
  | .hbm, ⟨16, _⟩ => ⟨S16384x3x1024, .f32⟩
  | .hbm, ⟨17, _⟩ => ⟨S16384x3x1024, .f32⟩
  | .hbm, ⟨18, _⟩ => ⟨S16384x1x1024, .f32⟩
  | .hbm, ⟨19, _⟩ => ⟨S16384x1x1024, .f32⟩
  | .hbm, ⟨20, _⟩ => ⟨S16384x1x1024, .f32⟩
  | .hbm, ⟨21, _⟩ => ⟨S16384x3x1024, .f32⟩
  | .hbm, ⟨22, _⟩ => ⟨S16384x3x1024, .f32⟩
  | .hbm, ⟨23, _⟩ => ⟨S_, .f32⟩
  | .hbm, ⟨24, _⟩ => ⟨S16384x1024, .f32⟩
  | .hbm, ⟨25, _⟩ => ⟨S16384x3x1024, .f32⟩
  | .hbm, ⟨26, _⟩ => ⟨S16384x3x1024, .f32⟩
  | .hbm, ⟨27, _⟩ => ⟨S16384x3x1024, .f32⟩
  | .hbm, ⟨28, _⟩ => ⟨S16384x1x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x3x1024, .f32⟩
  | .hbm, ⟨35, _⟩ => ⟨S16384x3072, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== MergeFwd.lean ====
abbrev S16384x3072 : Shape := ⟨2, ![16384, 3072]⟩
abbrev S16384x1024 : Shape := ⟨2, ![16384, 1024]⟩
abbrev S256x3072 : Shape := ⟨2, ![256, 3072]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S16384x3072 : Shape := ⟨2, ![16384, 3072]⟩
abbrev S16384x1024 : Shape := ⟨2, ![16384, 1024]⟩
abbrev S16384x3x1024 : Shape := ⟨3, ![16384, 3, 1024]⟩
abbrev S_ : Shape := ⟨0, ![]⟩
abbrev S16384x1x1024 : Shape := ⟨3, ![16384, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x3x1024, .f32⟩
  | .hbm, ⟨5, _⟩ => ⟨S16384x3x1024, .f32⟩
  | .hbm, ⟨6, _⟩ => ⟨S16384x3x1024, .f32⟩
  | .hbm, ⟨7, _⟩ => ⟨S_, .f32⟩
  | .hbm, ⟨8, _⟩ => ⟨S16384x3x1024, .f32⟩
  | .hbm, ⟨9, _⟩ => ⟨S16384x3x1024, .f32⟩
  | .hbm, ⟨10, _⟩ => ⟨S_, .f32⟩
  | .hbm, ⟨11, _⟩ => ⟨S16384x3x1024, .f32⟩
  | .hbm, ⟨12, _⟩ => ⟨S16384x3x1024, .f32⟩
  | .hbm, ⟨13, _⟩ => ⟨S16384x1x1024, .f32⟩
  | .hbm, ⟨14, _⟩ => ⟨S16384x1x1024, .f32⟩
  | .hbm, ⟨15, _⟩ => ⟨S16384x1x1024, .f32⟩
  | .hbm, ⟨16, _⟩ => ⟨S16384x3x1024, .f32⟩
  | .hbm, ⟨17, _⟩ => ⟨S16384x3x1024, .f32⟩
  | .hbm, ⟨18, _⟩ => ⟨S_, .f32⟩
  | .hbm, ⟨19, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== LossBwd.lean ====
abbrev S16384x1024 : Shape := ⟨2, ![16384, 1024]⟩
abbrev S_ : Shape := ⟨0, ![]⟩
abbrev S16384x1 : Shape := ⟨2, ![16384, 1]⟩
abbrev S16384x127 : Shape := ⟨2, ![16384, 127]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S16384x1, .f32⟩
  | .hbm, ⟨4, _⟩ => ⟨S_, .f32⟩
  | .hbm, ⟨5, _⟩ => ⟨S16384x127, .f32⟩
  | .hbm, ⟨6, _⟩ => ⟨S16384x128, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossBwdRefIdeal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== LossFwd.lean ====
abbrev S16384x1024 : Shape := ⟨2, ![16384, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S16384x1 : Shape := ⟨2, ![16384, 1]⟩
abbrev S16384 : Shape := ⟨1, ![16384]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x128, .f32⟩
  | .hbm, ⟨3, _⟩ => ⟨S16384x1, .f32⟩
  | .hbm, ⟨4, _⟩ => ⟨S16384, .f32⟩
  | .hbm, ⟨5, _⟩ => ⟨S_, .f32⟩
  | .hbm, ⟨6, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LossFwdRefIdeal.lean ====
abbrev S16384x1024 : Shape := ⟨2, ![16384, 1024]⟩
abbrev S_ : Shape := ⟨0, ![]⟩
abbrev S16384 : Shape := ⟨1, ![16384]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== NormBwd.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_32 : BitVec 32 := 0#32
  let v77 : BitVec 1 := Scalar.cmpi .ne v76 c0_i32_32
  v77

def k0_cond2 (i : grid0.Coords) : BitVec 1 :=
  let arg0 : BitVec 32 := BitVec.ofNat 32 (i 0).val
  let c0_i32_33 : BitVec 32 := 0#32
  let v78 : BitVec 1 := Scalar.cmpi .ne arg0 c0_i32_33
  let v79 : BitVec 32 := Scalar.extui v78
  let c0_i32_34 : BitVec 32 := 0#32
  let v80 : BitVec 1 := Scalar.cmpi .ne v79 c0_i32_34
  v80

def k0_cond3 (i : grid0.Coords) : BitVec 1 :=
  let arg0 : BitVec 32 := BitVec.ofNat 32 (i 0).val
  let c0_i32_35 : BitVec 32 := 0#32
  let v81 : BitVec 1 := Scalar.cmpi .eq arg0 c0_i32_35
  let v82 : BitVec 32 := Scalar.extui v81
  let c0_i32_36 : BitVec 32 := 0#32
  let v83 : BitVec 1 := Scalar.cmpi .ne v82 c0_i32_36
  v83

def k0_cond4 (i : grid0.Coords) : BitVec 1 :=
  let arg0 : BitVec 32 := BitVec.ofNat 32 (i 0).val
  let c0_i32_37 : BitVec 32 := 0#32
  let v84 : BitVec 1 := Scalar.cmpi .ne arg0 c0_i32_37
  let v85 : BitVec 32 := Scalar.extui v84
  let c0_i32_38 : BitVec 32 := 0#32
  let v86 : BitVec 1 := Scalar.cmpi .ne v85 c0_i32_38
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S16384x1024, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384, .f32⟩
  | .hbm, ⟨91, _⟩ => ⟨S16384x1024, .f32⟩
  | .hbm, ⟨92, _⟩ => ⟨S16384x1024, .f32⟩
  | .hbm, ⟨93, _⟩ => ⟨S_, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S1x1024, .f32⟩
  | .hbm, ⟨100, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_v69 : Ref sig .tc := ⟨.hbm, 95, rfl⟩
abbrev main_cst_20 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== NormFwd.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.ProdGu.lean ====
/- The feed-forward's first product: its forward call and its two backward calls compute `x w`, `dy wᵀ` and `xᵀ dy`, as the references do. -/
module

public import proofs.«01_k».proof.Defs
public import Idealize.ShloMosaic.Lib.Claim
public import Idealize.ShloMosaic.Lib.Pipeline.ValueKit
public import proofs.«01_k».proof.Proof.Gen.GuDxIdeal.Frame
public import proofs.«01_k».proof.Proof.Gen.GuDxRefIdeal.Run
public import proofs.«01_k».proof.Proof.Gen.GuDwIdeal.Value
public import proofs.«01_k».proof.Proof.Gen.GuDwRefIdeal.Run
public import proofs.«01_k».proof.Proof.Gen.GuFwdIdeal.Value
public import proofs.«01_k».proof.Proof.Gen.GuFwdRefIdeal.Run

@[expose] public section

noncomputable section

open Idealize.ShloMosaic Idealize.ShloMosaic.TcCoe Idealize.SL Idealize.SL.Sem
open Idealize.ShloMosaic.Pipeline

/-! ## The gradient in the left argument -/

namespace Cert.GuDxIdeal.Val

open Cert.GuDxIdeal Cert.GuDxIdeal.Gen

variable (m : (ℓ : Loc nD τ sig) → Buf (Elt Ideal) ℓ) (c : Dev nD)

/-- The weights, the cotangent and the argument's other gradient that device `c` is given. -/
abbrev aw : FVec Ideal S1024x5632 .f32 := m ((c : Thread nD τ).loc main_arg0)
abbrev ady : FVec Ideal S16384x5632 .f32 := m ((c : Thread nD τ).loc main_arg1)
abbrev adx : FVec Ideal S16384x1024 .f32 := m ((c : Thread nD τ).loc main_arg2)

/-- The first step of a block stores the product of its blocks. -/
theorem first_at (A : FVec Ideal S1024x1408 .f32) (B : FVec Ideal S1024x1408 .bf16) (j : S1024x1024.Idx) :
    k0_pay1 A B j = ∑ k : Fin 1408, A (ix2 (j 0) k) * B (ix2 (j 1) k) := by
  pointwise [k0_pay1]

/-- A later step adds its product to what is there. -/
theorem later_at (A : FVec Ideal S1024x1408 .f32) (B : FVec Ideal S1024x1408 .bf16) (O : FVec Ideal S1024x1024 .f32) (j : S1024x1024.Idx) :
    k0_pay2 A B O j = O j + ∑ k : Fin 1408, A (ix2 (j 0) k) * B (ix2 (j 1) k) := by
  pointwise [k0_pay2, k0_pay1]

theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The weights as the call is given them. -/
theorem weights : V m c main_v0 = aw m c := by
  show StableHlo.after hostOps0 (fun b => m (c, b)) (Proc.devRef .tc _) = _
  after_results
  rfl

/-- The array the call leaves. -/
theorem final : (dats m 0 c).arrAt 2 (cfgs 0).N
    = fun j : S16384x1024.Idx => ∑ k : Fin 5632, ady m c (ix2 (j 0) k) * aw m c (ix2 (j 1) k) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg1 m c) _).trans ?_) ((congrFun (weights m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

/-- The program's result. -/
theorem result : afterTail₀ cfgs (dats m) 0 (V0 m) [hostOps1] c main_v2
    = addf (F := Ideal) (φ := .f32) (adx m c) (fun j : S16384x1024.Idx => ∑ k : Fin 5632, ady m c (ix2 (j 0) k) * aw m c (ix2 (j 1) k)) := by
  have f := final m c
  rw [← (dats m 0 c).withArrays_arrAt (by decide : Pipeline.SharedIn (cfgs 0).spec) (V0 m c) (A_eq m c) 2] at f
  have g : withArrays (cfgs 0).spec c (V0 m c) (fun w => (dats m 0 c).arrAt w (cfgs 0).N) (Proc.devRef .tc main_arg2) = adx m c :=
    (withArrays_of_ne (cfgs 0).spec c (V0 m c) _ main_arg2 (by decide)).trans (V_main_arg2 m c)
  unfold afterTail₀
  generalize withArrays (cfgs 0).spec c (V0 m c) (fun w => (dats m 0 c).arrAt w (cfgs 0).N) = W at f g
  refine Eq.trans ?_ (congrArg₂ (fun A B : FVec Ideal S16384x1024 .f32 => addf A B) g f)
  after_results
  rfl

open Cert.GuDxRefIdeal in
/-- The reference's array. -/
theorem ref_at (w : FVec Ideal Cert.GuDxRefIdeal.S1024x5632 .f32) (dy : FVec Ideal Cert.GuDxRefIdeal.S16384x5632 .f32) :
    Host.dotGeneral (F := Ideal) dot_S16384x5632_S1024x5632_S16384x1024_1_1_0_0_n_n none dy w
      = fun j : Cert.GuDxRefIdeal.S16384x1024.Idx => ∑ k : Fin 5632, dy (ix2 (j 0) k) * w (ix2 (j 1) k) := by
  funext j
  pointwise

/-- The reference runs and ends with its arguments unchanged. -/
theorem reference_frame : Cert.quiescent_GuDxRefIdeal (hGuDxRefIdeal := Cert.GuDxRefIdeal.Gen.facts) := fun m g _ =>
  θ_run_mono (Cert.GuDxRefIdeal.Value.run m g) fun r h =>
    ⟨fun c => (h c).2, Idealize.ShloMosaic.sem_eq_zero_of_no_sems (by decide) r.2⟩

/-- From memories that agree on the arguments both programs run, and their results are equal. -/
theorem algebraic : Cert.algebraic_GuDxIdeal_GuDxRefIdeal
    (hGuDxIdeal := Cert.GuDxIdeal.Gen.facts) (hGuDxRefIdeal := Cert.GuDxRefIdeal.Gen.facts) := by
  intro m g m' g' _ agree
  refine ⟨_, θ_run_mono (θ_run_and (run_main m g) (frame m g)) fun r h c => ⟨h.1.rest_eq c main_v2 (by decide), h.2.1 c⟩,
    θ_run_mono (Cert.GuDxRefIdeal.Value.run m' g') fun r h c => ⟨(h c).1.trans ?_, (h c).2⟩⟩
  rw [(agree c).1, (agree c).2.1, (agree c).2.2]
  exact (congrArg (fun B : FVec Ideal S16384x1024 .f32 => addf (adx m c) B) (ref_at _ _)).trans (result m c).symm

end Cert.GuDxIdeal.Val

/-! ## The gradient in the weights -/

namespace Cert.GuDwIdeal.Val

open Cert.GuDwIdeal Cert.GuDwIdeal.Gen

variable (m : (ℓ : Loc nD τ sig) → Buf (Elt Ideal) ℓ) (c : Dev nD)

/-- The left argument and the cotangent that device `c` is given. -/
abbrev ax : FVec Ideal S16384x1024 .f32 := m ((c : Thread nD τ).loc main_arg0)
abbrev ady : FVec Ideal S16384x5632 .f32 := m ((c : Thread nD τ).loc main_arg1)

/-- The first step of a block stores the product of its blocks. -/
theorem first_at (A : FVec Ideal S1024x1024 .f32) (B : FVec Ideal S1024x1408 .f32) (j : S1024x1408.Idx) :
    k0_pay1 A B j = ∑ k : Fin 1024, A (ix2 k (j 0)) * B (ix2 k (j 1)) := by
  pointwise [k0_pay1]

/-- A later step adds its product to what is there. -/
theorem later_at (A : FVec Ideal S1024x1024 .f32) (B O : FVec Ideal S1024x1408 .f32) (j : S1024x1408.Idx) :
    k0_pay2 A B O j = O j + ∑ k : Fin 1024, A (ix2 k (j 0)) * B (ix2 k (j 1)) := by
  pointwise [k0_pay2, k0_pay1]

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The array the call leaves. -/
theorem final : (dats m 0 c).arrAt 2 (cfgs 0).N
    = fun j : S1024x5632.Idx => ∑ k : Fin 16384, ax m c (ix2 k (j 0)) * ady m c (ix2 k (j 1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg0 m c) _).trans ?_) ((congrFun (V_main_arg1 m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

open Cert.GuDwRefIdeal Cert.GuDwRefIdeal.Facts₀ in
/-- The reference's array. -/
theorem ref_at (x : FVec Ideal Cert.GuDwRefIdeal.S16384x1024 .f32) (dy : FVec Ideal Cert.GuDwRefIdeal.S16384x5632 .f32) :
    transpose Cert.GuDwRefIdeal.S1024x5632 [1, 0] (Host.dotGeneral (F := Ideal) dot_S16384x5632_S16384x1024_S5632x1024_0_0_1_1_n_n none dy x)
        transposes_S5632x1024_S1024x5632_1_0
      = fun j : Cert.GuDwRefIdeal.S1024x5632.Idx => ∑ k : Fin 16384, x (ix2 k (j 0)) * dy (ix2 k (j 1)) := by
  funext j
  pointwise
  exact Finset.sum_congr rfl fun k _ => mul_comm _ _

/-- The reference runs and ends with its arguments unchanged. -/
theorem reference_frame : Cert.quiescent_GuDwRefIdeal (hGuDwRefIdeal := Cert.GuDwRefIdeal.Gen.facts) := fun m g _ =>
  θ_run_mono (Cert.GuDwRefIdeal.Value.run m g) fun r h =>
    ⟨fun c => (h c).2, Idealize.ShloMosaic.sem_eq_zero_of_no_sems (by decide) r.2⟩

/-- From memories that agree on the arguments both programs run, and their results are equal. -/
theorem algebraic : Cert.algebraic_GuDwIdeal_GuDwRefIdeal
    (hGuDwIdeal := Cert.GuDwIdeal.Gen.facts) (hGuDwRefIdeal := Cert.GuDwRefIdeal.Gen.facts) := by
  intro m g m' g' _ agree
  refine ⟨fun c => (dats m 0 c).arrAt 2 (cfgs 0).N, Cert.GuDwIdeal.Value.run_blocks m g, ?_⟩
  refine θ_run_mono (Cert.GuDwRefIdeal.Value.run m' g') fun r h c => ⟨(h c).1.trans ?_, (h c).2⟩
  rw [(agree c).1, (agree c).2]
  exact (ref_at _ _).trans (final m c).symm

end Cert.GuDwIdeal.Val

/-! ## The product -/

namespace Cert.GuFwdIdeal.Val

open Cert.GuFwdIdeal Cert.GuFwdIdeal.Gen

variable (m : (ℓ : Loc nD τ sig) → Buf (Elt Ideal) ℓ) (c : Dev nD)

/-- The two arguments that device `c` is given. -/
abbrev ax : FVec Ideal S16384x1024 .f32 := m ((c : Thread nD τ).loc main_arg0)
abbrev aw : FVec Ideal S1024x5632 .f32 := m ((c : Thread nD τ).loc main_arg1)

/-- A point stores the product of its blocks. -/
theorem first_at (A : FVec Ideal S256x1024 .f32) (B : FVec Ideal S1024x5632 .bf16) (j : S256x5632.Idx) :
    k0_pay1 A B j = ∑ k : Fin 1024, A (ix2 (j 0) k) * B (ix2 k (j 1)) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x5632.Idx => ∑ k : Fin 1024, ax m c (ix2 (j 0) k) * aw m c (ix2 k (j 1)) := by
  refine (dats m 0 c).arrAt_eq_of_covers 2 _ (by decide +kernel) fun t hf y => ?_
  blk_simp
  rw [after0_2]
  unfold outsAt0
  frame_out
  rw [first_at]
  refine Fin.sum_fin_congr fun k => ?_
  refine congrArg₂ (fun a b : EReal => a * b) ((congrFun (V_main_arg0 m c) _).trans ?_) ((congrFun (weights m c) _).trans ?_)
  · blk_ext [iblk, idx t]
  · blk_ext [iblk, idx t]

open Cert.GuFwdRefIdeal in
/-- The reference's array. -/
theorem ref_at (x : FVec Ideal Cert.GuFwdRefIdeal.S16384x1024 .f32) (w : FVec Ideal Cert.GuFwdRefIdeal.S1024x5632 .f32) :
    Host.dotGeneral (F := Ideal) dot_S16384x1024_S1024x5632_S16384x5632_1_0_0_1_n_n none x w
      = fun j : Cert.GuFwdRefIdeal.S16384x5632.Idx => ∑ k : Fin 1024, x (ix2 (j 0) k) * w (ix2 k (j 1)) := by
  funext j
  pointwise

/-- The reference runs and ends with its arguments unchanged. -/
theorem reference_frame : Cert.quiescent_GuFwdRefIdeal (hGuFwdRefIdeal := Cert.GuFwdRefIdeal.Gen.facts) := fun m g _ =>
  θ_run_mono (Cert.GuFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_GuFwdIdeal_GuFwdRefIdeal
    (hGuFwdIdeal := Cert.GuFwdIdeal.Gen.facts) (hGuFwdRefIdeal := Cert.GuFwdRefIdeal.Gen.facts) := by
  intro m g m' g' _ agree
  refine ⟨fun c => (dats m 0 c).arrAt 2 (cfgs 0).N, Cert.GuFwdIdeal.Value.run_blocks m g, ?_⟩
  refine θ_run_mono (Cert.GuFwdRefIdeal.Value.run m' g') fun r h c => ⟨(h c).1.trans ?_, (h c).2⟩
  rw [(agree c).1, (agree c).2]
  exact (ref_at _ _).trans (final m c).symm

end Cert.GuFwdIdeal.Val
-- ==== Proof.ProdDown.lean ====
/- The feed-forward's second product: its forward call and its two backward calls compute `x w`, `dy wᵀ` and `xᵀ dy`, as the references do. -/
module

public import proofs.«01_k».proof.Defs
public import Idealize.ShloMosaic.Lib.Claim
public import Idealize.ShloMosaic.Lib.Pipeline.ValueKit
public import proofs.«01_k».proof.Proof.Gen.DownDxIdeal.Value
public import proofs.«01_k».proof.Proof.Gen.DownDxRefIdeal.Run
public import proofs.«01_k».proof.Proof.Gen.DownDwIdeal.Value
public import proofs.«01_k».proof.Proof.Gen.DownDwRefIdeal.Run
public import proofs.«01_k».proof.Proof.Gen.DownFwdIdeal.Value
public import proofs.«01_k».proof.Proof.Gen.DownFwdRefIdeal.Run

@[expose] public section

noncomputable section

open Idealize.ShloMosaic Idealize.ShloMosaic.TcCoe Idealize.SL Idealize.SL.Sem
open Idealize.ShloMosaic.Pipeline

/-! ## The gradient in the left argument -/

namespace Cert.DownDxIdeal.Val

open Cert.DownDxIdeal Cert.DownDxIdeal.Gen

variable (m : (ℓ : Loc nD τ sig) → Buf (Elt Ideal) ℓ) (c : Dev nD)

/-- The weights and the cotangent that device `c` is given. -/
abbrev aw : FVec Ideal S2816x1024 .f32 := m ((c : Thread nD τ).loc main_arg0)
abbrev ady : FVec Ideal S16384x1024 .f32 := m ((c : Thread nD τ).loc main_arg1)

/-- A point stores the product of its blocks. -/
theorem first_at (A : FVec Ideal S1024x1024 .f32) (B : FVec Ideal S1408x1024 .bf16) (j : S1024x1408.Idx) :
    k0_pay1 A B j = ∑ k : Fin 1024, A (ix2 (j 0) k) * B (ix2 (j 1) k) := by
  pointwise [k0_pay1]

theorem idx : ∀ t : Fin cfg0.N, win0_0.index t = ![t.val % 16, 0] ∧ win0_1.index t = ![t.val / 16, 0] ∧ win0_2.index t = ![t.val % 16, t.val / 16] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x2816.Idx => ∑ k : Fin 1024, ady m c (ix2 (j 0) k) * aw m c (ix2 (j 1) k) := by
  refine (dats m 0 c).arrAt_eq_of_covers 2 _ (by decide +kernel) fun t hf y => ?_
  blk_simp
  rw [after0_2]
  unfold outsAt0
  frame_out
  rw [first_at]
  refine Fin.sum_fin_congr fun k => ?_
  refine congrArg₂ (fun a b : EReal => a * b) ((congrFun (V_main_arg1 m c) _).trans ?_) ((congrFun (weights m c) _).trans ?_)
  · blk_ext [iblk, idx t]
  · blk_ext [iblk, idx t]

open Cert.DownDxRefIdeal in
/-- The reference's array. -/
theorem ref_at (w : FVec Ideal Cert.DownDxRefIdeal.S2816x1024 .f32) (dy : FVec Ideal Cert.DownDxRefIdeal.S16384x1024 .f32) :
    Host.dotGeneral (F := Ideal) dot_S16384x1024_S2816x1024_S16384x2816_1_1_0_0_n_n none dy w
      = fun j : Cert.DownDxRefIdeal.S16384x2816.Idx => ∑ k : Fin 1024, dy (ix2 (j 0) k) * w (ix2 (j 1) k) := by
  funext j
  pointwise

/-- The reference runs and ends with its arguments unchanged. -/
theorem reference_frame : Cert.quiescent_DownDxRefIdeal (hDownDxRefIdeal := Cert.DownDxRefIdeal.Gen.facts) := fun m g _ =>
  θ_run_mono (Cert.DownDxRefIdeal.Value.run m g) fun r h =>
    ⟨fun c => (h c).2, Idealize.ShloMosaic.sem_eq_zero_of_no_sems (by decide) r.2⟩

/-- From memories that agree on the arguments both programs run, and their results are equal. -/
theorem algebraic : Cert.algebraic_DownDxIdeal_DownDxRefIdeal
    (hDownDxIdeal := Cert.DownDxIdeal.Gen.facts) (hDownDxRefIdeal := Cert.DownDxRefIdeal.Gen.facts) := by
  intro m g m' g' _ agree
  refine ⟨fun c => (dats m 0 c).arrAt 2 (cfgs 0).N, Cert.DownDxIdeal.Value.run_blocks m g, ?_⟩
  refine θ_run_mono (Cert.DownDxRefIdeal.Value.run m' g') fun r h c => ⟨(h c).1.trans ?_, (h c).2⟩
  rw [(agree c).1, (agree c).2]
  exact (ref_at _ _).trans (final m c).symm

end Cert.DownDxIdeal.Val

/-! ## The gradient in the weights -/

namespace Cert.DownDwIdeal.Val

open Cert.DownDwIdeal Cert.DownDwIdeal.Gen

variable (m : (ℓ : Loc nD τ sig) → Buf (Elt Ideal) ℓ) (c : Dev nD)

/-- The left argument and the cotangent that device `c` is given. -/
abbrev ax : FVec Ideal S16384x2816 .f32 := m ((c : Thread nD τ).loc main_arg0)
abbrev ady : FVec Ideal S16384x1024 .f32 := m ((c : Thread nD τ).loc main_arg1)

/-- The first step of a block stores the product of its blocks. -/
theorem first_at (A : FVec Ideal S512x1408 .f32) (B : FVec Ideal S512x1024 .f32) (j : S1408x1024.Idx) :
    k0_pay1 A B j = ∑ k : Fin 512, A (ix2 k (j 0)) * B (ix2 k (j 1)) := by
  pointwise [k0_pay1]

/-- A later step adds its product to what is there. -/
theorem later_at (A : FVec Ideal S512x1408 .f32) (B : FVec Ideal S512x1024 .f32) (O : FVec Ideal S1408x1024 .f32) (j : S1408x1024.Idx) :
    k0_pay2 A B O j = O j + ∑ k : Fin 512, A (ix2 k (j 0)) * B (ix2 k (j 1)) := by
  pointwise [k0_pay2, k0_pay1]

theorem idx : ∀ t : Fin cfg0.N, win0_0.index t = ![t.val % 32, t.val / 32] ∧ win0_1.index t = ![t.val % 32, 0] ∧ win0_2.index t = ![t.val / 32, 0] :=
  (by decide +kernel : ∀ t : Fin grid0.N, _)

/-- The array the call leaves. -/
theorem final : (dats m 0 c).arrAt 2 (cfgs 0).N
    = fun j : S2816x1024.Idx => ∑ k : Fin 16384, ax m c (ix2 k (j 0)) * ady m c (ix2 k (j 1)) := by
  refine (dats m 0 c).arrAt_eq_of_covers 2 _ (by decide +kernel) fun t hf y => ?_
  blk_simp
  rw [after0_2, Pipeline.eq_sum_fin_of_reset_step_apply_of_flush (fun n h => outsAt0 m c n h) 32 (fun _ => 0) _
    (fun t h j => by rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg0 m c) _).trans ?_) ((congrFun (V_main_arg1 m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

open Cert.DownDwRefIdeal Cert.DownDwRefIdeal.Facts₀ in
/-- The reference's array. -/
theorem ref_at (x : FVec Ideal Cert.DownDwRefIdeal.S16384x2816 .f32) (dy : FVec Ideal Cert.DownDwRefIdeal.S16384x1024 .f32) :
    transpose Cert.DownDwRefIdeal.S2816x1024 [1, 0] (Host.dotGeneral (F := Ideal) dot_S16384x1024_S16384x2816_S1024x2816_0_0_1_1_n_n none dy x)
        transposes_S1024x2816_S2816x1024_1_0
      = fun j : Cert.DownDwRefIdeal.S2816x1024.Idx => ∑ k : Fin 16384, x (ix2 k (j 0)) * dy (ix2 k (j 1)) := by
  funext j
  pointwise
  exact Finset.sum_congr rfl fun k _ => mul_comm _ _

/-- The reference runs and ends with its arguments unchanged. -/
theorem reference_frame : Cert.quiescent_DownDwRefIdeal (hDownDwRefIdeal := Cert.DownDwRefIdeal.Gen.facts) := fun m g _ =>
  θ_run_mono (Cert.DownDwRefIdeal.Value.run m g) fun r h =>
    ⟨fun c => (h c).2, Idealize.ShloMosaic.sem_eq_zero_of_no_sems (by decide) r.2⟩

/-- From memories that agree on the arguments both programs run, and their results are equal. -/
theorem algebraic : Cert.algebraic_DownDwIdeal_DownDwRefIdeal
    (hDownDwIdeal := Cert.DownDwIdeal.Gen.facts) (hDownDwRefIdeal := Cert.DownDwRefIdeal.Gen.facts) := by
  intro m g m' g' _ agree
  refine ⟨fun c => (dats m 0 c).arrAt 2 (cfgs 0).N, Cert.DownDwIdeal.Value.run_blocks m g, ?_⟩
  refine θ_run_mono (Cert.DownDwRefIdeal.Value.run m' g') fun r h c => ⟨(h c).1.trans ?_, (h c).2⟩
  rw [(agree c).1, (agree c).2]
  exact (ref_at _ _).trans (final m c).symm

end Cert.DownDwIdeal.Val

/-! ## The product -/

namespace Cert.DownFwdIdeal.Val

open Cert.DownFwdIdeal Cert.DownFwdIdeal.Gen

variable (m : (ℓ : Loc nD τ sig) → Buf (Elt Ideal) ℓ) (c : Dev nD)

/-- The two arguments that device `c` is given. -/
abbrev ax : FVec Ideal S16384x2816 .f32 := m ((c : Thread nD τ).loc main_arg0)
abbrev aw : FVec Ideal S2816x1024 .f32 := m ((c : Thread nD τ).loc main_arg1)

/-- The first step of a block stores the product of its blocks. -/
theorem first_at (A : FVec Ideal S1024x1408 .f32) (B : FVec Ideal S1408x1024 .bf16) (j : S1024x1024.Idx) :
    k0_pay1 A B j = ∑ k : Fin 1408, A (ix2 (j 0) k) * B (ix2 k (j 1)) := by
  pointwise [k0_pay1]

/-- A later step adds its product to what is there. -/
theorem later_at (A : FVec Ideal S1024x1408 .f32) (B : FVec Ideal S1408x1024 .bf16) (O : FVec Ideal S1024x1024 .f32) (j : S1024x1024.Idx) :
    k0_pay2 A B O j = O j + ∑ k : Fin 1408, A (ix2 (j 0) k) * B (ix2 k (j 1)) := by
  pointwise [k0_pay2, k0_pay1]

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x1024.Idx => ∑ k : Fin 2816, ax m c (ix2 (j 0) k) * aw m c (ix2 k (j 1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg0 m c) _).trans ?_) ((congrFun (weights m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

open Cert.DownFwdRefIdeal in
/-- The reference's array. -/
theorem ref_at (x : FVec Ideal Cert.DownFwdRefIdeal.S16384x2816 .f32) (w : FVec Ideal Cert.DownFwdRefIdeal.S2816x1024 .f32) :
    Host.dotGeneral (F := Ideal) dot_S16384x2816_S2816x1024_S16384x1024_1_0_0_1_n_n none x w
      = fun j : Cert.DownFwdRefIdeal.S16384x1024.Idx => ∑ k : Fin 2816, x (ix2 (j 0) k) * w (ix2 k (j 1)) := by
  funext j
  pointwise

/-- The reference runs and ends with its arguments unchanged. -/
theorem reference_frame : Cert.quiescent_DownFwdRefIdeal (hDownFwdRefIdeal := Cert.DownFwdRefIdeal.Gen.facts) := fun m g _ =>
  θ_run_mono (Cert.DownFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_DownFwdIdeal_DownFwdRefIdeal
    (hDownFwdIdeal := Cert.DownFwdIdeal.Gen.facts) (hDownFwdRefIdeal := Cert.DownFwdRefIdeal.Gen.facts) := by
  intro m g m' g' _ agree
  refine ⟨fun c => (dats m 0 c).arrAt 2 (cfgs 0).N, Cert.DownFwdIdeal.Value.run_blocks m g, ?_⟩
  refine θ_run_mono (Cert.DownFwdRefIdeal.Value.run m' g') fun r h c => ⟨(h c).1.trans ?_, (h c).2⟩
  rw [(agree c).1, (agree c).2]
  exact (ref_at _ _).trans (final m c).symm

end Cert.DownFwdIdeal.Val
-- ==== Proof.ProdIn.lean ====
/- The combined input projection: its forward call and its two backward calls, on the columns in the order the version keeps
   them, compute `x w`, `dy wᵀ` and `xᵀ dy`, as the references do on the columns in their own order. -/
module

public import proofs.«01_k».proof.Defs
public import Idealize.ShloMosaic.Lib.Claim
public import Idealize.ShloMosaic.Lib.Pipeline.ValueKit
public import proofs.«01_k».proof.Proof.Gen.InDxIdeal.Value
public import proofs.«01_k».proof.Proof.Gen.InDxRefIdeal.Run
public import proofs.«01_k».proof.Proof.Gen.InDwIdeal.Frame
public import proofs.«01_k».proof.Proof.Gen.InDwRefIdeal.Run
public import proofs.«01_k».proof.Proof.Gen.InFwdIdeal.Frame
public import proofs.«01_k».proof.Proof.Gen.InFwdRefIdeal.Run

@[expose] public section

set_option maxRecDepth 16384

noncomputable section

open Idealize.ShloMosaic Idealize.ShloMosaic.TcCoe Idealize.SL Idealize.SL.Sem
open Idealize.ShloMosaic.Pipeline

/-! ## The order of the columns -/

namespace Cert.Cols

/-- A row of 6408 columns in the version's order: the eight columns at 1536 stand last, and zeros fill the row up. -/
def wide (f : Fin 6408 → EReal) (k : ℕ) : EReal :=
  if h : k < 1536 then f ⟨k, by omega⟩
  else if h : k < 6400 then f ⟨k + 8, by omega⟩
  else if h : k < 6408 then f ⟨k - 4864, by omega⟩
  else 0

variable (f g : Fin 6408 → EReal) (k : ℕ)

theorem wide_first (h : k < 1536) : wide f k = f ⟨k, by omega⟩ := by
  unfold wide
  rw [dif_pos h]

theorem wide_middle (h : k < 4864) : wide f (1536 + k) = f ⟨1536 + (8 + k), by omega⟩ := by
  unfold wide
  rw [dif_neg (by omega), dif_pos (by omega)]
  exact congrArg f (Fin.ext (by show 1536 + k + 8 = 1536 + (8 + k); omega))

theorem wide_last (h : k < 8) : wide f (1536 + (4864 + k)) = f ⟨1536 + k, by omega⟩ := by
  unfold wide
  rw [dif_neg (by omega), dif_neg (by omega), dif_pos (by omega)]
  exact congrArg f (Fin.ext (by show 1536 + (4864 + k) - 4864 = 1536 + k; omega))

theorem wide_fill : wide f (1536 + (4864 + (8 + k))) = 0 := by
  unfold wide
  rw [dif_neg (by omega), dif_neg (by omega), dif_neg (by omega)]

/-- The product of two rows' entries, zero after the rows' end. -/
def both : EReal := if h : k < 6408 then f ⟨k, h⟩ * g ⟨k, h⟩ else 0

theorem both_at (h : k < 6408) : both f g k = f ⟨k, h⟩ * g ⟨k, h⟩ := dif_pos h

/-- Two rows in the version's order have the inner product of the rows. -/
theorem sum_wide : ∑ k : Fin 6528, wide f k * wide g k = ∑ k : Fin 6408, f k * g k := by
  rw [Fin.sum_univ_eq_sum_range (fun k => wide f k * wide g k), Finset.sum_congr (M := EReal) (s₂ := Finset.univ) rfl (fun (k : Fin 6408) _ => (both_at f g k.val k.isLt).symm),
    Fin.sum_univ_eq_sum_range (both f g), show 6528 = 1536 + (4864 + (8 + 120)) from rfl, show 6408 = 1536 + (8 + 4864) from rfl]
  simp only [Finset.sum_range_add, wide_fill, mul_zero, Finset.sum_const_zero, add_zero]
  rw [add_comm (∑ k ∈ Finset.range 4864, _)]
  refine congrArg₂ (· + ·) (Finset.sum_congr rfl fun k hk => ?_) (congrArg₂ (· + ·) (Finset.sum_congr rfl fun k hk => ?_) (Finset.sum_congr rfl fun k hk => ?_)) <;>
    have hk := Finset.mem_range.mp hk
  · rw [wide_first _ _ hk, wide_first _ _ hk, both_at _ _ _ (by omega)]
  · rw [wide_last _ _ hk, wide_last _ _ hk, both_at _ _ _ (by omega)]
  · rw [wide_middle _ _ hk, wide_middle _ _ hk, both_at _ _ _ (by omega)]

/-- Where a column stands in the version's order. -/
def back (b : ℕ) : ℕ := if b < 1536 then b else if b < 1544 then b + 4864 else b - 8

theorem back_lt (b : Fin 6408) : back b < 6528 := by
  unfold back
  split_ifs <;> omega

/-- A row in the version's order has the row's entry there. -/
theorem wide_back (b : Fin 6408) : wide f (back b) = f b := by
  obtain ⟨b, hb⟩ := b
  show wide f (back b) = _
  unfold back
  split_ifs with h0 h1
  · exact wide_first f b h0
  · obtain ⟨k, rfl⟩ : ∃ k, b = 1536 + k := ⟨b - 1536, by omega⟩
    exact (congrArg (wide f) (by omega : 1536 + k + 4864 = 1536 + (4864 + k))).trans (wide_last f k (by omega))
  · obtain ⟨k, rfl⟩ : ∃ k, b = 1536 + (8 + k) := ⟨b - 1544, by omega⟩
    exact (congrArg (wide f) (by omega : 1536 + (8 + k) - 8 = 1536 + k)).trans (wide_middle f k (by omega))

end Cert.Cols

open Cert.Cols

/-! ## The gradient in the left argument -/

namespace Cert.InDxIdeal.Val

open Cert.InDxIdeal Cert.InDxIdeal.Gen

variable (m : (ℓ : Loc nD τ sig) → Buf (Elt Ideal) ℓ) (c : Dev nD)

/-- The weights and the cotangent that device `c` is given. -/
abbrev aw : FVec Ideal S1024x6408 .f32 := m ((c : Thread nD τ).loc main_arg0)
abbrev ady : FVec Ideal S16384x6408 .f32 := m ((c : Thread nD τ).loc main_arg1)

/-- The first step of a block stores the product of its blocks. -/
theorem first_at (A : FVec Ideal S1024x2176 .f32) (B : FVec Ideal S1024x2176 .bf16) (j : S1024x1024.Idx) :
    k0_pay1 A B j = ∑ k : Fin 2176, A (ix2 (j 0) k) * B (ix2 (j 1) k) := by
  pointwise [k0_pay1]

/-- A later step adds its product to what is there. -/
theorem later_at (A : FVec Ideal S1024x2176 .f32) (B : FVec Ideal S1024x2176 .bf16) (O : FVec Ideal S1024x1024 .f32) (j : S1024x1024.Idx) :
    k0_pay2 A B O j = O j + ∑ k : Fin 2176, A (ix2 (j 0) k) * B (ix2 (j 1) k) := by
  pointwise [k0_pay2, k0_pay1]

theorem idx : ∀ t : Fin cfg0.N, win0_0.index t = ![t.val / 3, t.val % 3] ∧ win0_1.index t = ![0, t.val % 3] ∧ win0_2.index t = ![t.val / 3, 0] :=
  (by decide +kernel : ∀ t : Fin grid0.N, _)

/-- The cotangent's columns in the version's order. -/
def wideDy (A : FVec Ideal S16384x6408 .f32) : FVec Ideal S16384x6528 .f32 :=
  concatenate S16384x6528 1
    [⟨S16384x1536, extractStridedSlice S16384x1536 ![0, 0] A slices_S16384x6408_S16384x1536_0_0⟩,
     ⟨S16384x4864, extractStridedSlice S16384x4864 ![0, 1544] A slices_S16384x6408_S16384x4864_0_1544⟩,
     ⟨S16384x8, extractStridedSlice S16384x8 ![0, 1536] A slices_S16384x6408_S16384x8_0_1536⟩,
     ⟨S16384x120, broadcastInDim S16384x120 ![] bcast_S_S16384x120 (constant (F := Ideal) S_ .f32 0x00000000#32)⟩]
    concatenates_S16384x1536_S16384x4864_S16384x8_S16384x120_S16384x6528_d1

/-- The weights' columns in the version's order. -/
def wideW (A : FVec Ideal S1024x6408 .f32) : FVec Ideal S1024x6528 .f32 :=
  concatenate S1024x6528 1
    [⟨S1024x1536, extractStridedSlice S1024x1536 ![0, 0] A slices_S1024x6408_S1024x1536_0_0⟩,
     ⟨S1024x4864, extractStridedSlice S1024x4864 ![0, 1544] A slices_S1024x6408_S1024x4864_0_1544⟩,
     ⟨S1024x8, extractStridedSlice S1024x8 ![0, 1536] A slices_S1024x6408_S1024x8_0_1536⟩,
     ⟨S1024x120, broadcastInDim S1024x120 ![] bcast_S_S1024x120 (constant (F := Ideal) S_ .f32 0x00000000#32)⟩]
    concatenates_S1024x1536_S1024x4864_S1024x8_S1024x120_S1024x6528_d1

theorem wideDy_at (A : FVec Ideal S16384x6408 .f32) (a : Fin 16384) (b : Fin 6528) : wideDy A (ix2 a b) = wide (fun k => A (ix2 a k)) b := by
  unfold wide
  pointwise [wideDy]
  blk_point
  all_goals omega

theorem wideW_at (A : FVec Ideal S1024x6408 .f32) (a : Fin 1024) (b : Fin 6528) : wideW A (ix2 a b) = wide (fun k => A (ix2 a k)) b := by
  unfold wide
  pointwise [wideW]
  blk_point
  all_goals omega

/-- The cotangent and the weights as the call is given them. -/
theorem cotangent : V m c main_v4 = wideDy (ady m c) := by
  unfold V
  after_results
  rfl

theorem weights : V m c main_v10 = wideW (aw m c) := by
  unfold V
  after_results
  rfl

/-- The array the call leaves. -/
theorem final : (dats m 0 c).arrAt 2 (cfgs 0).N
    = fun j : S16384x1024.Idx => ∑ k : Fin 6408, ady m c (ix2 (j 0) k) * aw m c (ix2 (j 1) k) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by rw [outsAt0_A m c t h (by omega)]; frame_out; rw [first_at, ← zero_add (∑ _, _)])
    (fun t h j => by rw [outsAt0_B m c t h (by omega)]; frame_out; rw [later_at])
    t ((flush0_2 t).mp hf) _, zero_add]
  refine Eq.trans ?_ (sum_wide _ _)
  refine Fin.sum_mul_add_congr fun s k hl => ?_
  refine congrArg₂ (fun a b : EReal => a * b) ((congrFun (cotangent m c) _).trans (Eq.trans ?_ (wideDy_at _ _ ⟨_, hl⟩)))
    ((congrFun (weights m c) _).trans (Eq.trans ?_ (wideW_at _ _ ⟨_, hl⟩)))
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

open Cert.InDxRefIdeal in
/-- The reference's array. -/
theorem ref_at (w : FVec Ideal Cert.InDxRefIdeal.S1024x6408 .f32) (dy : FVec Ideal Cert.InDxRefIdeal.S16384x6408 .f32) :
    Host.dotGeneral (F := Ideal) dot_S16384x6408_S1024x6408_S16384x1024_1_1_0_0_n_n none dy w
      = fun j : Cert.InDxRefIdeal.S16384x1024.Idx => ∑ k : Fin 6408, dy (ix2 (j 0) k) * w (ix2 (j 1) k) := by
  funext j
  pointwise

/-- The reference runs and ends with its arguments unchanged. -/
theorem reference_frame : Cert.quiescent_InDxRefIdeal (hInDxRefIdeal := Cert.InDxRefIdeal.Gen.facts) := fun m g _ =>
  θ_run_mono (Cert.InDxRefIdeal.Value.run m g) fun r h =>
    ⟨fun c => (h c).2, Idealize.ShloMosaic.sem_eq_zero_of_no_sems (by decide) r.2⟩

/-- From memories that agree on the arguments both programs run, and their results are equal. -/
theorem algebraic : Cert.algebraic_InDxIdeal_InDxRefIdeal
    (hInDxIdeal := Cert.InDxIdeal.Gen.facts) (hInDxRefIdeal := Cert.InDxRefIdeal.Gen.facts) := by
  intro m g m' g' _ agree
  refine ⟨fun c => (dats m 0 c).arrAt 2 (cfgs 0).N, Cert.InDxIdeal.Value.run_blocks m g, ?_⟩
  refine θ_run_mono (Cert.InDxRefIdeal.Value.run m' g') fun r h c => ⟨(h c).1.trans ?_, (h c).2⟩
  rw [(agree c).1, (agree c).2]
  exact (ref_at _ _).trans (final m c).symm

end Cert.InDxIdeal.Val

/-! ## The gradient in the weights -/

namespace Cert.InDwIdeal.Val

open Cert.InDwIdeal Cert.InDwIdeal.Gen

variable (m : (ℓ : Loc nD τ sig) → Buf (Elt Ideal) ℓ) (c : Dev nD)

/-- The left argument and the cotangent that device `c` is given. -/
abbrev ax : FVec Ideal S16384x1024 .f32 := m ((c : Thread nD τ).loc main_arg0)
abbrev ady : FVec Ideal S16384x6408 .f32 := m ((c : Thread nD τ).loc main_arg1)

/-- The first step of a block stores the product of its blocks. -/
theorem first_at (A : FVec Ideal S512x1024 .f32) (B : FVec Ideal S512x2176 .f32) (j : S1024x2176.Idx) :
    k0_pay1 A B j = ∑ k : Fin 512, A (ix2 k (j 0)) * B (ix2 k (j 1)) := by
  pointwise [k0_pay1]

/-- A later step adds its product to what is there. -/
theorem later_at (A : FVec Ideal S512x1024 .f32) (B : FVec Ideal S512x2176 .f32) (O : FVec Ideal S1024x2176 .f32) (j : S1024x2176.Idx) :
    k0_pay2 A B O j = O j + ∑ k : Fin 512, A (ix2 k (j 0)) * B (ix2 k (j 1)) := by
  pointwise [k0_pay2, k0_pay1]

theorem idx : ∀ t : Fin cfg0.N, win0_0.index t = ![t.val % 32, 0] ∧ win0_1.index t = ![t.val % 32, t.val / 32] ∧ win0_2.index t = ![0, t.val / 32] :=
  (by decide +kernel : ∀ t : Fin grid0.N, _)

/-- The cotangent's columns in the version's order. -/
def wideDy (A : FVec Ideal S16384x6408 .f32) : FVec Ideal S16384x6528 .f32 :=
  concatenate S16384x6528 1
    [⟨S16384x1536, extractStridedSlice S16384x1536 ![0, 0] A slices_S16384x6408_S16384x1536_0_0⟩,
     ⟨S16384x4864, extractStridedSlice S16384x4864 ![0, 1544] A slices_S16384x6408_S16384x4864_0_1544⟩,
     ⟨S16384x8, extractStridedSlice S16384x8 ![0, 1536] A slices_S16384x6408_S16384x8_0_1536⟩,
     ⟨S16384x120, broadcastInDim S16384x120 ![] bcast_S_S16384x120 (constant (F := Ideal) S_ .f32 0x00000000#32)⟩]
    concatenates_S16384x1536_S16384x4864_S16384x8_S16384x120_S16384x6528_d1

theorem wideDy_at (A : FVec Ideal S16384x6408 .f32) (a : Fin 16384) (b : Fin 6528) : wideDy A (ix2 a b) = wide (fun k => A (ix2 a k)) b := by
  unfold wide
  pointwise [wideDy]
  blk_point
  all_goals omega

/-- The cotangent as the call is given it. -/
theorem cotangent : V m c main_v4 = wideDy (ady m c) := by
  show StableHlo.after hostOps0 (fun b => m (c, b)) (Proc.devRef .tc main_v4) = _
  after_results
  rfl

/-- The array the call leaves. -/
theorem final : (dats m 0 c).arrAt 2 (cfgs 0).N
    = fun j : S1024x6528.Idx => ∑ k : Fin 16384, ax m c (ix2 k (j 0)) * wideDy (ady m c) (ix2 k (j 1)) := by
  refine (dats m 0 c).arrAt_eq_of_covers 2 _ (by decide +kernel) fun t hf y => ?_
  blk_simp
  rw [after0_2, Pipeline.eq_sum_fin_of_reset_step_apply_of_flush (fun n h => outsAt0 m c n h) 32 (fun _ => 0) _
    (fun t h j => by rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg0 m c) _).trans ?_)
    ((congrFun (cotangent m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

/-- The columns in their own order. -/
def narrow (A : FVec Ideal S1024x6528 .f32) : FVec Ideal S1024x6408 .f32 :=
  concatenate S1024x6408 1
    [⟨S1024x1536, extractStridedSlice S1024x1536 ![0, 0] A slices_S1024x6528_S1024x1536_0_0⟩,
     ⟨S1024x8, extractStridedSlice S1024x8 ![0, 6400] A slices_S1024x6528_S1024x8_0_6400⟩,
     ⟨S1024x4864, extractStridedSlice S1024x4864 ![0, 1536] A slices_S1024x6528_S1024x4864_0_1536⟩]
    concatenates_S1024x1536_S1024x8_S1024x4864_S1024x6408_d1

theorem narrow_at (A : FVec Ideal S1024x6528 .f32) (a : Fin 1024) (b : Fin 6408) : narrow A (ix2 a b) = A (ix2 a ⟨back b, back_lt b⟩) := by
  unfold back
  pointwise [narrow]
  blk_point
  all_goals split_ifs <;> omega

/-- What the host makes of the call's array. -/
theorem tail : afterTail₀ cfgs (dats m) 0 (V0 m) [hostOps1] c main_v9 = narrow ((dats m 0 c).arrAt 2 (cfgs 0).N) := by
  have h2 := (dats m 0 c).withArrays_arrAt (by decide : Pipeline.SharedIn (cfgs 0).spec) (V0 m c) (A_eq m c) 2
  rw [← h2]
  unfold afterTail₀
  generalize withArrays (cfgs 0).spec c (V0 m c) (fun w => (dats m 0 c).arrAt w (cfgs 0).N) = W
  after_results
  rfl

/-- The program's result. -/
theorem result : afterTail₀ cfgs (dats m) 0 (V0 m) [hostOps1] c main_v9
    = fun j : S1024x6408.Idx => ∑ k : Fin 16384, ax m c (ix2 k (j 0)) * ady m c (ix2 k (j 1)) := by
  rw [tail, final]
  funext j
  rw [eq_ix2 j]
  refine (narrow_at _ _ _).trans ?_
  refine Finset.sum_congr rfl fun k _ => congrArg (fun b : EReal => ax m c (ix2 k (j 0)) * b) ?_
  exact (wideDy_at _ _ _).trans (wide_back (fun b => ady m c (ix2 k b)) (j 1))

open Cert.InDwRefIdeal Cert.InDwRefIdeal.Facts₀ in
/-- The reference's array. -/
theorem ref_at (x : FVec Ideal Cert.InDwRefIdeal.S16384x1024 .f32) (dy : FVec Ideal Cert.InDwRefIdeal.S16384x6408 .f32) :
    transpose Cert.InDwRefIdeal.S1024x6408 [1, 0] (Host.dotGeneral (F := Ideal) dot_S16384x6408_S16384x1024_S6408x1024_0_0_1_1_n_n none dy x)
        transposes_S6408x1024_S1024x6408_1_0
      = fun j : Cert.InDwRefIdeal.S1024x6408.Idx => ∑ k : Fin 16384, x (ix2 k (j 0)) * dy (ix2 k (j 1)) := by
  funext j
  pointwise
  exact Finset.sum_congr rfl fun k _ => mul_comm _ _

/-- The reference runs and ends with its arguments unchanged. -/
theorem reference_frame : Cert.quiescent_InDwRefIdeal (hInDwRefIdeal := Cert.InDwRefIdeal.Gen.facts) := fun m g _ =>
  θ_run_mono (Cert.InDwRefIdeal.Value.run m g) fun r h =>
    ⟨fun c => (h c).2, Idealize.ShloMosaic.sem_eq_zero_of_no_sems (by decide) r.2⟩

/-- From memories that agree on the arguments both programs run, and their results are equal. -/
theorem algebraic : Cert.algebraic_InDwIdeal_InDwRefIdeal
    (hInDwIdeal := Cert.InDwIdeal.Gen.facts) (hInDwRefIdeal := Cert.InDwRefIdeal.Gen.facts) := by
  intro m g m' g' _ agree
  refine ⟨fun c => afterTail₀ cfgs (dats m) 0 (V0 m) [hostOps1] c main_v9, ?_, ?_⟩
  · exact θ_run_mono (θ_run_and (run_main m g) (frame m g)) fun r h c => ⟨h.1.rest_eq c main_v9 (by decide), h.2.1 c⟩
  refine θ_run_mono (Cert.InDwRefIdeal.Value.run m' g') fun r h c => ⟨(h c).1.trans ?_, (h c).2⟩
  rw [(agree c).1, (agree c).2]
  exact (ref_at _ _).trans (result m c).symm

end Cert.InDwIdeal.Val

/-! ## The product -/

namespace Cert.InFwdIdeal.Val

open Cert.InFwdIdeal Cert.InFwdIdeal.Gen

variable (m : (ℓ : Loc nD τ sig) → Buf (Elt Ideal) ℓ) (c : Dev nD)

/-- The two arguments that device `c` is given. -/
abbrev ax : FVec Ideal S16384x1024 .f32 := m ((c : Thread nD τ).loc main_arg0)
abbrev aw : FVec Ideal S1024x6408 .f32 := m ((c : Thread nD τ).loc main_arg1)

/-- A point stores the product of its blocks. -/
theorem first_at (A : FVec Ideal S256x1024 .f32) (B : FVec Ideal S1024x6528 .bf16) (j : S256x6528.Idx) :
    k0_pay1 A B j = ∑ k : Fin 1024, A (ix2 (j 0) k) * B (ix2 k (j 1)) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The weights' columns in the version's order. -/
def wideW (A : FVec Ideal S1024x6408 .f32) : FVec Ideal S1024x6528 .f32 :=
  concatenate S1024x6528 1
    [⟨S1024x1536, extractStridedSlice S1024x1536 ![0, 0] A slices_S1024x6408_S1024x1536_0_0⟩,
     ⟨S1024x4864, extractStridedSlice S1024x4864 ![0, 1544] A slices_S1024x6408_S1024x4864_0_1544⟩,
     ⟨S1024x8, extractStridedSlice S1024x8 ![0, 1536] A slices_S1024x6408_S1024x8_0_1536⟩,
     ⟨S1024x120, broadcastInDim S1024x120 ![] bcast_S_S1024x120 (constant (F := Ideal) S_ .f32 0x00000000#32)⟩]
    concatenates_S1024x1536_S1024x4864_S1024x8_S1024x120_S1024x6528_d1

theorem wideW_at (A : FVec Ideal S1024x6408 .f32) (a : Fin 1024) (b : Fin 6528) : wideW A (ix2 a b) = wide (fun k => A (ix2 a k)) b := by
  unfold wide
  pointwise [wideW]
  blk_point
  all_goals omega

/-- The weights as the call is given them. -/
theorem weights : V m c main_v5 = wideW (aw m c) := by
  show StableHlo.after hostOps0 (fun b => m (c, b)) (Proc.devRef .tc main_v5) = _
  after_results
  rfl

/-- The array the call leaves. -/
theorem final : (dats m 0 c).arrAt 2 (cfgs 0).N
    = fun j : S16384x6528.Idx => ∑ k : Fin 1024, ax m c (ix2 (j 0) k) * wideW (aw m c) (ix2 k (j 1)) := by
  refine (dats m 0 c).arrAt_eq_of_covers 2 _ (by decide +kernel) fun t hf y => ?_
  blk_simp
  rw [after0_2]
  unfold outsAt0
  frame_out
  rw [first_at]
  refine Fin.sum_fin_congr fun k => ?_
  refine congrArg₂ (fun a b : EReal => a * b) ((congrFun (V_main_arg0 m c) _).trans ?_)
    ((congrFun (weights m c) _).trans ?_)
  · blk_ext [iblk, idx t]
  · blk_ext [iblk, idx t]

/-- The columns in their own order. -/
def narrow (A : FVec Ideal S16384x6528 .f32) : FVec Ideal S16384x6408 .f32 :=
  concatenate S16384x6408 1
    [⟨S16384x1536, extractStridedSlice S16384x1536 ![0, 0] A slices_S16384x6528_S16384x1536_0_0⟩,
     ⟨S16384x8, extractStridedSlice S16384x8 ![0, 6400] A slices_S16384x6528_S16384x8_0_6400⟩,
     ⟨S16384x4864, extractStridedSlice S16384x4864 ![0, 1536] A slices_S16384x6528_S16384x4864_0_1536⟩]
    concatenates_S16384x1536_S16384x8_S16384x4864_S16384x6408_d1

theorem narrow_at (A : FVec Ideal S16384x6528 .f32) (a : Fin 16384) (b : Fin 6408) : narrow A (ix2 a b) = A (ix2 a ⟨back b, back_lt b⟩) := by
  unfold back
  pointwise [narrow]
  blk_point
  all_goals split_ifs <;> omega

/-- What the host makes of the call's array. -/
theorem tail : afterTail₀ cfgs (dats m) 0 (V0 m) [hostOps1] c main_v10 = narrow ((dats m 0 c).arrAt 2 (cfgs 0).N) := by
  have h2 := (dats m 0 c).withArrays_arrAt (by decide : Pipeline.SharedIn (cfgs 0).spec) (V0 m c) (A_eq m c) 2
  rw [← h2]
  unfold afterTail₀
  generalize withArrays (cfgs 0).spec c (V0 m c) (fun w => (dats m 0 c).arrAt w (cfgs 0).N) = W
  after_results
  rfl

/-- The program's result. -/
theorem result : afterTail₀ cfgs (dats m) 0 (V0 m) [hostOps1] c main_v10
    = fun j : S16384x6408.Idx => ∑ k : Fin 1024, ax m c (ix2 (j 0) k) * aw m c (ix2 k (j 1)) := by
  rw [tail, final]
  funext j
  rw [eq_ix2 j]
  refine (narrow_at _ _ _).trans ?_
  refine Finset.sum_congr rfl fun k _ => congrArg (fun b : EReal => ax m c (ix2 (j 0) k) * b) ?_
  exact (wideW_at _ _ _).trans (wide_back (fun b => aw m c (ix2 k b)) (j 1))

open Cert.InFwdRefIdeal in
/-- The reference's array. -/
theorem ref_at (x : FVec Ideal Cert.InFwdRefIdeal.S16384x1024 .f32) (w : FVec Ideal Cert.InFwdRefIdeal.S1024x6408 .f32) :
    Host.dotGeneral (F := Ideal) dot_S16384x1024_S1024x6408_S16384x6408_1_0_0_1_n_n none x w
      = fun j : Cert.InFwdRefIdeal.S16384x6408.Idx => ∑ k : Fin 1024, x (ix2 (j 0) k) * w (ix2 k (j 1)) := by
  funext j
  pointwise

/-- The reference runs and ends with its arguments unchanged. -/
theorem reference_frame : Cert.quiescent_InFwdRefIdeal (hInFwdRefIdeal := Cert.InFwdRefIdeal.Gen.facts) := fun m g _ =>
  θ_run_mono (Cert.InFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_InFwdIdeal_InFwdRefIdeal
    (hInFwdIdeal := Cert.InFwdIdeal.Gen.facts) (hInFwdRefIdeal := Cert.InFwdRefIdeal.Gen.facts) := by
  intro m g m' g' _ agree
  refine ⟨fun c => afterTail₀ cfgs (dats m) 0 (V0 m) [hostOps1] c main_v10, ?_, ?_⟩
  · exact θ_run_mono (θ_run_and (run_main m g) (frame m g)) fun r h c => ⟨h.1.rest_eq c main_v10 (by decide), h.2.1 c⟩
  refine θ_run_mono (Cert.InFwdRefIdeal.Value.run m' g') fun r h c => ⟨(h c).1.trans ?_, (h c).2⟩
  rw [(agree c).1, (agree c).2]
  exact (ref_at _ _).trans (result m c).symm

end Cert.InFwdIdeal.Val
-- ==== Proof.ProdOut.lean ====
/- The output projection: its forward call and its two backward calls compute `x w`, `dy wᵀ` and `xᵀ dy`, as the references do. -/
module

public import proofs.«01_k».proof.Defs
public import Idealize.ShloMosaic.Lib.Claim
public import Idealize.ShloMosaic.Lib.Pipeline.ValueKit
public import proofs.«01_k».proof.Proof.Gen.OutDxIdeal.Value
public import proofs.«01_k».proof.Proof.Gen.OutDxRefIdeal.Run
public import proofs.«01_k».proof.Proof.Gen.OutDwIdeal.Value
public import proofs.«01_k».proof.Proof.Gen.OutDwRefIdeal.Run
public import proofs.«01_k».proof.Proof.Gen.OutFwdIdeal.Value
public import proofs.«01_k».proof.Proof.Gen.OutFwdRefIdeal.Run

@[expose] public section

noncomputable section

open Idealize.ShloMosaic Idealize.ShloMosaic.TcCoe Idealize.SL Idealize.SL.Sem
open Idealize.ShloMosaic.Pipeline

/-! ## The gradient in the left argument -/

namespace Cert.OutDxIdeal.Val

open Cert.OutDxIdeal Cert.OutDxIdeal.Gen

variable (m : (ℓ : Loc nD τ sig) → Buf (Elt Ideal) ℓ) (c : Dev nD)

/-- The weights and the cotangent that device `c` is given. -/
abbrev aw : FVec Ideal S1024x1024 .f32 := m ((c : Thread nD τ).loc main_arg0)
abbrev ady : FVec Ideal S16384x1024 .f32 := m ((c : Thread nD τ).loc main_arg1)

/-- A point stores the product of its rows with all the weights. -/
theorem pay_at (A : FVec Ideal S1024x1024 .f32) (B : FVec Ideal S1024x1024 .bf16) (j : S1024x1024.Idx) :
    k0_pay1 A B j = ∑ k : Fin 1024, A (ix2 (j 0) k) * B (ix2 (j 1) k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x1024.Idx => ∑ k : Fin 1024, ady m c (ix2 (j 0) k) * aw m c (ix2 (j 1) k) := by
  refine (dats m 0 c).arrAt_eq_of_covers 2 _ (by decide +kernel) fun t hf y => ?_
  blk_simp
  rw [after0_2]
  unfold outsAt0
  frame_out
  rw [pay_at]
  refine Fin.sum_fin_congr fun k => ?_
  refine congrArg₂ (fun a b : EReal => a * b) ((congrFun (V_main_arg1 m c) _).trans ?_) ((congrFun (weights m c) _).trans ?_)
  · blk_ext [iblk, idx t]
  · blk_ext [iblk, idx t]

open Cert.OutDxRefIdeal in
/-- The reference's array. -/
theorem ref_at (w : FVec Ideal Cert.OutDxRefIdeal.S1024x1024 .f32) (dy : FVec Ideal Cert.OutDxRefIdeal.S16384x1024 .f32) :
    Host.dotGeneral (F := Ideal) dot_S16384x1024_S1024x1024_S16384x1024_1_1_0_0_n_n none dy w
      = fun j : Cert.OutDxRefIdeal.S16384x1024.Idx => ∑ k : Fin 1024, dy (ix2 (j 0) k) * w (ix2 (j 1) k) := by
  funext j
  pointwise

/-- The reference runs and ends with its arguments unchanged. -/
theorem reference_frame : Cert.quiescent_OutDxRefIdeal (hOutDxRefIdeal := Cert.OutDxRefIdeal.Gen.facts) := fun m g _ =>
  θ_run_mono (Cert.OutDxRefIdeal.Value.run m g) fun r h =>
    ⟨fun c => (h c).2, Idealize.ShloMosaic.sem_eq_zero_of_no_sems (by decide) r.2⟩

/-- From memories that agree on the arguments both programs run, and their results are equal. -/
theorem algebraic : Cert.algebraic_OutDxIdeal_OutDxRefIdeal
    (hOutDxIdeal := Cert.OutDxIdeal.Gen.facts) (hOutDxRefIdeal := Cert.OutDxRefIdeal.Gen.facts) := by
  intro m g m' g' _ agree
  refine ⟨fun c => (dats m 0 c).arrAt 2 (cfgs 0).N, Cert.OutDxIdeal.Value.run_blocks m g, ?_⟩
  refine θ_run_mono (Cert.OutDxRefIdeal.Value.run m' g') fun r h c => ⟨(h c).1.trans ?_, (h c).2⟩
  rw [(agree c).1, (agree c).2]
  exact (ref_at _ _).trans (final m c).symm

end Cert.OutDxIdeal.Val

/-! ## The gradient in the weights -/

namespace Cert.OutDwIdeal.Val

open Cert.OutDwIdeal Cert.OutDwIdeal.Gen

variable (m : (ℓ : Loc nD τ sig) → Buf (Elt Ideal) ℓ) (c : Dev nD)

/-- The left argument and the cotangent that device `c` is given. -/
abbrev ax : FVec Ideal S16384x1024 .f32 := m ((c : Thread nD τ).loc main_arg0)
abbrev ady : FVec Ideal S16384x1024 .f32 := m ((c : Thread nD τ).loc main_arg1)

/-- The first step stores the product of its rows. -/
theorem first_at (A : FVec Ideal S512x1024 .f32) (B : FVec Ideal S512x1024 .f32) (j : S1024x1024.Idx) :
    k0_pay1 A B j = ∑ k : Fin 512, A (ix2 k (j 0)) * B (ix2 k (j 1)) := by
  pointwise [k0_pay1]

/-- A later step adds its product to what is there. -/
theorem later_at (A : FVec Ideal S512x1024 .f32) (B : FVec Ideal S512x1024 .f32) (O : FVec Ideal S1024x1024 .f32) (j : S1024x1024.Idx) :
    k0_pay2 A B O j = O j + ∑ k : Fin 512, A (ix2 k (j 0)) * B (ix2 k (j 1)) := by
  pointwise [k0_pay2, k0_pay1]

theorem idx : ∀ t : Fin cfg0.N, win0_0.index t = ![t.val, 0] ∧ win0_1.index t = ![t.val, 0] ∧ win0_2.index t = ![t.val / 32, 0] :=
  (by decide +kernel : ∀ t : Fin grid0.N, _)

/-- The array the call leaves. -/
theorem final : (dats m 0 c).arrAt 2 (cfgs 0).N
    = fun j : S1024x1024.Idx => ∑ k : Fin 16384, ax m c (ix2 k (j 0)) * ady m c (ix2 k (j 1)) := by
  refine (dats m 0 c).arrAt_eq_of_covers 2 _ (by decide +kernel) fun t hf y => ?_
  blk_simp
  rw [after0_2, Pipeline.eq_sum_fin_of_reset_step_apply_of_flush (fun n h => outsAt0 m c n h) 32 (fun _ => 0) _
    (fun t h j => by have hN : t.val < 32 := t.isLt; rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg0 m c) _).trans ?_) ((congrFun (V_main_arg1 m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

open Cert.OutDwRefIdeal Cert.OutDwRefIdeal.Facts₀ in
/-- The reference's array. -/
theorem ref_at (x : FVec Ideal Cert.OutDwRefIdeal.S16384x1024 .f32) (dy : FVec Ideal Cert.OutDwRefIdeal.S16384x1024 .f32) :
    transpose Cert.OutDwRefIdeal.S1024x1024 [1, 0] (Host.dotGeneral (F := Ideal) dot_S16384x1024_S16384x1024_S1024x1024_0_0_1_1_n_n none dy x)
        transposes_S1024x1024_S1024x1024_1_0
      = fun j : Cert.OutDwRefIdeal.S1024x1024.Idx => ∑ k : Fin 16384, x (ix2 k (j 0)) * dy (ix2 k (j 1)) := by
  funext j
  pointwise
  exact Finset.sum_congr rfl fun k _ => mul_comm _ _

/-- The reference runs and ends with its arguments unchanged. -/
theorem reference_frame : Cert.quiescent_OutDwRefIdeal (hOutDwRefIdeal := Cert.OutDwRefIdeal.Gen.facts) := fun m g _ =>
  θ_run_mono (Cert.OutDwRefIdeal.Value.run m g) fun r h =>
    ⟨fun c => (h c).2, Idealize.ShloMosaic.sem_eq_zero_of_no_sems (by decide) r.2⟩

/-- From memories that agree on the arguments both programs run, and their results are equal. -/
theorem algebraic : Cert.algebraic_OutDwIdeal_OutDwRefIdeal
    (hOutDwIdeal := Cert.OutDwIdeal.Gen.facts) (hOutDwRefIdeal := Cert.OutDwRefIdeal.Gen.facts) := by
  intro m g m' g' _ agree
  refine ⟨fun c => (dats m 0 c).arrAt 2 (cfgs 0).N, Cert.OutDwIdeal.Value.run_blocks m g, ?_⟩
  refine θ_run_mono (Cert.OutDwRefIdeal.Value.run m' g') fun r h c => ⟨(h c).1.trans ?_, (h c).2⟩
  rw [(agree c).1, (agree c).2]
  exact (ref_at _ _).trans (final m c).symm

end Cert.OutDwIdeal.Val

/-! ## The product -/

namespace Cert.OutFwdIdeal.Val

open Cert.OutFwdIdeal Cert.OutFwdIdeal.Gen

variable (m : (ℓ : Loc nD τ sig) → Buf (Elt Ideal) ℓ) (c : Dev nD)

/-- The two arguments that device `c` is given. -/
abbrev ax : FVec Ideal S16384x1024 .f32 := m ((c : Thread nD τ).loc main_arg0)
abbrev aw : FVec Ideal S1024x1024 .f32 := m ((c : Thread nD τ).loc main_arg1)

/-- A point stores the product of its rows with all the weights. -/
theorem pay_at (A : FVec Ideal S1024x1024 .f32) (B : FVec Ideal S1024x1024 .bf16) (j : S1024x1024.Idx) :
    k0_pay1 A B j = ∑ k : Fin 1024, A (ix2 (j 0) k) * B (ix2 k (j 1)) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x1024.Idx => ∑ k : Fin 1024, ax m c (ix2 (j 0) k) * aw m c (ix2 k (j 1)) := by
  refine (dats m 0 c).arrAt_eq_of_covers 2 _ (by decide +kernel) fun t hf y => ?_
  blk_simp
  rw [after0_2]
  unfold outsAt0
  frame_out
  rw [pay_at]
  refine Fin.sum_fin_congr fun k => ?_
  refine congrArg₂ (fun a b : EReal => a * b) ((congrFun (V_main_arg0 m c) _).trans ?_) ((congrFun (weights m c) _).trans ?_)
  · blk_ext [iblk, idx t]
  · blk_ext [iblk, idx t]

open Cert.OutFwdRefIdeal in
/-- The reference's array. -/
theorem ref_at (x : FVec Ideal Cert.OutFwdRefIdeal.S16384x1024 .f32) (w : FVec Ideal Cert.OutFwdRefIdeal.S1024x1024 .f32) :
    Host.dotGeneral (F := Ideal) dot_S16384x1024_S1024x1024_S16384x1024_1_0_0_1_n_n none x w
      = fun j : Cert.OutFwdRefIdeal.S16384x1024.Idx => ∑ k : Fin 1024, x (ix2 (j 0) k) * w (ix2 k (j 1)) := by
  funext j
  pointwise

/-- The reference runs and ends with its arguments unchanged. -/
theorem reference_frame : Cert.quiescent_OutFwdRefIdeal (hOutFwdRefIdeal := Cert.OutFwdRefIdeal.Gen.facts) := fun m g _ =>
  θ_run_mono (Cert.OutFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_OutFwdIdeal_OutFwdRefIdeal
    (hOutFwdIdeal := Cert.OutFwdIdeal.Gen.facts) (hOutFwdRefIdeal := Cert.OutFwdRefIdeal.Gen.facts) := by
  intro m g m' g' _ agree
  refine ⟨fun c => (dats m 0 c).arrAt 2 (cfgs 0).N, Cert.OutFwdIdeal.Value.run_blocks m g, ?_⟩
  refine θ_run_mono (Cert.OutFwdRefIdeal.Value.run m' g') fun r h c => ⟨(h c).1.trans ?_, (h c).2⟩
  rw [(agree c).1, (agree c).2]
  exact (ref_at _ _).trans (final m c).symm

end Cert.OutFwdIdeal.Val
-- ==== Proof.ProdBranch.lean ====
/- A branch's projection: its forward call and its two backward calls compute `x w`, `dy wᵀ` and `xᵀ dy`, as the references do. -/
module

public import proofs.«01_k».proof.Defs
public import Idealize.ShloMosaic.Lib.Claim
public import Idealize.ShloMosaic.Lib.Pipeline.ValueKit
public import proofs.«01_k».proof.Proof.Gen.BranchDxIdeal.Value
public import proofs.«01_k».proof.Proof.Gen.BranchDxRefIdeal.Run
public import proofs.«01_k».proof.Proof.Gen.BranchDwIdeal.Value
public import proofs.«01_k».proof.Proof.Gen.BranchDwRefIdeal.Run
public import proofs.«01_k».proof.Proof.Gen.BranchFwdIdeal.Value
public import proofs.«01_k».proof.Proof.Gen.BranchFwdRefIdeal.Run

@[expose] public section

noncomputable section

open Idealize.ShloMosaic Idealize.ShloMosaic.TcCoe Idealize.SL Idealize.SL.Sem
open Idealize.ShloMosaic.Pipeline

/-! ## The gradient in the left argument -/

namespace Cert.BranchDxIdeal.Val

open Cert.BranchDxIdeal Cert.BranchDxIdeal.Gen

variable (m : (ℓ : Loc nD τ sig) → Buf (Elt Ideal) ℓ) (c : Dev nD)

/-- The weights and the cotangent that device `c` is given. -/
abbrev aw : FVec Ideal S512x1024 .f32 := m ((c : Thread nD τ).loc main_arg0)
abbrev ady : FVec Ideal S16384x1024 .f32 := m ((c : Thread nD τ).loc main_arg1)

/-- A point stores the product of its rows with all the weights. -/
theorem pay_at (A : FVec Ideal S1024x1024 .f32) (B : FVec Ideal S512x1024 .bf16) (j : S1024x512.Idx) :
    k0_pay1 A B j = ∑ k : Fin 1024, A (ix2 (j 0) k) * B (ix2 (j 1) k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x512.Idx => ∑ k : Fin 1024, ady m c (ix2 (j 0) k) * aw m c (ix2 (j 1) k) := by
  refine (dats m 0 c).arrAt_eq_of_covers 2 _ (by decide +kernel) fun t hf y => ?_
  blk_simp
  rw [after0_2]
  unfold outsAt0
  frame_out
  rw [pay_at]
  refine Fin.sum_fin_congr fun k => ?_
  refine congrArg₂ (fun a b : EReal => a * b) ((congrFun (V_main_arg1 m c) _).trans ?_) ((congrFun (weights m c) _).trans ?_)
  · blk_ext [iblk, idx t]
  · blk_ext [iblk, idx t]

open Cert.BranchDxRefIdeal in
/-- The reference's array. -/
theorem ref_at (w : FVec Ideal Cert.BranchDxRefIdeal.S512x1024 .f32) (dy : FVec Ideal Cert.BranchDxRefIdeal.S16384x1024 .f32) :
    Host.dotGeneral (F := Ideal) dot_S16384x1024_S512x1024_S16384x512_1_1_0_0_n_n none dy w
      = fun j : Cert.BranchDxRefIdeal.S16384x512.Idx => ∑ k : Fin 1024, dy (ix2 (j 0) k) * w (ix2 (j 1) k) := by
  funext j
  pointwise

/-- The reference runs and ends with its arguments unchanged. -/
theorem reference_frame : Cert.quiescent_BranchDxRefIdeal (hBranchDxRefIdeal := Cert.BranchDxRefIdeal.Gen.facts) := fun m g _ =>
  θ_run_mono (Cert.BranchDxRefIdeal.Value.run m g) fun r h =>
    ⟨fun c => (h c).2, Idealize.ShloMosaic.sem_eq_zero_of_no_sems (by decide) r.2⟩

/-- From memories that agree on the arguments both programs run, and their results are equal. -/
theorem algebraic : Cert.algebraic_BranchDxIdeal_BranchDxRefIdeal
    (hBranchDxIdeal := Cert.BranchDxIdeal.Gen.facts) (hBranchDxRefIdeal := Cert.BranchDxRefIdeal.Gen.facts) := by
  intro m g m' g' _ agree
  refine ⟨fun c => (dats m 0 c).arrAt 2 (cfgs 0).N, Cert.BranchDxIdeal.Value.run_blocks m g, ?_⟩
  refine θ_run_mono (Cert.BranchDxRefIdeal.Value.run m' g') fun r h c => ⟨(h c).1.trans ?_, (h c).2⟩
  rw [(agree c).1, (agree c).2]
  exact (ref_at _ _).trans (final m c).symm

end Cert.BranchDxIdeal.Val

/-! ## The gradient in the weights -/

namespace Cert.BranchDwIdeal.Val

open Cert.BranchDwIdeal Cert.BranchDwIdeal.Gen

variable (m : (ℓ : Loc nD τ sig) → Buf (Elt Ideal) ℓ) (c : Dev nD)

/-- The left argument and the cotangent that device `c` is given. -/
abbrev ax : FVec Ideal S16384x512 .f32 := m ((c : Thread nD τ).loc main_arg0)
abbrev ady : FVec Ideal S16384x1024 .f32 := m ((c : Thread nD τ).loc main_arg1)

/-- The first step stores the product of its rows. -/
theorem first_at (A : FVec Ideal S512x512 .f32) (B : FVec Ideal S512x1024 .f32) (j : S512x1024.Idx) :
    k0_pay1 A B j = ∑ k : Fin 512, A (ix2 k (j 0)) * B (ix2 k (j 1)) := by
  pointwise [k0_pay1]

/-- A later step adds its product to what is there. -/
theorem later_at (A : FVec Ideal S512x512 .f32) (B : FVec Ideal S512x1024 .f32) (O : FVec Ideal S512x1024 .f32) (j : S512x1024.Idx) :
    k0_pay2 A B O j = O j + ∑ k : Fin 512, A (ix2 k (j 0)) * B (ix2 k (j 1)) := by
  pointwise [k0_pay2, k0_pay1]

theorem idx : ∀ t : Fin cfg0.N, win0_0.index t = ![t.val, 0] ∧ win0_1.index t = ![t.val, 0] ∧ win0_2.index t = ![t.val / 32, 0] :=
  (by decide +kernel : ∀ t : Fin grid0.N, _)

/-- The array the call leaves. -/
theorem final : (dats m 0 c).arrAt 2 (cfgs 0).N
    = fun j : S512x1024.Idx => ∑ k : Fin 16384, ax m c (ix2 k (j 0)) * ady m c (ix2 k (j 1)) := by
  refine (dats m 0 c).arrAt_eq_of_covers 2 _ (by decide +kernel) fun t hf y => ?_
  blk_simp
  rw [after0_2, Pipeline.eq_sum_fin_of_reset_step_apply_of_flush (fun n h => outsAt0 m c n h) 32 (fun _ => 0) _
    (fun t h j => by have hN : t.val < 32 := t.isLt; rw [outsAt0_A m c t h (by omega)]; frame_out; rw [first_at, ← zero_add (∑ _, _)])
    (fun t h j => by rw [outsAt0_B m c t h (by omega)]; frame_out; rw [later_at])
    t ((flush0_2 t).mp hf) _, zero_add]
  refine Fin.sum_mul_add_congr fun s k hl => ?_
  refine congrArg₂ (fun a b : EReal => a * b) ((congrFun (V_main_arg0 m c) _).trans ?_) ((congrFun (V_main_arg1 m c) _).trans ?_)
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

open Cert.BranchDwRefIdeal Cert.BranchDwRefIdeal.Facts₀ in
/-- The reference's array. -/
theorem ref_at (x : FVec Ideal Cert.BranchDwRefIdeal.S16384x512 .f32) (dy : FVec Ideal Cert.BranchDwRefIdeal.S16384x1024 .f32) :
    transpose Cert.BranchDwRefIdeal.S512x1024 [1, 0] (Host.dotGeneral (F := Ideal) dot_S16384x1024_S16384x512_S1024x512_0_0_1_1_n_n none dy x)
        transposes_S1024x512_S512x1024_1_0
      = fun j : Cert.BranchDwRefIdeal.S512x1024.Idx => ∑ k : Fin 16384, x (ix2 k (j 0)) * dy (ix2 k (j 1)) := by
  funext j
  pointwise
  exact Finset.sum_congr rfl fun k _ => mul_comm _ _

/-- The reference runs and ends with its arguments unchanged. -/
theorem reference_frame : Cert.quiescent_BranchDwRefIdeal (hBranchDwRefIdeal := Cert.BranchDwRefIdeal.Gen.facts) := fun m g _ =>
  θ_run_mono (Cert.BranchDwRefIdeal.Value.run m g) fun r h =>
    ⟨fun c => (h c).2, Idealize.ShloMosaic.sem_eq_zero_of_no_sems (by decide) r.2⟩

/-- From memories that agree on the arguments both programs run, and their results are equal. -/
theorem algebraic : Cert.algebraic_BranchDwIdeal_BranchDwRefIdeal
    (hBranchDwIdeal := Cert.BranchDwIdeal.Gen.facts) (hBranchDwRefIdeal := Cert.BranchDwRefIdeal.Gen.facts) := by
  intro m g m' g' _ agree
  refine ⟨fun c => (dats m 0 c).arrAt 2 (cfgs 0).N, Cert.BranchDwIdeal.Value.run_blocks m g, ?_⟩
  refine θ_run_mono (Cert.BranchDwRefIdeal.Value.run m' g') fun r h c => ⟨(h c).1.trans ?_, (h c).2⟩
  rw [(agree c).1, (agree c).2]
  exact (ref_at _ _).trans (final m c).symm

end Cert.BranchDwIdeal.Val

/-! ## The product -/

namespace Cert.BranchFwdIdeal.Val

open Cert.BranchFwdIdeal Cert.BranchFwdIdeal.Gen

variable (m : (ℓ : Loc nD τ sig) → Buf (Elt Ideal) ℓ) (c : Dev nD)

/-- The two arguments that device `c` is given. -/
abbrev ax : FVec Ideal S16384x512 .f32 := m ((c : Thread nD τ).loc main_arg0)
abbrev aw : FVec Ideal S512x1024 .f32 := m ((c : Thread nD τ).loc main_arg1)

/-- A point stores the product of its rows with all the weights. -/
theorem pay_at (A : FVec Ideal S1024x512 .f32) (B : FVec Ideal S512x1024 .bf16) (j : S1024x1024.Idx) :
    k0_pay1 A B j = ∑ k : Fin 512, A (ix2 (j 0) k) * B (ix2 k (j 1)) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The weights as the call is given them. -/
theorem weights : V m c main_v0 = aw m c := by
  unfold V
  after_results
  try rfl

/-- The array the call leaves. -/
theorem final : (dats m 0 c).arrAt 2 (cfgs 0).N
    = fun j : S16384x1024.Idx => ∑ k : Fin 512, ax m c (ix2 (j 0) k) * aw m c (ix2 k (j 1)) := by
  refine (dats m 0 c).arrAt_eq_of_covers 2 _ (by decide +kernel) fun t hf y => ?_
  blk_simp
  rw [after0_2]
  unfold outsAt0
  frame_out
  rw [pay_at]
  refine Fin.sum_fin_congr fun k => ?_
  refine congrArg₂ (fun a b : EReal => a * b) ((congrFun (V_main_arg0 m c) _).trans ?_) ((congrFun (weights m c) _).trans ?_)
  · blk_ext [iblk, idx t]
  · blk_ext [iblk, idx t]

open Cert.BranchFwdRefIdeal in
/-- The reference's array. -/
theorem ref_at (x : FVec Ideal Cert.BranchFwdRefIdeal.S16384x512 .f32) (w : FVec Ideal Cert.BranchFwdRefIdeal.S512x1024 .f32) :
    Host.dotGeneral (F := Ideal) dot_S16384x512_S512x1024_S16384x1024_1_0_0_1_n_n none x w
      = fun j : Cert.BranchFwdRefIdeal.S16384x1024.Idx => ∑ k : Fin 512, x (ix2 (j 0) k) * w (ix2 k (j 1)) := by
  funext j
  pointwise

/-- The reference runs and ends with its arguments unchanged. -/
theorem reference_frame : Cert.quiescent_BranchFwdRefIdeal (hBranchFwdRefIdeal := Cert.BranchFwdRefIdeal.Gen.facts) := fun m g _ =>
  θ_run_mono (Cert.BranchFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_BranchFwdIdeal_BranchFwdRefIdeal
    (hBranchFwdIdeal := Cert.BranchFwdIdeal.Gen.facts) (hBranchFwdRefIdeal := Cert.BranchFwdRefIdeal.Gen.facts) := by
  intro m g m' g' _ agree
  refine ⟨fun c => (dats m 0 c).arrAt 2 (cfgs 0).N, Cert.BranchFwdIdeal.Value.run_blocks m g, ?_⟩
  refine θ_run_mono (Cert.BranchFwdRefIdeal.Value.run m' g') fun r h c => ⟨(h c).1.trans ?_, (h c).2⟩
  rw [(agree c).1, (agree c).2]
  exact (ref_at _ _).trans (final m c).symm

end Cert.BranchFwdIdeal.Val
-- ==== Proof.Act.lean ====
/- The SwiGLU activation: its forward call and its backward call compute `silu gate * up` and its gradient, as the references do. -/
module

public import proofs.«01_k».proof.Defs
public import Idealize.ShloMosaic.Lib.Claim
public import Idealize.ShloMosaic.Lib.Pipeline.ValueKit
public import proofs.«01_k».proof.Proof.Gen.ActBwdIdeal.Value
public import proofs.«01_k».proof.Proof.Gen.ActBwdRefIdeal.Run
public import proofs.«01_k».proof.Proof.Gen.ActFwdIdeal.Value
public import proofs.«01_k».proof.Proof.Gen.ActFwdRefIdeal.Run

@[expose] public section

set_option maxRecDepth 16384

noncomputable section

open Idealize.ShloMosaic Idealize.ShloMosaic.TcCoe Idealize.SL Idealize.SL.Sem
open Idealize.ShloMosaic.Pipeline

namespace Cert.Act

/-- The gradient of `silu gate * up` in one row: `x` holds the row's gates and ups, `d` the cotangents. -/
def grad (x : Fin 5632 → EReal) (d : Fin 2816 → EReal) (k : Fin 5632) : EReal :=
  if h : k.val < 2816 then
    d ⟨k, h⟩ * x ⟨2816 + k, by omega⟩ * Ideal.logistic (x k)
      + x k * (d ⟨k, h⟩ * x ⟨2816 + k, by omega⟩) * (Ideal.logistic (x k) * (1 - Ideal.logistic (x k)))
  else x ⟨k - 2816, by omega⟩ * Ideal.logistic (x ⟨k - 2816, by omega⟩) * d ⟨k - 2816, by omega⟩

/-- `silu gate * up` in one row. -/
def val (x : Fin 5632 → EReal) (k : Fin 2816) : EReal :=
  x ⟨k, by omega⟩ * Ideal.logistic (x ⟨k, by omega⟩) * x ⟨2816 + k, by omega⟩

end Cert.Act

/-! ## The gradient -/

namespace Cert.ActBwdIdeal.Val

open Cert.ActBwdIdeal Cert.ActBwdIdeal.Gen

variable (m : (ℓ : Loc nD τ sig) → Buf (Elt Ideal) ℓ) (c : Dev nD)

/-- The gates and ups and the cotangent that device `c` is given. -/
abbrev ax : FVec Ideal S16384x5632 .f32 := m ((c : Thread nD τ).loc main_arg0)
abbrev ady : FVec Ideal S16384x2816 .f32 := m ((c : Thread nD τ).loc main_arg1)

/-- A point stores the gradients of its rows. -/
theorem pay_at (x : FVec Ideal S256x5632 .f32) (d : FVec Ideal S256x2816 .f32) (r : Fin 256) (k : Fin 5632) :
    k0_pay1 (F := Ideal) x d (ix2 r k) = Act.grad (fun a => x (ix2 r a)) (fun a => d (ix2 r a)) k := by
  unfold Act.grad
  pointwise [k0_pay1]
  split_ifs <;> simp only [zero_add, add_zero]

theorem idx : ∀ t : Fin cfg0.N, win0_0.index t = ![t.val, 0] ∧ win0_1.index t = ![t.val, 0] ∧ win0_2.index t = ![t.val, 0] :=
  (by decide +kernel : ∀ t : Fin grid0.N, _)

/-- The array the call leaves. -/
theorem final : (dats m 0 c).arrAt 2 (cfgs 0).N
    = fun j : S16384x5632.Idx => Act.grad (fun a => ax m c (ix2 (j 0) a)) (fun a => ady m c (ix2 (j 0) a)) (j 1) := by
  refine (dats m 0 c).arrAt_eq_of_covers 2 _ (by decide +kernel) fun t hf y => ?_
  blk_simp
  rw [after0_2]
  unfold out0_2
  frame_out
  rw [eq_ix2 y]
  refine (pay_at _ _ _ _).trans ?_
  refine congr (congrArg₂ Act.grad (funext fun a => ?_) (funext fun a => ?_)) (Fin.ext ?_)
  · blk_ext [iblk, idx t]
  · blk_ext [iblk, idx t]
  · blk_simp [idx t]

/-- The reference runs and ends with its arguments unchanged. -/
theorem reference_frame : Cert.quiescent_ActBwdRefIdeal (hActBwdRefIdeal := Cert.ActBwdRefIdeal.Gen.facts) := fun m g _ =>
  θ_run_mono (Cert.ActBwdRefIdeal.Value.run m g) fun r h =>
    ⟨fun c => (h c).2, Idealize.ShloMosaic.sem_eq_zero_of_no_sems (by decide) r.2⟩

/-- From memories that agree on the arguments both programs run, and their results are equal. -/
theorem algebraic : Cert.algebraic_ActBwdIdeal_ActBwdRefIdeal
    (hActBwdIdeal := Cert.ActBwdIdeal.Gen.facts) (hActBwdRefIdeal := Cert.ActBwdRefIdeal.Gen.facts) := by
  intro m g m' g' _ agree
  refine ⟨fun c => (dats m 0 c).arrAt 2 (cfgs 0).N, Cert.ActBwdIdeal.Value.run_blocks m g, ?_⟩
  refine θ_run_mono (Cert.ActBwdRefIdeal.Value.run m' g') fun r h c => ⟨(h c).1.trans ?_, (h c).2⟩
  rw [(agree c).1, (agree c).2]
  refine Eq.trans ?_ (final m c).symm
  clear h
  funext j
  rw [eq_ix2 j]
  unfold Act.grad
  pointwise [Ideal.logistic]

end Cert.ActBwdIdeal.Val

/-! ## The activation -/

namespace Cert.ActFwdIdeal.Val

open Cert.ActFwdIdeal Cert.ActFwdIdeal.Gen

variable (m : (ℓ : Loc nD τ sig) → Buf (Elt Ideal) ℓ) (c : Dev nD)

/-- The gates and ups that device `c` is given. -/
abbrev ax : FVec Ideal S16384x5632 .f32 := m ((c : Thread nD τ).loc main_arg0)

/-- A point stores the activations of its rows. -/
theorem pay_at (x : FVec Ideal S256x5632 .f32) (r : Fin 256) (k : Fin 2816) :
    k0_pay1 (F := Ideal) x (ix2 r k) = Act.val (fun a => x (ix2 r a)) k := by
  unfold Act.val
  pointwise [k0_pay1]

theorem idx : ∀ t : Fin cfg0.N, win0_0.index t = ![t.val, 0] ∧ win0_1.index t = ![t.val, 0] :=
  (by decide +kernel : ∀ t : Fin grid0.N, _)

/-- The array the call leaves. -/
theorem final : (dats m 0 c).arrAt 1 (cfgs 0).N = fun j : S16384x2816.Idx => Act.val (fun a => ax m c (ix2 (j 0) a)) (j 1) := by
  refine (dats m 0 c).arrAt_eq_of_covers 1 _ (by decide +kernel) fun t hf y => ?_
  blk_simp
  rw [after0_1]
  unfold out0_1
  frame_out
  rw [eq_ix2 y]
  refine (pay_at _ _ _).trans ?_
  refine congr (congrArg Act.val (funext fun a => ?_)) (Fin.ext ?_)
  · blk_ext [iblk, idx t]
  · blk_simp [idx t]

/-- The reference runs and ends with its arguments unchanged. -/
theorem reference_frame : Cert.quiescent_ActFwdRefIdeal (hActFwdRefIdeal := Cert.ActFwdRefIdeal.Gen.facts) := fun m g _ =>
  θ_run_mono (Cert.ActFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_ActFwdIdeal_ActFwdRefIdeal
    (hActFwdIdeal := Cert.ActFwdIdeal.Gen.facts) (hActFwdRefIdeal := Cert.ActFwdRefIdeal.Gen.facts) := by
  intro m g m' g' _ agree
  refine ⟨fun c => (dats m 0 c).arrAt 1 (cfgs 0).N, Cert.ActFwdIdeal.Value.run_blocks m g, ?_⟩
  refine θ_run_mono (Cert.ActFwdRefIdeal.Value.run m' g') fun r h c => ⟨(h c).1.trans ?_, (h c).2⟩
  rw [agree c]
  refine Eq.trans ?_ (final m c).symm
  clear h
  funext j
  rw [eq_ix2 j]
  unfold Act.val
  pointwise [Ideal.logistic]

end Cert.ActFwdIdeal.Val
-- ==== Proof.Merge.lean ====
/- The gated merge of the three branches: its forward call and its backward call compute the sum of the gated branches and
   its gradients, as the references do. -/
module

public import proofs.«01_k».proof.Defs
public import Idealize.ShloMosaic.Lib.Claim
public import Idealize.ShloMosaic.Lib.Pipeline.ValueKit
public import proofs.«01_k».proof.Proof.Gen.MergeBwdIdeal.Value
public import proofs.«01_k».proof.Proof.Gen.MergeBwdRefIdeal.Run
public import proofs.«01_k».proof.Proof.Gen.MergeFwdIdeal.Value
public import proofs.«01_k».proof.Proof.Gen.MergeFwdRefIdeal.Run

@[expose] public section

set_option maxRecDepth 16384

noncomputable section

open Idealize.ShloMosaic Idealize.ShloMosaic.TcCoe Idealize.SL Idealize.SL.Sem
open Idealize.ShloMosaic.Pipeline

namespace Cert.Merge

/-- The gate of branch `i` in one row: `x` holds the row's gates, before the logistic function, branch after branch. -/
def gate (x : Fin 3072 → EReal) (i : Fin 3) (k : Fin 1024) : EReal := Ideal.logistic (x ⟨i * 1024 + k, by omega⟩)

/-- The merged branches in one row. -/
def val (x : Fin 3072 → EReal) (b0 b1 b2 : Fin 1024 → EReal) (k : Fin 1024) : EReal :=
  gate x 0 k * b0 k + gate x 1 k * b1 k + gate x 2 k * b2 k

/-- The gradient of branch `i` in one row: `d` holds the cotangents. -/
def branch (x : Fin 3072 → EReal) (d : Fin 1024 → EReal) (i : Fin 3) (k : Fin 1024) : EReal := gate x i k * d k

/-- The gradient of one gate: `s` is the gate, `b` the branch's entry, `d` the cotangent. -/
def one (s b d : EReal) : EReal := d * b * (s * (1 - s))

/-- The gradients of the gates in one row. -/
def gates (x : Fin 3072 → EReal) (b0 b1 b2 d : Fin 1024 → EReal) (k : Fin 3072) : EReal :=
  if h : k.val < 1024 then one (Ideal.logistic (x k)) (b0 ⟨k, h⟩) (d ⟨k, h⟩)
  else if h' : k.val < 2048 then one (Ideal.logistic (x k)) (b1 ⟨k - 1024, by omega⟩) (d ⟨k - 1024, by omega⟩)
  else one (Ideal.logistic (x k)) (b2 ⟨k - 2048, by omega⟩) (d ⟨k - 2048, by omega⟩)

end Cert.Merge

/-! ## The gradients -/

namespace Cert.MergeBwdIdeal.Val

open Cert.MergeBwdIdeal Cert.MergeBwdIdeal.Gen

variable (m : (ℓ : Loc nD τ sig) → Buf (Elt Ideal) ℓ) (c : Dev nD)

/-- The gates, the three branches and the cotangent that device `c` is given. -/
abbrev ax : FVec Ideal S16384x3072 .f32 := m ((c : Thread nD τ).loc main_arg0)
abbrev a0 : FVec Ideal S16384x1024 .f32 := m ((c : Thread nD τ).loc main_arg1)
abbrev a1 : FVec Ideal S16384x1024 .f32 := m ((c : Thread nD τ).loc main_arg2)
abbrev a2 : FVec Ideal S16384x1024 .f32 := m ((c : Thread nD τ).loc main_arg3)
abbrev ad : FVec Ideal S16384x1024 .f32 := m ((c : Thread nD τ).loc main_arg4)

/-- A point stores the gradients of its rows' gates. -/
theorem gates_at (x : FVec Ideal S256x3072 .f32) (b0 b1 b2 d : FVec Ideal S256x1024 .f32) (r : Fin 256) (k : Fin 3072) :
    k0_pay9 (F := Ideal) x b0 b1 b2 d (ix2 r k)
      = Merge.gates (fun a => x (ix2 r a)) (fun a => b0 (ix2 r a)) (fun a => b1 (ix2 r a)) (fun a => b2 (ix2 r a)) (fun a => d (ix2 r a)) k := by
  unfold Merge.gates Merge.one
  pointwise [k0_pay9, k0_pay5, k0_pay4, k0_pay3, k0_pay2, k0_pay1]
  by_cases h0 : k.val < 1024
  · simp [h0, show k.val < 2048 by omega]
  by_cases h1 : k.val < 2048
  · simp [h0, h1, Nat.add_sub_cancel' (Nat.le_of_not_lt h0)]
  · simp [h0, h1, Nat.add_sub_cancel' (Nat.le_of_not_lt h1)]

/-- A point stores the gradients of its rows' branches. -/
theorem branch0_at (x : FVec Ideal S256x3072 .f32) (d : FVec Ideal S256x1024 .f32) (r : Fin 256) (k : Fin 1024) :
    k0_pay8 (F := Ideal) x d (ix2 r k) = Merge.branch (fun a => x (ix2 r a)) (fun a => d (ix2 r a)) 0 k := by
  unfold Merge.branch Merge.gate
  pointwise [k0_pay8, k0_pay4, k0_pay1]

theorem branch1_at (x : FVec Ideal S256x3072 .f32) (d : FVec Ideal S256x1024 .f32) (r : Fin 256) (k : Fin 1024) :
    k0_pay7 (F := Ideal) x d (ix2 r k) = Merge.branch (fun a => x (ix2 r a)) (fun a => d (ix2 r a)) 1 k := by
  unfold Merge.branch Merge.gate
  pointwise [k0_pay7, k0_pay4, k0_pay2]

theorem branch2_at (x : FVec Ideal S256x3072 .f32) (d : FVec Ideal S256x1024 .f32) (r : Fin 256) (k : Fin 1024) :
    k0_pay6 (F := Ideal) x d (ix2 r k) = Merge.branch (fun a => x (ix2 r a)) (fun a => d (ix2 r a)) 2 k := by
  unfold Merge.branch Merge.gate
  pointwise [k0_pay6, k0_pay5, k0_pay3]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

/-- The gates' gradient that the call leaves. -/
theorem final5 : (dats m 0 c).arrAt 5 (cfgs 0).N = fun j : S16384x3072.Idx => Merge.gates (fun a => ax m c (ix2 (j 0) a)) (fun a => a0 m c (ix2 (j 0) a))
    (fun a => a1 m c (ix2 (j 0) a)) (fun a => a2 m c (ix2 (j 0) a)) (fun a => ad m c (ix2 (j 0) a)) (j 1) := by
  refine (dats m 0 c).arrAt_eq_of_covers 5 _ (by decide +kernel) fun t hf y => ?_
  blk_simp
  rw [after0_5]
  unfold out0_5
  frame_out
  rw [eq_ix2 y]
  refine (gates_at _ _ _ _ _ _ _).trans ?_
  refine congr (congr (congr (congr (congrArg₂ Merge.gates (funext fun a => ?_) (funext fun a => ?_)) (funext fun a => ?_)) (funext fun a => ?_))
    (funext fun a => ?_)) (Fin.ext ?_)
  iterate 5 · blk_ext [iblk, idx t]
  · blk_simp [idx t]

/-- The branches' gradients that the call leaves. -/
theorem final6 : (dats m 0 c).arrAt 6 (cfgs 0).N
    = fun j : S16384x1024.Idx => Merge.branch (fun a => ax m c (ix2 (j 0) a)) (fun a => ad m c (ix2 (j 0) a)) 0 (j 1) := by
  refine (dats m 0 c).arrAt_eq_of_covers 6 _ (by decide +kernel) fun t hf y => ?_
  blk_simp
  rw [after0_6]
  unfold out0_6
  frame_out
  rw [eq_ix2 y]
  refine (branch0_at _ _ _ _).trans ?_
  refine congr (congrFun (congrArg₂ Merge.branch (funext fun a => ?_) (funext fun a => ?_)) _) (Fin.ext ?_)
  iterate 2 · blk_ext [iblk, idx t]
  · blk_simp [idx t]

theorem final7 : (dats m 0 c).arrAt 7 (cfgs 0).N
    = fun j : S16384x1024.Idx => Merge.branch (fun a => ax m c (ix2 (j 0) a)) (fun a => ad m c (ix2 (j 0) a)) 1 (j 1) := by
  refine (dats m 0 c).arrAt_eq_of_covers 7 _ (by decide +kernel) fun t hf y => ?_
  blk_simp
  rw [after0_7]
  unfold out0_7
  frame_out
  rw [eq_ix2 y]
  refine (branch1_at _ _ _ _).trans ?_
  refine congr (congrFun (congrArg₂ Merge.branch (funext fun a => ?_) (funext fun a => ?_)) _) (Fin.ext ?_)
  iterate 2 · blk_ext [iblk, idx t]
  · blk_simp [idx t]

theorem final8 : (dats m 0 c).arrAt 8 (cfgs 0).N
    = fun j : S16384x1024.Idx => Merge.branch (fun a => ax m c (ix2 (j 0) a)) (fun a => ad m c (ix2 (j 0) a)) 2 (j 1) := by
  refine (dats m 0 c).arrAt_eq_of_covers 8 _ (by decide +kernel) fun t hf y => ?_
  blk_simp
  rw [after0_8]
  unfold out0_8
  frame_out
  rw [eq_ix2 y]
  refine (branch2_at _ _ _ _).trans ?_
  refine congr (congrFun (congrArg₂ Merge.branch (funext fun a => ?_) (funext fun a => ?_)) _) (Fin.ext ?_)
  iterate 2 · blk_ext [iblk, idx t]
  · blk_simp [idx t]

/-- The reference runs and ends with its arguments unchanged. -/
theorem reference_frame : Cert.quiescent_MergeBwdRefIdeal (hMergeBwdRefIdeal := Cert.MergeBwdRefIdeal.Gen.facts) := fun m g _ =>
  θ_run_mono (Cert.MergeBwdRefIdeal.Value.run m g) fun r h =>
    ⟨fun c => (h c).2.2.2.2, Idealize.ShloMosaic.sem_eq_zero_of_no_sems (by decide) r.2⟩

/-- From memories that agree on the arguments both programs run, and their results are equal. -/
theorem algebraic : Cert.algebraic_MergeBwdIdeal_MergeBwdRefIdeal
    (hMergeBwdIdeal := Cert.MergeBwdIdeal.Gen.facts) (hMergeBwdRefIdeal := Cert.MergeBwdRefIdeal.Gen.facts) := by
  intro m g m' g' _ agree
  refine ⟨fun c => (dats m 0 c).arrAt 5 (cfgs 0).N, fun c => (dats m 0 c).arrAt 6 (cfgs 0).N, fun c => (dats m 0 c).arrAt 7 (cfgs 0).N,
    fun c => (dats m 0 c).arrAt 8 (cfgs 0).N, Cert.MergeBwdIdeal.Value.run_blocks m g, ?_⟩
  refine θ_run_mono (Cert.MergeBwdRefIdeal.Value.run m' g') fun r h c =>
    ⟨(h c).1.trans ?_, (h c).2.1.trans ?_, (h c).2.2.1.trans ?_, (h c).2.2.2.1.trans ?_, (h c).2.2.2.2⟩
  · rw [(agree c).1, (agree c).2.1, (agree c).2.2.1, (agree c).2.2.2.1, (agree c).2.2.2.2]
    refine Eq.trans ?_ (final5 m c).symm
    clear h
    funext j
    rw [eq_ix2 j]
    unfold Merge.gates Merge.one
    pointwise [Ideal.logistic]
    have lt : (j 1).val < 3072 := (j 1).isLt
    by_cases h0 : (j 1).val < 1024
    · simp only [dif_pos h0, dif_pos (show (j 1).val / 1024 < 1 by omega), Nat.mod_eq_of_lt h0]
    by_cases h1 : (j 1).val < 2048
    · simp only [dif_neg h0, dif_pos h1, dif_neg (show ¬ (j 1).val / 1024 < 1 by omega), dif_pos (show (j 1).val / 1024 - 1 < 1 by omega),
        show (j 1).val % 1024 = (j 1).val - 1024 by omega]
    · simp only [dif_neg h0, dif_neg h1, dif_neg (show ¬ (j 1).val / 1024 < 1 by omega), dif_neg (show ¬ (j 1).val / 1024 - 1 < 1 by omega),
        show (j 1).val % 1024 = (j 1).val - 2048 by omega]
  · rw [(agree c).1, (agree c).2.2.2.2]
    refine Eq.trans ?_ (final6 m c).symm
    clear h
    funext j
    rw [eq_ix2 j]
    unfold Merge.branch Merge.gate
    pointwise [Ideal.logistic]
  · rw [(agree c).1, (agree c).2.2.2.2]
    refine Eq.trans ?_ (final7 m c).symm
    clear h
    funext j
    rw [eq_ix2 j]
    unfold Merge.branch Merge.gate
    pointwise [Ideal.logistic]
  · rw [(agree c).1, (agree c).2.2.2.2]
    refine Eq.trans ?_ (final8 m c).symm
    clear h
    funext j
    rw [eq_ix2 j]
    unfold Merge.branch Merge.gate
    pointwise [Ideal.logistic]

end Cert.MergeBwdIdeal.Val

/-! ## The merge -/

namespace Cert.MergeFwdIdeal.Val

open Cert.MergeFwdIdeal Cert.MergeFwdIdeal.Gen

variable (m : (ℓ : Loc nD τ sig) → Buf (Elt Ideal) ℓ) (c : Dev nD)

/-- The gates and the three branches that device `c` is given. -/
abbrev ax : FVec Ideal S16384x3072 .f32 := m ((c : Thread nD τ).loc main_arg0)
abbrev a0 : FVec Ideal S16384x1024 .f32 := m ((c : Thread nD τ).loc main_arg1)
abbrev a1 : FVec Ideal S16384x1024 .f32 := m ((c : Thread nD τ).loc main_arg2)
abbrev a2 : FVec Ideal S16384x1024 .f32 := m ((c : Thread nD τ).loc main_arg3)

/-- A point stores the merged branches of its rows. -/
theorem pay_at (x : FVec Ideal S256x3072 .f32) (b0 b1 b2 : FVec Ideal S256x1024 .f32) (r : Fin 256) (k : Fin 1024) :
    k0_pay1 (F := Ideal) x b0 b1 b2 (ix2 r k)
      = Merge.val (fun a => x (ix2 r a)) (fun a => b0 (ix2 r a)) (fun a => b1 (ix2 r a)) (fun a => b2 (ix2 r a)) k := by
  unfold Merge.val Merge.gate
  pointwise [k0_pay1]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] := (by decide +kernel : ∀ t : Fin grid0.N, _)

/-- The array the call leaves. -/
theorem final : (dats m 0 c).arrAt 4 (cfgs 0).N = fun j : S16384x1024.Idx => Merge.val (fun a => ax m c (ix2 (j 0) a)) (fun a => a0 m c (ix2 (j 0) a))
    (fun a => a1 m c (ix2 (j 0) a)) (fun a => a2 m c (ix2 (j 0) a)) (j 1) := by
  refine (dats m 0 c).arrAt_eq_of_covers 4 _ (by decide +kernel) fun t hf y => ?_
  blk_simp
  rw [after0_4]
  unfold out0_4
  frame_out
  rw [eq_ix2 y]
  refine (pay_at _ _ _ _ _ _).trans ?_
  refine congr (congr (congr (congrArg₂ Merge.val (funext fun a => ?_) (funext fun a => ?_)) (funext fun a => ?_)) (funext fun a => ?_)) (Fin.ext ?_)
  iterate 4 · blk_ext [iblk, idx t]
  · blk_simp [idx t]

/-- The reference runs and ends with its arguments unchanged. -/
theorem reference_frame : Cert.quiescent_MergeFwdRefIdeal (hMergeFwdRefIdeal := Cert.MergeFwdRefIdeal.Gen.facts) := fun m g _ =>
  θ_run_mono (Cert.MergeFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_MergeFwdIdeal_MergeFwdRefIdeal
    (hMergeFwdIdeal := Cert.MergeFwdIdeal.Gen.facts) (hMergeFwdRefIdeal := Cert.MergeFwdRefIdeal.Gen.facts) := by
  intro m g m' g' _ agree
  refine ⟨fun c => (dats m 0 c).arrAt 4 (cfgs 0).N, Cert.MergeFwdIdeal.Value.run_blocks m g, ?_⟩
  refine θ_run_mono (Cert.MergeFwdRefIdeal.Value.run m' g') fun r h c => ⟨(h c).1.trans ?_, (h c).2⟩
  rw [(agree c).1, (agree c).2.1, (agree c).2.2.1, (agree c).2.2.2]
  refine Eq.trans ?_ (final m c).symm
  clear h
  funext j
  rw [eq_ix2 j]
  unfold Merge.val Merge.gate
  pointwise [Ideal.logistic]
  refine (Fin.sum_univ_three _).trans ?_
  simp

end Cert.MergeFwdIdeal.Val
-- ==== Proof.Norm.lean ====
/- The layer norm of the residual sum: its forward call and its backward call compute it and its gradient, as the references do. -/
module

public import proofs.«01_k».proof.Defs
public import Idealize.ShloMosaic.Lib.Claim
public import Idealize.ShloMosaic.Lib.Pipeline.ValueKit
public import proofs.«01_k».proof.Proof.Gen.NormBwdIdeal.Value
public import proofs.«01_k».proof.Proof.Gen.NormBwdRefIdeal.Run
public import proofs.«01_k».proof.Proof.Gen.NormFwdIdeal.Value
public import proofs.«01_k».proof.Proof.Gen.NormFwdRefIdeal.Run

@[expose] public section

set_option maxRecDepth 16384

noncomputable section

open Idealize.ShloMosaic Idealize.ShloMosaic.TcCoe Idealize.SL Idealize.SL.Sem
open Idealize.ShloMosaic.Pipeline

namespace Cert.Norm

/-- A number that the programs write as the f32 with bits `b`. -/
abbrev num (b : BitVec 32) : EReal := Ideal.ofBits .f32 b

/-- The residual sum of one row. -/
def res (x f : Fin 1024 → EReal) (k : Fin 1024) : EReal := num 0x3FB504F3#32 * x k + num 0x3F000000#32 * f k

/-- A row's distance from its mean. -/
def dev (r : Fin 1024 → EReal) (k : Fin 1024) : EReal := r k - Ideal.div (∑ a, r a) (num 0x44800000#32)

/-- A row's variance and the small constant. -/
def spread (r : Fin 1024 → EReal) : EReal :=
  Ideal.div (∑ a, dev r a * dev r a) (num 0x44800000#32) + num 0x3727C5AC#32

/-- The layer norm of one row's residual sum, at the element `k`. -/
def val (x f : Fin 1024 → EReal) (g b : EReal) (k : Fin 1024) : EReal :=
  dev (res x f) k * Ideal.rsqrt (spread (res x f)) * g + b

/-- What the variance adds to the gradient in a row's residual sum `r`: `h` holds the cotangents times the scale. -/
def vary (r h : Fin 1024 → EReal) (k : Fin 1024) : EReal :=
  Ideal.div ((∑ a, dev r a * h a) * (num 0xBF000000#32 * Ideal.div (Ideal.rsqrt (spread r)) (spread r))) (num 0x44800000#32)
    * (num 0x40000000#32 * dev r k)

/-- The gradient in a row's residual sum. -/
def grad (r h : Fin 1024 → EReal) (k : Fin 1024) : EReal :=
  h k * Ideal.rsqrt (spread r) + vary r h k
    + Ideal.div (∑ a, -(h a * Ideal.rsqrt (spread r)) + ∑ a, -vary r h a) (num 0x44800000#32)

/-- One row's summand of the gradient of the scale: `d` is the cotangent at the element `k`. -/
def part (r : Fin 1024 → EReal) (d : EReal) (k : Fin 1024) : EReal := dev r k * Ideal.rsqrt (spread r) * d

end Cert.Norm

/-! ## The gradient -/

namespace Cert.NormBwdIdeal.Val

open Cert.NormBwdIdeal Cert.NormBwdIdeal.Gen

variable (m : (ℓ : Loc nD τ sig) → Buf (Elt Ideal) ℓ) (c : Dev nD)

/-- The two summands, the scale and the cotangent that device `c` is given. -/
abbrev ax : FVec Ideal S16384x1024 .f32 := m ((c : Thread nD τ).loc main_arg0)
abbrev af : FVec Ideal S16384x1024 .f32 := m ((c : Thread nD τ).loc main_arg1)
abbrev ag : FVec Ideal S1024 .f32 := m ((c : Thread nD τ).loc main_arg2)
abbrev ady : FVec Ideal S16384x1024 .f32 := m ((c : Thread nD τ).loc main_arg4)

/-- The gradient in its rows' residual sums that a point makes. -/
theorem grad_at (x f d : FVec Ideal S512x1024 .f32) (g : FVec Ideal S1x1024 .f32) (r : Fin 512) (k : Fin 1024) :
    k0_pay15 (F := Ideal) (k0_pay6 x f) (k0_pay7 x f) (k0_pay9 x f) (k0_pay10 x f) (k0_pay11 d) (k0_pay14 g) (ix2 r k)
      = Norm.grad (Norm.res (fun a => x (ix2 r a)) (fun a => f (ix2 r a))) (fun a => d (ix2 r a) * g (ix2 (0 : Fin 1) a)) k := by
  unfold Norm.grad Norm.vary Norm.spread Norm.dev Norm.res
  pointwise [k0_pay15, k0_pay6, k0_pay7, k0_pay9, k0_pay10, k0_pay11, k0_pay14, k0_pay8, k0_pay5, k0_pay4, k0_pay3]
  simp only [Finset.univ_unique, Finset.sum_singleton, zero_sub]

/-- The two numbers that the gradient in the residual sum is multiplied by. -/
theorem times_at (a b : FVec Ideal S512x1024 .f32) (u v : FVec Ideal S512x1 .f32) (d g : FVec Ideal S512x1024 .f32) (j : S512x1024.Idx) :
    k0_pay17 (F := Ideal) a b u v d g j = Norm.num 0x3FB504F3#32 * k0_pay15 (F := Ideal) a b u v d g j
      ∧ k0_pay16 (F := Ideal) a b u v d g j = Norm.num 0x3F000000#32 * k0_pay15 (F := Ideal) a b u v d g j := ⟨rfl, rfl⟩

/-- A point's sum for the gradient of the scale. -/
theorem scale_at (x f d : FVec Ideal S512x1024 .f32) (j : S1x1024.Idx) :
    k0_pay13 (F := Ideal) x f d j = ∑ r : Fin 512, Norm.part (Norm.res (fun a => x (ix2 r a)) (fun a => f (ix2 r a))) (d (ix2 r (j 1))) (j 1) := by
  unfold Norm.part Norm.spread Norm.dev Norm.res
  pointwise [k0_pay13, k0_pay7, k0_pay9, k0_pay11, k0_pay8, k0_pay5, k0_pay4, k0_pay3]

/-- A point's sum for the gradient of the shift. -/
theorem shift_at (d : FVec Ideal S512x1024 .f32) (j : S1x1024.Idx) :
    k0_pay12 (F := Ideal) d j = ∑ r : Fin 512, d (ix2 r (j 1)) := by
  pointwise [k0_pay12]

/-- A later point adds its sum to what is there. -/
theorem add_at (s O : FVec Ideal S1x1024 .f32) (j : S1x1024.Idx) : k0_pay1 (F := Ideal) s O j = O j + s j ∧ k0_pay2 (F := Ideal) s O j = O j + s j := by
  constructor
  · pointwise [k0_pay1]
  · pointwise [k0_pay2]

theorem idx : ∀ t : Fin cfg0.N, win0_0.index t = ![t.val, 0] ∧ win0_1.index t = ![t.val, 0] ∧ win0_2.index t = ![0, 0]
    ∧ win0_4.index t = ![t.val, 0] ∧ win0_5.index t = ![t.val, 0] ∧ win0_6.index t = ![t.val, 0] ∧ win0_7.index t = ![t.val / 32, 0] ∧ win0_8.index t = ![t.val / 32, 0] :=
  (by decide +kernel : ∀ t : Fin grid0.N, _)

/-- The scale as the call is given it. -/
theorem scale : V m c main_v0 = fun j : S1x1024.Idx => ag m c (ix1 (j 1)) := by
  unfold V
  after_results
  funext j
  pointwise

/-- The gradient in the residual sum that device `c`'s arguments have at row `r`. -/
abbrev back (r : Fin 16384) (k : Fin 1024) : EReal :=
  Norm.grad (Norm.res (fun a => ax m c (ix2 r a)) (fun a => af m c (ix2 r a))) (fun a => ady m c (ix2 r a) * ag m c (ix1 a)) k

/-- What a point makes of its blocks is the gradient at the array's rows. -/
theorem block (t : Fin cfg0.N) (r : Fin 512) (k : Fin 1024) (R : Fin 16384) (K : Fin 1024) (hR : R.val = t.val * 512 + r.val) (hK : K.val = k.val) :
    k0_pay15 (F := Ideal) (k0_pay6 (iblk m c 0 t) (iblk m c 1 t)) (k0_pay7 (iblk m c 0 t) (iblk m c 1 t))
      (k0_pay9 (iblk m c 0 t) (iblk m c 1 t)) (k0_pay10 (iblk m c 0 t) (iblk m c 1 t)) (k0_pay11 (iblk m c 4 t))
      (k0_pay14 (iblk m c 2 t)) (ix2 r k) = back m c R K := by
  refine (grad_at (iblk m c 0 t) (iblk m c 1 t) (iblk m c 4 t) (iblk m c 2 t) r k).trans ?_
  refine congr (congrArg₂ Norm.grad (congrArg₂ Norm.res (funext fun a => ?_) (funext fun a => ?_))
    (funext fun a => congrArg₂ (fun u v : EReal => u * v) ?_
      ((congrFun (scale m c) _).trans (congrArg (fun k : Fin 1024 => ag m c (ix1 k)) (Fin.ext ?_))))) (Fin.ext hK.symm)
  · blk_ext [iblk, idx t, hR]
  · blk_ext [iblk, idx t, hR]
  · blk_ext [iblk, idx t, hR]
  · blk_simp [idx t]

/-- The gradient in the first summand that the call leaves. -/
theorem final5 : (dats m 0 c).arrAt 5 (cfgs 0).N = fun j : S16384x1024.Idx => Norm.num 0x3FB504F3#32 * back m c (j 0) (j 1) := by
  refine (dats m 0 c).arrAt_eq_of_covers 5 _ (by decide +kernel) fun t hf y => ?_
  have hN : t.val < 32 := t.isLt
  blk_simp
  rw [after0_5]
  refine Eq.trans (b := k0_pay17 (k0_pay6 (iblk m c 0 t) (iblk m c 1 t)) (k0_pay7 (iblk m c 0 t) (iblk m c 1 t))
      (k0_pay9 (iblk m c 0 t) (iblk m c 1 t)) (k0_pay10 (iblk m c 0 t) (iblk m c 1 t)) (k0_pay11 (iblk m c 4 t))
      (k0_pay14 (iblk m c 2 t)) y) ?_ ?_
  · by_cases h0 : t.val % 32 = 0
    · rw [outsAt0_A m c t h0 (by omega) h0 (by omega)]
      frame_out
    · rw [outsAt0_B m c t h0 (by omega) h0 (by omega)]
      frame_out
  · rw [eq_ix2 y]
    refine (times_at _ _ _ _ _ _ _).1.trans (congrArg (fun u : EReal => Norm.num 0x3FB504F3#32 * u) (block m c t (y 0) (y 1) _ _ ?_ ?_))
    · blk_simp [idx t]
    · blk_simp [idx t]

/-- The gradient in the second summand that the call leaves. -/
theorem final6 : (dats m 0 c).arrAt 6 (cfgs 0).N = fun j : S16384x1024.Idx => Norm.num 0x3F000000#32 * back m c (j 0) (j 1) := by
  refine (dats m 0 c).arrAt_eq_of_covers 6 _ (by decide +kernel) fun t hf y => ?_
  have hN : t.val < 32 := t.isLt
  blk_simp
  rw [after0_6]
  refine Eq.trans (b := k0_pay16 (k0_pay6 (iblk m c 0 t) (iblk m c 1 t)) (k0_pay7 (iblk m c 0 t) (iblk m c 1 t))
      (k0_pay9 (iblk m c 0 t) (iblk m c 1 t)) (k0_pay10 (iblk m c 0 t) (iblk m c 1 t)) (k0_pay11 (iblk m c 4 t))
      (k0_pay14 (iblk m c 2 t)) y) ?_ ?_
  · by_cases h0 : t.val % 32 = 0
    · rw [outsAt0_A m c t h0 (by omega) h0 (by omega)]
      frame_out
    · rw [outsAt0_B m c t h0 (by omega) h0 (by omega)]
      frame_out
  · rw [eq_ix2 y]
    refine (times_at _ _ _ _ _ _ _).2.trans (congrArg (fun u : EReal => Norm.num 0x3F000000#32 * u) (block m c t (y 0) (y 1) _ _ ?_ ?_))
    · blk_simp [idx t]
    · blk_simp [idx t]

/-- The gradient of the scale that the call leaves. -/
theorem final7 : (dats m 0 c).arrAt 7 (cfgs 0).N = fun j : S1x1024.Idx =>
    ∑ r : Fin 16384, Norm.part (Norm.res (fun a => ax m c (ix2 r a)) (fun a => af m c (ix2 r a))) (ady m c (ix2 r (j 1))) (j 1) := by
  refine (dats m 0 c).arrAt_eq_of_covers 7 _ (by decide +kernel) fun t hf y => ?_
  blk_simp
  rw [after0_7, Pipeline.eq_sum_fin_of_reset_step_apply_of_flush (fun n h => (outsAt0 m c n h).2.2.1) 32 (fun _ => 0) _
    (fun t h j => by have hN : t.val < 32 := t.isLt; rw [outsAt0_A m c t h (by omega) h (by omega)]; frame_out; rw [scale_at, ← zero_add (∑ _, _)])
    (fun t h j => by rw [outsAt0_B m c t h (by omega) h (by omega)]; frame_out; rw [(add_at _ _ _).1, scale_at])
    t ((flush0_7 t).mp hf) _, zero_add]
  refine Fin.sum_mul_add_congr fun s k hl => ?_
  refine congr (congrArg₂ Norm.part (congrArg₂ Norm.res (funext fun a => ?_) (funext fun a => ?_)) ?_) (Fin.ext ?_)
  · blk_ext [iblk, idx t, idx ⟨_, Pipeline.run_point_lt_of_flush t ((flush0_7 t).mp hf) s⟩]
  · blk_ext [iblk, idx t, idx ⟨_, Pipeline.run_point_lt_of_flush t ((flush0_7 t).mp hf) s⟩]
  · blk_ext [iblk, idx t, idx ⟨_, Pipeline.run_point_lt_of_flush t ((flush0_7 t).mp hf) s⟩]
  · blk_simp [idx t]

/-- The gradient of the shift that the call leaves. -/
theorem final8 : (dats m 0 c).arrAt 8 (cfgs 0).N = fun j : S1x1024.Idx => ∑ r : Fin 16384, ady m c (ix2 r (j 1)) := by
  refine (dats m 0 c).arrAt_eq_of_covers 8 _ (by decide +kernel) fun t hf y => ?_
  blk_simp
  rw [after0_8, Pipeline.eq_sum_fin_of_reset_step_apply_of_flush (fun n h => (outsAt0 m c n h).2.2.2) 32 (fun _ => 0) _
    (fun t h j => by have hN : t.val < 32 := t.isLt; rw [outsAt0_A m c t h (by omega) h (by omega)]; frame_out; rw [shift_at, ← zero_add (∑ _, _)])
    (fun t h j => by rw [outsAt0_B m c t h (by omega) h (by omega)]; frame_out; rw [(add_at _ _ _).2, shift_at])
    t ((flush0_8 t).mp hf) _, zero_add]
  refine Fin.sum_mul_add_congr fun s k hl => ?_
  blk_ext [iblk, idx t, idx ⟨_, Pipeline.run_point_lt_of_flush t ((flush0_8 t).mp hf) s⟩]

/-- The reference's gradient in its residual sums. -/
theorem ref_grad (m' : (ℓ : Loc Cert.NormBwdRefIdeal.nD Cert.NormBwdRefIdeal.τ Cert.NormBwdRefIdeal.sig) → Buf (Elt Ideal) ℓ) (c' : Dev Cert.NormBwdRefIdeal.nD)
    (x f d : FVec Ideal S16384x1024 .f32) (g : FVec Ideal S1024 .f32)
    (hx : m' ((c'.tc : Thread Cert.NormBwdRefIdeal.nD Cert.NormBwdRefIdeal.τ).loc Cert.NormBwdRefIdeal.main_arg0) = x)
    (hf : m' ((c'.tc : Thread Cert.NormBwdRefIdeal.nD Cert.NormBwdRefIdeal.τ).loc Cert.NormBwdRefIdeal.main_arg1) = f)
    (hg : m' ((c'.tc : Thread Cert.NormBwdRefIdeal.nD Cert.NormBwdRefIdeal.τ).loc Cert.NormBwdRefIdeal.main_arg2) = g)
    (hd : m' ((c'.tc : Thread Cert.NormBwdRefIdeal.nD Cert.NormBwdRefIdeal.τ).loc Cert.NormBwdRefIdeal.main_arg4) = d) (r : Fin 16384) (k : Fin 1024) :
    Cert.NormBwdRefIdeal.Value.res_main_v71 (F := Ideal) m' c' (ix2 r k)
        = Norm.num 0x3FB504F3#32 * Norm.grad (Norm.res (fun a => x (ix2 r a)) (fun a => f (ix2 r a))) (fun a => d (ix2 r a) * g (ix1 a)) k
      ∧ Cert.NormBwdRefIdeal.Value.res_main_v69 (F := Ideal) m' c' (ix2 r k)
        = Norm.num 0x3F000000#32 * Norm.grad (Norm.res (fun a => x (ix2 r a)) (fun a => f (ix2 r a))) (fun a => d (ix2 r a) * g (ix1 a)) k := by
  unfold Cert.NormBwdRefIdeal.Value.res_main_v69 Cert.NormBwdRefIdeal.Value.res_main_v71 Norm.grad Norm.vary Norm.spread Norm.dev Norm.res
  rw [hx, hf, hg, hd]
  constructor
  · pointwise
    simp only [Finset.univ_unique, Finset.sum_singleton, zero_sub]
  · pointwise
    simp only [Finset.univ_unique, Finset.sum_singleton, zero_sub]

/-- The reference runs and ends with its arguments unchanged. -/
theorem reference_frame : Cert.quiescent_NormBwdRefIdeal (hNormBwdRefIdeal := Cert.NormBwdRefIdeal.Gen.facts) := fun m g _ =>
  θ_run_mono (Cert.NormBwdRefIdeal.Value.run m g) fun r h =>
    ⟨fun c => (h c).2.2.2.2, Idealize.ShloMosaic.sem_eq_zero_of_no_sems (by decide) r.2⟩

/-- From memories that agree on the arguments both programs run, and their results are equal. -/
theorem algebraic : Cert.algebraic_NormBwdIdeal_NormBwdRefIdeal
    (hNormBwdIdeal := Cert.NormBwdIdeal.Gen.facts) (hNormBwdRefIdeal := Cert.NormBwdRefIdeal.Gen.facts) := by
  intro m g m' g' _ agree
  refine ⟨fun c => (dats m 0 c).arrAt 5 (cfgs 0).N, fun c => (dats m 0 c).arrAt 6 (cfgs 0).N, fun c => (dats m 0 c).arrAt 7 (cfgs 0).N,
    fun c => (dats m 0 c).arrAt 8 (cfgs 0).N, Cert.NormBwdIdeal.Value.run_blocks m g, ?_⟩
  refine θ_run_mono (Cert.NormBwdRefIdeal.Value.run m' g') fun r h c =>
    ⟨(h c).1.trans ?_, (h c).2.1.trans ?_, (h c).2.2.1.trans ?_, (h c).2.2.2.1.trans ?_, (h c).2.2.2.2⟩
  · refine Eq.trans (funext fun j => ?_) (final5 m c).symm
    rw [eq_ix2 j]
    exact (ref_grad m' c _ _ _ _ (agree c).1 (agree c).2.1 (agree c).2.2.1 (agree c).2.2.2.2 _ _).1
  · refine Eq.trans (funext fun j => ?_) (final6 m c).symm
    rw [eq_ix2 j]
    exact (ref_grad m' c _ _ _ _ (agree c).1 (agree c).2.1 (agree c).2.2.1 (agree c).2.2.2.2 _ _).2
  · rw [(agree c).1, (agree c).2.1, (agree c).2.2.2.2]
    refine Eq.trans ?_ (final7 m c).symm
    clear h
    funext j
    unfold Norm.part Norm.spread Norm.dev Norm.res
    pointwise
    simp only [Finset.univ_unique, Finset.sum_singleton]
  · rw [(agree c).2.2.2.2]
    refine Eq.trans ?_ (final8 m c).symm
    clear h
    funext j
    pointwise
    simp only [Finset.univ_unique, Finset.sum_singleton]

end Cert.NormBwdIdeal.Val

/-! ## The norm -/

namespace Cert.NormFwdIdeal.Val

open Cert.NormFwdIdeal Cert.NormFwdIdeal.Gen

variable (m : (ℓ : Loc nD τ sig) → Buf (Elt Ideal) ℓ) (c : Dev nD)

/-- The two summands, the scale and the shift that device `c` is given. -/
abbrev ax : FVec Ideal S16384x1024 .f32 := m ((c : Thread nD τ).loc main_arg0)
abbrev af : FVec Ideal S16384x1024 .f32 := m ((c : Thread nD τ).loc main_arg1)
abbrev ag : FVec Ideal S1024 .f32 := m ((c : Thread nD τ).loc main_arg2)
abbrev ab : FVec Ideal S1024 .f32 := m ((c : Thread nD τ).loc main_arg3)

/-- A point stores the norms of its rows. -/
theorem pay_at (x f : FVec Ideal S512x1024 .f32) (g b : FVec Ideal S1x1024 .f32) (r : Fin 512) (k : Fin 1024) :
    k0_pay1 (F := Ideal) x f g b (ix2 r k)
      = Norm.val (fun a => x (ix2 r a)) (fun a => f (ix2 r a)) (g (ix2 (0 : Fin 1) k)) (b (ix2 (0 : Fin 1) k)) k := by
  unfold Norm.val Norm.spread Norm.dev Norm.res
  pointwise [k0_pay1]

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The scale as the call is given it. -/
theorem scale : V m c main_v0 = fun j : S1x1024.Idx => ag m c (ix1 (j 1)) := by
  unfold V
  after_results
  funext j
  pointwise

/-- The shift as the call is given it. -/
theorem shift : V m c main_v1 = fun j : S1x1024.Idx => ab m c (ix1 (j 1)) := by
  unfold V
  after_results
  funext j
  pointwise

/-- The array the call leaves. -/
theorem final : (dats m 0 c).arrAt 4 (cfgs 0).N
    = fun j : S16384x1024.Idx => Norm.val (fun a => ax m c (ix2 (j 0) a)) (fun a => af m c (ix2 (j 0) a)) (ag m c (ix1 (j 1))) (ab m c (ix1 (j 1))) (j 1) := by
  refine (dats m 0 c).arrAt_eq_of_covers 4 _ (by decide +kernel) fun t hf y => ?_
  blk_simp
  rw [after0_4]
  unfold out0_4
  frame_out
  rw [eq_ix2 y]
  refine (pay_at _ _ _ _ _ _).trans ?_
  refine congr (congr (congr (congrArg₂ Norm.val (funext fun a => (congrFun (V_main_arg0 m c) _).trans ?_)
    (funext fun a => (congrFun (V_main_arg1 m c) _).trans ?_)) ((congrFun (scale m c) _).trans (congrArg (fun k : Fin 1024 => ag m c (ix1 k)) (Fin.ext ?_)))) ((congrFun (shift m c) _).trans (congrArg (fun k : Fin 1024 => ab m c (ix1 k)) (Fin.ext ?_)))) (Fin.ext ?_)
  · blk_ext [iblk, idx t]
  · blk_ext [iblk, idx t]
  · blk_simp [idx t]
  · blk_simp [idx t]
  · blk_simp [idx t]

/-- The reference runs and ends with its arguments unchanged. -/
theorem reference_frame : Cert.quiescent_NormFwdRefIdeal (hNormFwdRefIdeal := Cert.NormFwdRefIdeal.Gen.facts) := fun m g _ =>
  θ_run_mono (Cert.NormFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_NormFwdIdeal_NormFwdRefIdeal
    (hNormFwdIdeal := Cert.NormFwdIdeal.Gen.facts) (hNormFwdRefIdeal := Cert.NormFwdRefIdeal.Gen.facts) := by
  intro m g m' g' _ agree
  refine ⟨fun c => (dats m 0 c).arrAt 4 (cfgs 0).N, Cert.NormFwdIdeal.Value.run_blocks m g, ?_⟩
  refine θ_run_mono (Cert.NormFwdRefIdeal.Value.run m' g') fun r h c => ⟨(h c).1.trans ?_, (h c).2⟩
  rw [(agree c).1, (agree c).2.1, (agree c).2.2.1, (agree c).2.2.2]
  refine Eq.trans ?_ (final m c).symm
  clear h
  funext j
  rw [eq_ix2 j]
  unfold Norm.val Norm.spread Norm.dev Norm.res
  pointwise

end Cert.NormFwdIdeal.Val
-- ==== Proof.Loss.lean ====
/- The loss head: its forward call, with the sum over the tokens, computes the loss of one device's tokens, and its backward call, at the cotangent that this sum gives it, the loss's gradient, as the references do. -/
module

public import proofs.«01_k».proof.Defs
public import Idealize.ShloMosaic.Lib.Claim
public import Idealize.ShloMosaic.Lib.Pipeline.ValueKit
public import proofs.«01_k».proof.Proof.Gen.LossBwdIdeal.Value
public import proofs.«01_k».proof.Proof.Gen.LossBwdRefIdeal.Run
public import proofs.«01_k».proof.Proof.Gen.LossFwdIdeal.Frame
public import proofs.«01_k».proof.Proof.Gen.LossFwdRefIdeal.Run

@[expose] public section

set_option maxRecDepth 16384

noncomputable section

open Idealize.ShloMosaic Idealize.ShloMosaic.TcCoe Idealize.SL Idealize.SL.Sem
open Idealize.ShloMosaic.Pipeline

namespace Cert.Loss

/-- What a row's cotangents `l` in the lanes make of the difference `e` of one element. -/
def back (l : Fin 128 → EReal) (e : EReal) : EReal :=
  e * Ideal.div (Ideal.ofBits .f32 0x3F000000#32 * ∑ k, l k) (Ideal.ofBits .f32 0x44800000#32)
    + Ideal.div (Ideal.ofBits .f32 0x3F000000#32 * ∑ k, l k) (Ideal.ofBits .f32 0x44800000#32) * e

/-- The negative of an element doubled. -/
theorem neg_double (x : EReal) : -x + -x = -(x + x) := by
  refine (EReal.neg_add ?_ ?_).symm
  · by_cases h : x = ⊥
    · exact .inr (h ▸ bot_ne_top)
    · exact .inl h
  · by_cases h : x = ⊤
    · exact .inr (h ▸ top_ne_bot)
    · exact .inl h

/-- A product with an element doubled is the sum of the two products. -/
theorem mul_double (g e : EReal) : g * (e + e) = e * g + g * e := by
  rw [mul_comm e g]
  rcases le_total 0 e with h | h
  · exact EReal.left_distrib_of_nonneg h h
  · have h' : 0 ≤ -e := EReal.neg_nonneg.mpr h
    have := EReal.left_distrib_of_nonneg (c := g) h' h'
    rw [neg_double, mul_neg, mul_neg, neg_double] at this
    exact neg_injective this

/-- Two times an element is the element doubled. -/
theorem two_mul (e : EReal) : Ideal.ofBits .f32 0x40000000#32 * e = e + e := by
  have h2 : Ideal.ofBits .f32 0x40000000#32 = (1 : EReal) + 1 := by
    have : Ideal.ofBits .f32 0x40000000#32 = ((2 : ℝ) : EReal) := by
      simp [Ideal.ofBits, Ideal.ieee, -EReal.coe_mul]
      norm_num
    rw [this, ← EReal.coe_one, ← EReal.coe_add]
    norm_num
  rw [h2, EReal.right_distrib_of_nonneg zero_le_one zero_le_one, one_mul]

/-- The first lane of a row that is one there and zero in the other lanes makes half of the double difference's mean. -/
theorem back_first (e : EReal) : back (fun k => if k.val = 0 then (1 : EReal) else 0) e
    = Ideal.div (Ideal.ofBits .f32 0x3F000000#32 * Ideal.ofBits .f32 0x3F800000#32) (Ideal.ofBits .f32 0x44800000#32)
        * (Ideal.ofBits .f32 0x40000000#32 * e) := by
  have hs : ∑ k : Fin 128, (if k.val = 0 then (1 : EReal) else 0) = Ideal.ofBits .f32 0x3F800000#32 := by
    refine (Finset.sum_eq_single (0 : Fin 128) (fun b _ h => if_neg fun h0 => h (Fin.ext h0)) (fun h => absurd (Finset.mem_univ _) h)).trans ?_
    simp
  unfold back
  rw [hs, two_mul, mul_double]

/-- The mean of a row's squared differences. -/
def mean (x y : Fin 1024 → EReal) : EReal := Ideal.div (∑ k, (x k - y k) * (x k - y k)) (Ideal.ofBits .f32 0x44800000#32)

/-- Half of a sum is the sum of the halves. -/
theorem half_sum {n : ℕ} (f : Fin n → EReal) :
    Ideal.ofBits .f32 0x3F000000#32 * ∑ r, f r = ∑ r, Ideal.ofBits .f32 0x3F000000#32 * f r := by
  have h : Ideal.ofBits .f32 0x3F000000#32 = ((1 / 2 : ℝ) : EReal) := by
    simp [Ideal.ofBits, Ideal.ieee, -EReal.coe_mul]
    norm_num
  have h0 : (0 : EReal) ≤ ((1 / 2 : ℝ) : EReal) := by
    exact_mod_cast (by norm_num : (0 : ℝ) ≤ 1 / 2)
  rw [h]
  induction n with
  | zero => simp
  | succ n ih => rw [Fin.sum_univ_succ, Fin.sum_univ_succ, EReal.left_distrib_of_nonneg_of_ne_top h0 (EReal.coe_ne_top _), ih]

end Cert.Loss

/-! ## The gradient -/

namespace Cert.LossBwdIdeal.Val

open Cert.LossBwdIdeal Cert.LossBwdIdeal.Gen

variable (m : (ℓ : Loc nD τ sig) → Buf (Elt Ideal) ℓ) (c : Dev nD)

/-- The last block's output and the targets that device `c` is given. -/
abbrev ay : FVec Ideal S16384x1024 .f32 := m ((c : Thread nD τ).loc main_arg0)
abbrev atg : FVec Ideal S16384x1024 .f32 := m ((c : Thread nD τ).loc main_arg1)

/-- A point stores the gradients of its rows. -/
theorem pay_at (x y : FVec Ideal S512x1024 .f32) (l : FVec Ideal S512x128 .f32) (r : Fin 512) (k : Fin 1024) :
    k0_pay1 (F := Ideal) x y l (ix2 r k) = Loss.back (fun a => l (ix2 r a)) (x (ix2 r k) - y (ix2 r k)) := by
  unfold Loss.back
  pointwise [k0_pay1]
  simp only [Finset.univ_unique, Finset.sum_singleton]

theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- The cotangents as the call is given them: one in the first lane, zero in the others. -/
theorem lanes : V m c main_v2 = fun j : S16384x128.Idx => if (j 1).val = 0 then (1 : EReal) else 0 := by
  unfold V
  after_results
  funext j
  rw [eq_ix2 j]
  pointwise
  by_cases h0 : (j 1).val = 0
  · exact (dif_pos (Nat.lt_one_iff.mpr h0)).trans (if_pos h0).symm
  · exact (dif_neg fun h => h0 (Nat.lt_one_iff.mp h)).trans (if_neg h0).symm

/-- The array the call leaves. -/
theorem final : (dats m 0 c).arrAt 3 (cfgs 0).N
    = fun j : S16384x1024.Idx => Loss.back (fun k => if k.val = 0 then (1 : EReal) else 0) (ay m c j - atg m c j) := by
  refine (dats m 0 c).arrAt_eq_of_covers 3 _ (by decide +kernel) fun t hf y => ?_
  blk_simp
  rw [after0_3]
  unfold out0_3
  frame_out
  rw [eq_ix2 y]
  refine (pay_at _ _ _ _ _).trans ?_
  refine congrArg₂ Loss.back (funext fun a => (congrFun (lanes m c) _).trans ?_)
    (congrArg₂ (fun a b : EReal => a - b) ((congrFun (V_main_arg0 m c) _).trans ?_) ((congrFun (V_main_arg1 m c) _).trans ?_))
  · blk_simp [idx t]
  · blk_ext [iblk, idx t]
  · blk_ext [iblk, idx t]

/-- The reference runs and ends with its arguments unchanged. -/
theorem reference_frame : Cert.quiescent_LossBwdRefIdeal (hLossBwdRefIdeal := Cert.LossBwdRefIdeal.Gen.facts) := fun m g _ =>
  θ_run_mono (Cert.LossBwdRefIdeal.Value.run m g) fun r h =>
    ⟨fun c => (h c).2, Idealize.ShloMosaic.sem_eq_zero_of_no_sems (by decide) r.2⟩

/-- From memories that agree on the arguments both programs run, and their results are equal. -/
theorem algebraic : Cert.algebraic_LossBwdIdeal_LossBwdRefIdeal
    (hLossBwdIdeal := Cert.LossBwdIdeal.Gen.facts) (hLossBwdRefIdeal := Cert.LossBwdRefIdeal.Gen.facts) := by
  intro m g m' g' _ agree
  refine ⟨fun c => (dats m 0 c).arrAt 3 (cfgs 0).N, Cert.LossBwdIdeal.Value.run_blocks m g, ?_⟩
  refine θ_run_mono (Cert.LossBwdRefIdeal.Value.run m' g') fun r h c => ⟨(h c).1.trans ?_, (h c).2⟩
  rw [(agree c).1, (agree c).2]
  refine Eq.trans ?_ (final m c).symm
  clear h
  funext j
  rw [Loss.back_first]
  pointwise

end Cert.LossBwdIdeal.Val

/-! ## The loss -/

namespace Cert.LossFwdIdeal.Val

open Cert.LossFwdIdeal Cert.LossFwdIdeal.Gen

variable (m : (ℓ : Loc nD τ sig) → Buf (Elt Ideal) ℓ) (c : Dev nD)

/-- The last layer's output and the targets that device `c` is given. -/
abbrev ay : FVec Ideal S16384x1024 .f32 := m ((c : Thread nD τ).loc main_arg0)
abbrev atg : FVec Ideal S16384x1024 .f32 := m ((c : Thread nD τ).loc main_arg1)

/-- A point stores half of its rows' means in every lane. -/
theorem pay_at (x y : FVec Ideal S512x1024 .f32) (r : Fin 512) (k : Fin 128) :
    k0_pay1 (F := Ideal) x y (ix2 r k) = Ideal.ofBits .f32 0x3F000000#32 * Loss.mean (fun a => x (ix2 r a)) (fun a => y (ix2 r a)) := by
  unfold Loss.mean
  pointwise [k0_pay1]

theorem idx : ∀ t : Fin cfg0.N, win0_0.index t = ![t.val, 0] ∧ win0_1.index t = ![t.val, 0] ∧ win0_2.index t = ![t.val, 0] :=
  (by decide +kernel : ∀ t : Fin grid0.N, _)

/-- The array the call leaves. -/
theorem final : (dats m 0 c).arrAt 2 (cfgs 0).N
    = fun j : S16384x128.Idx => Ideal.ofBits .f32 0x3F000000#32 * Loss.mean (fun a => ay m c (ix2 (j 0) a)) (fun a => atg m c (ix2 (j 0) a)) := by
  refine (dats m 0 c).arrAt_eq_of_covers 2 _ (by decide +kernel) fun t hf y => ?_
  blk_simp
  rw [after0_2]
  unfold out0_2
  frame_out
  rw [eq_ix2 y]
  refine (pay_at _ _ _ _).trans ?_
  refine congrArg (fun u : EReal => Ideal.ofBits .f32 0x3F000000#32 * u) (congrArg₂ Loss.mean (funext fun a => ?_) (funext fun a => ?_))
  · blk_ext [iblk, idx t]
  · blk_ext [iblk, idx t]

/-- The sum of the first lanes. -/
theorem lane_sum (A : FVec Ideal S16384x128 .f32) :
    Host.reduceAdd (F := Ideal) (shapeCast S16384 (extractStridedSlice S16384x1 ![0, 0] A slices_S16384x128_S16384x1_0_0) shapeCasts_S16384x1_S16384)
        (constant S_ .f32 0x00000000#32) reducesTo_S16384_S_d0 h_S_
      = fun _ : S_.Idx => ∑ r : Fin 16384, A (ix2 r (0 : Fin 128)) := by
  funext j
  pointwise

/-- The program's result. -/
theorem result : afterTail₀ cfgs (dats m) 0 (V0 m) [hostOps1] c main_v3
    = fun _ : S_.Idx => ∑ r : Fin 16384, Ideal.ofBits .f32 0x3F000000#32 * Loss.mean (fun a => ay m c (ix2 r a)) (fun a => atg m c (ix2 r a)) := by
  have f := final m c
  rw [← (dats m 0 c).withArrays_arrAt (by decide : Pipeline.SharedIn (cfgs 0).spec) (V0 m c) (A_eq m c) 2] at f
  unfold afterTail₀
  generalize withArrays (cfgs 0).spec c (V0 m c) (fun w => (dats m 0 c).arrAt w (cfgs 0).N) = W at f
  refine Eq.trans ?_ ((lane_sum _).trans (funext fun _ => Finset.sum_congr rfl fun r _ => congrFun f (ix2 r (0 : Fin 128))))
  after_results
  rfl

/-- The reference runs and ends with its arguments unchanged. -/
theorem reference_frame : Cert.quiescent_LossFwdRefIdeal (hLossFwdRefIdeal := Cert.LossFwdRefIdeal.Gen.facts) := fun m g _ =>
  θ_run_mono (Cert.LossFwdRefIdeal.Value.run m g) fun r h =>
    ⟨fun c => (h c).2, Idealize.ShloMosaic.sem_eq_zero_of_no_sems (by decide) r.2⟩

/-- From memories that agree on the arguments both programs run, and their results are equal. -/
theorem algebraic : Cert.algebraic_LossFwdIdeal_LossFwdRefIdeal
    (hLossFwdIdeal := Cert.LossFwdIdeal.Gen.facts) (hLossFwdRefIdeal := Cert.LossFwdRefIdeal.Gen.facts) := by
  intro m g m' g' _ agree
  refine ⟨fun c => afterTail₀ cfgs (dats m) 0 (V0 m) [hostOps1] c main_v3, ?_, ?_⟩
  · exact θ_run_mono (θ_run_and (run_main m g) (frame m g)) fun r h c => ⟨h.1.rest_eq c main_v3 (by decide), h.2.1 c⟩
  · refine θ_run_mono (Cert.LossFwdRefIdeal.Value.run m' g') fun r h c => ⟨(h c).1.trans ?_, (h c).2⟩
    rw [(agree c).1, (agree c).2]
    refine Eq.trans ?_ (result m c).symm
    clear h
    funext j
    rw [← Loss.half_sum]
    unfold Loss.mean
    pointwise

end Cert.LossFwdIdeal.Val
-- ==== Proof.Adam.lean ====
/- The optimiser's calls for the sharded weights compute the reference's AdamW step, entry by entry. -/
module

public import proofs.«01_k».proof.Defs
public import Idealize.ShloMosaic.Lib.Claim
public import Idealize.ShloMosaic.Lib.Pipeline.ValueKit
public import proofs.«01_k».proof.Proof.Gen.AdamGuIdeal.Frame
public import proofs.«01_k».proof.Proof.Gen.AdamGuRefIdeal.Run
public import proofs.«01_k».proof.Proof.Gen.AdamDownIdeal.Frame
public import proofs.«01_k».proof.Proof.Gen.AdamDownRefIdeal.Run
public import proofs.«01_k».proof.Proof.Gen.AdamInIdeal.Frame
public import proofs.«01_k».proof.Proof.Gen.AdamInRefIdeal.Run
public import proofs.«01_k».proof.Proof.Gen.AdamKvIdeal.Frame
public import proofs.«01_k».proof.Proof.Gen.AdamKvRefIdeal.Run
public import proofs.«01_k».proof.Proof.Gen.AdamBranchIdeal.Frame
public import proofs.«01_k».proof.Proof.Gen.AdamBranchRefIdeal.Run

@[expose] public section

set_option maxRecDepth 16384

noncomputable section

open Idealize.ShloMosaic Idealize.ShloMosaic.TcCoe Idealize.SL Idealize.SL.Sem
open Idealize.ShloMosaic.Pipeline

/-! ## The step, of arrays of any shape -/

namespace Cert.Adam

/-- The number a 32-bit word is. -/
abbrev num (b : BitVec 32) : EReal := (Scalar.ofBits (F := Ideal) .f32 b : Ideal .f32)

/-- The new first moment, from the old one and the gradient. -/
def moment (m g : EReal) : EReal := num 0x3F666666#32 * m + num 0x3DCCCCCD#32 * g

/-- The new second moment. -/
def second (v g : EReal) : EReal := num 0x3F7FBE77#32 * v + num 0x3A83126F#32 * (g * g)

/-- The weight's change. -/
def change (w g m v : EReal) : EReal :=
  num 0xBA83126F#32 * (Ideal.div (Ideal.div (moment m g) (num 0x3F26BD02#32))
    (Ideal.sqrt (Ideal.div (second v g) (num 0x3C231ACC#32)) + num 0x322BCC77#32) + num 0x3C23D70A#32 * w)

/-- The shape of a number. -/
abbrev S_ : Shape := ⟨0, ![]⟩

section
variable {s : Shape} (hc : s.ShapeCasts s) (hb : S_.BroadcastsInDim s (![] : Fin 0 → Fin s.rank)) (w g m v : FVec Ideal s .f32)

/-- What the kernel computes for the first moment. -/
def kMoment : FVec Ideal s .f32 :=
  addf (mulf (broadcast s (num 0x3F666666#32)) (shapeCast s m hc)) (mulf (broadcast s (num 0x3DCCCCCD#32)) (shapeCast s g hc))

/-- What the kernel computes for the second moment. -/
def kSecond : FVec Ideal s .f32 :=
  addf (mulf (broadcast s (num 0x3F7FBE77#32)) (shapeCast s v hc))
    (mulf (broadcast s (num 0x3A83126F#32)) (mulf (shapeCast s g hc) (shapeCast s g hc)))

/-- What the kernel computes for the change. -/
def kChange : FVec Ideal s .f32 :=
  mulf (broadcast s (num 0xBA83126F#32)) (addf (divf (divf (kMoment hc g m) (broadcast s (num 0x3F26BD02#32)))
    (addf (sqrt (divf (kSecond hc g v) (broadcast s (num 0x3C231ACC#32)))) (broadcast s (num 0x322BCC77#32))))
    (mulf (broadcast s (num 0x3C23D70A#32)) (shapeCast s w hc)))

theorem kMoment_eq : kMoment hc g m = fun j => moment (m j) (g j) := by
  funext j
  unfold moment
  pointwise [kMoment]

theorem kSecond_eq : kSecond hc g v = fun j => second (v j) (g j) := by
  funext j
  unfold second
  pointwise [kSecond]

theorem kChange_eq : kChange hc w g m v = fun j => change (w j) (g j) (m j) (v j) := by
  funext j
  unfold change moment second
  pointwise [kChange, kMoment, kSecond]

/-- What the reference computes for the first moment. -/
theorem moment_at : addf (mulf (broadcastInDim s ![] hb (constant S_ .f32 0x3F666666#32)) m) (mulf (broadcastInDim s ![] hb (constant S_ .f32 0x3DCCCCCD#32)) g)
    = fun i => moment (m i) (g i) := by
  funext i
  unfold moment
  pointwise

/-- What the reference computes for the second moment. -/
theorem second_at : addf (mulf (broadcastInDim s ![] hb (constant S_ .f32 0x3F7FBE77#32)) v)
      (mulf (broadcastInDim s ![] hb (constant S_ .f32 0x3A83126F#32)) (mulf g g))
    = fun i => second (v i) (g i) := by
  funext i
  unfold second
  pointwise

/-- What the reference computes for the change. -/
theorem change_at : mulf (broadcastInDim s ![] hb (constant S_ .f32 0xBA83126F#32)) (addf (Host.divf
      (Host.divf (addf (mulf (broadcastInDim s ![] hb (constant S_ .f32 0x3F666666#32)) m) (mulf (broadcastInDim s ![] hb (constant S_ .f32 0x3DCCCCCD#32)) g))
        (broadcastInDim s ![] hb (constant S_ .f32 0x3F26BD02#32)))
      (addf (Host.sqrt (Host.divf (addf (mulf (broadcastInDim s ![] hb (constant S_ .f32 0x3F7FBE77#32)) v)
          (mulf (broadcastInDim s ![] hb (constant S_ .f32 0x3A83126F#32)) (mulf g g))) (broadcastInDim s ![] hb (constant S_ .f32 0x3C231ACC#32))))
        (broadcastInDim s ![] hb (constant S_ .f32 0x322BCC77#32)))) (mulf (broadcastInDim s ![] hb (constant S_ .f32 0x3C23D70A#32)) w))
    = fun i => change (w i) (g i) (m i) (v i) := by
  funext i
  unfold change moment second
  pointwise

end

/-- Where a matrix is an entrywise function of reshaped arrays, the matrix reshaped back is the function of the arrays. -/
theorem cast_back {s t : Shape} (f : EReal → EReal → EReal → EReal → EReal) {A B C D : s.Idx → EReal} {h : s.ShapeCasts t} {h' : t.ShapeCasts s}
    {out : t.Idx → EReal} {X : s.Idx → EReal} (hX : X = shapeCast s out h')
    (ho : out = fun j => f (shapeCast t A h j) (shapeCast t B h j) (shapeCast t C h j) (shapeCast t D h j)) : X = fun i => f (A i) (B i) (C i) (D i) := by
  subst hX ho
  funext i
  have e := fun X : s.Idx → EReal => congrFun (shapeCast_shapeCast X h h') i
  exact congr (congr (congrArg₂ f (e A) (e B)) (e C)) (e D)

end Cert.Adam

open Cert.Adam

/-! ## The feed-forward's first weights -/

namespace Cert.AdamGuIdeal.Val

open Cert.AdamGuIdeal Cert.AdamGuIdeal.Gen

variable (m : (ℓ : Loc nD τ sig) → Buf (Elt Ideal) ℓ) (c : Dev nD)

/-- The shards that device `c` is given: weight, gradient, first and second moment. -/
abbrev aw : FVec Ideal S2x1024x704 .f32 := m ((c : Thread nD τ).loc main_arg0)
abbrev ag : FVec Ideal S2x1024x704 .f32 := m ((c : Thread nD τ).loc main_arg1)
abbrev am : FVec Ideal S2x1024x704 .f32 := m ((c : Thread nD τ).loc main_arg2)
abbrev av : FVec Ideal S2x1024x704 .f32 := m ((c : Thread nD τ).loc main_arg3)

/-- A shard as a matrix. -/
abbrev mat (A : FVec Ideal S2x1024x704 .f32) : FVec Ideal S2048x704 .f32 := shapeCast S2048x704 A shapeCasts_S2x1024x704_S2048x704

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := (by decide +kernel : ∀ t : Fin grid0.N, _)

/-- The matrices the call is given. -/
theorem given : V m c main_v0 = mat (aw m c) ∧ V m c main_v1 = mat (ag m c) ∧ V m c main_v2 = mat (am m c) ∧ V m c main_v3 = mat (av m c) := by
  refine ⟨?_, ?_, ?_, ?_⟩ <;>
  · show StableHlo.after hostOps0 (fun b => m (c, b)) (Proc.devRef .tc _) = _
    after_results
    rfl

/-- The arrays the call leaves. -/
theorem final : (dats m 0 c).arrAt 4 (cfgs 0).N = (fun j => change (mat (aw m c) j) (mat (ag m c) j) (mat (am m c) j) (mat (av m c) j))
    ∧ (dats m 0 c).arrAt 5 (cfgs 0).N = (fun j => moment (mat (am m c) j) (mat (ag m c) j))
    ∧ (dats m 0 c).arrAt 6 (cfgs 0).N = (fun j => second (mat (av m c) j) (mat (ag m c) j)) := by
  rw [← (given m c).1, ← (given m c).2.1, ← (given m c).2.2.1, ← (given m c).2.2.2]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    blk_simp <;> simp only [after0_4, after0_5, after0_6] <;> first | unfold out0_4 | unfold out0_5 | unfold out0_6
  all_goals frame_out
  · refine (congrFun (kChange_eq _ _ _ _ _) _).trans (congr (congr (congrArg₂ change ?_ ?_) ?_) ?_) <;> blk_ext [iblk, idx t]
  · refine (congrFun (kMoment_eq _ _ _) _).trans (congrArg₂ moment ?_ ?_) <;> blk_ext [iblk, idx t]
  · refine (congrFun (kSecond_eq _ _ _) _).trans (congrArg₂ second ?_ ?_) <;> blk_ext [iblk, idx t]

/-- What the host makes of them: the step, entry by entry. -/
theorem result : afterTail₀ cfgs (dats m) 0 (V0 m) [hostOps1] c main_v5 = (fun i => change (aw m c i) (ag m c i) (am m c i) (av m c i))
    ∧ afterTail₀ cfgs (dats m) 0 (V0 m) [hostOps1] c main_v6 = (fun i => moment (am m c i) (ag m c i))
    ∧ afterTail₀ cfgs (dats m) 0 (V0 m) [hostOps1] c main_v7 = (fun i => second (av m c i) (ag m c i)) := by
  obtain ⟨f4, f5, f6⟩ := final m c
  have h := (dats m 0 c).withArrays_arrAt (by decide : Pipeline.SharedIn (cfgs 0).spec) (V0 m c) (A_eq m c)
  rw [← h 4] at f4
  rw [← h 5] at f5
  rw [← h 6] at f6
  unfold afterTail₀
  generalize withArrays (cfgs 0).spec c (V0 m c) (fun w => (dats m 0 c).arrAt w (cfgs 0).N) = W at f4 f5 f6
  have b := shapeCasts_S2048x704_S2x1024x704
  refine ⟨cast_back change (h' := b) ?_ f4, cast_back (fun _ g m _ => moment m g) (A := aw m c) (D := av m c) (h' := b) ?_ f5,
    cast_back (fun _ g _ v => second v g) (A := aw m c) (C := am m c) (h' := b) ?_ f6⟩ <;>
  · after_results
    rfl

/-- The reference runs and ends with its arguments unchanged. -/
theorem reference_frame : Cert.quiescent_AdamGuRefIdeal (hAdamGuRefIdeal := Cert.AdamGuRefIdeal.Gen.facts) := fun m g _ =>
  θ_run_mono (Cert.AdamGuRefIdeal.Value.run m g) fun r h =>
    ⟨fun c => (h c).2.2.2, Idealize.ShloMosaic.sem_eq_zero_of_no_sems (by decide) r.2⟩

/-- From memories that agree on the arguments both programs run, and their results are equal. -/
theorem algebraic : Cert.algebraic_AdamGuIdeal_AdamGuRefIdeal
    (hAdamGuIdeal := Cert.AdamGuIdeal.Gen.facts) (hAdamGuRefIdeal := Cert.AdamGuRefIdeal.Gen.facts) := by
  intro m g m' g' _ agree
  refine ⟨_, _, _, θ_run_mono (θ_run_and (run_main m g) (frame m g)) fun r h c => ⟨h.1.rest_eq c main_v5 (by decide), h.1.rest_eq c main_v6 (by decide),
    h.1.rest_eq c main_v7 (by decide), h.2.1 c⟩, θ_run_mono (Cert.AdamGuRefIdeal.Value.run m' g') fun r h c => ?_⟩
  obtain ⟨e0, e1, e2, e3⟩ := agree c
  obtain ⟨r4, r5, r6, rest⟩ := h c
  obtain ⟨d, n, s⟩ := result m c
  simp only [aw, ag, am, av, ← e0, ← e1, ← e2, ← e3] at d n s
  exact ⟨r4.trans ((change_at _ _ _ _ _).trans d.symm), r5.trans ((moment_at _ _ _).trans n.symm), r6.trans ((second_at _ _ _).trans s.symm), rest⟩

end Cert.AdamGuIdeal.Val

/-! ## The feed-forward's second weights -/

namespace Cert.AdamDownIdeal.Val

open Cert.AdamDownIdeal Cert.AdamDownIdeal.Gen

variable (m : (ℓ : Loc nD τ sig) → Buf (Elt Ideal) ℓ) (c : Dev nD)

/-- The shards that device `c` is given. -/
abbrev aw : FVec Ideal S2x352x1024 .f32 := m ((c : Thread nD τ).loc main_arg0)
abbrev ag : FVec Ideal S2x352x1024 .f32 := m ((c : Thread nD τ).loc main_arg1)
abbrev am : FVec Ideal S2x352x1024 .f32 := m ((c : Thread nD τ).loc main_arg2)
abbrev av : FVec Ideal S2x352x1024 .f32 := m ((c : Thread nD τ).loc main_arg3)

/-- A shard as a matrix. -/
abbrev mat (A : FVec Ideal S2x352x1024 .f32) : FVec Ideal S704x1024 .f32 := shapeCast S704x1024 A shapeCasts_S2x352x1024_S704x1024

/-- The four blocks of 176 rows, one after the other. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := (by decide +kernel : ∀ t : Fin grid0.N, _)

/-- The matrices the call is given. -/
theorem given : V m c main_v0 = mat (aw m c) ∧ V m c main_v1 = mat (ag m c) ∧ V m c main_v2 = mat (am m c) ∧ V m c main_v3 = mat (av m c) := by
  refine ⟨?_, ?_, ?_, ?_⟩ <;>
  · show StableHlo.after hostOps0 (fun b => m (c, b)) (Proc.devRef .tc _) = _
    after_results
    rfl

/-- The arrays the call leaves. -/
theorem final : (dats m 0 c).arrAt 4 (cfgs 0).N = (fun j => change (mat (aw m c) j) (mat (ag m c) j) (mat (am m c) j) (mat (av m c) j))
    ∧ (dats m 0 c).arrAt 5 (cfgs 0).N = (fun j => moment (mat (am m c) j) (mat (ag m c) j))
    ∧ (dats m 0 c).arrAt 6 (cfgs 0).N = (fun j => second (mat (av m c) j) (mat (ag m c) j)) := by
  rw [← (given m c).1, ← (given m c).2.1, ← (given m c).2.2.1, ← (given m c).2.2.2]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    blk_simp <;> simp only [after0_4, after0_5, after0_6] <;> first | unfold out0_4 | unfold out0_5 | unfold out0_6
  all_goals frame_out
  · refine (congrFun (kChange_eq _ _ _ _ _) _).trans (congr (congr (congrArg₂ change ?_ ?_) ?_) ?_) <;> blk_ext [iblk, idx t]
  · refine (congrFun (kMoment_eq _ _ _) _).trans (congrArg₂ moment ?_ ?_) <;> blk_ext [iblk, idx t]
  · refine (congrFun (kSecond_eq _ _ _) _).trans (congrArg₂ second ?_ ?_) <;> blk_ext [iblk, idx t]

/-- What the host makes of them: the step, entry by entry. -/
theorem result : afterTail₀ cfgs (dats m) 0 (V0 m) [hostOps1] c main_v5 = (fun i => change (aw m c i) (ag m c i) (am m c i) (av m c i))
    ∧ afterTail₀ cfgs (dats m) 0 (V0 m) [hostOps1] c main_v6 = (fun i => moment (am m c i) (ag m c i))
    ∧ afterTail₀ cfgs (dats m) 0 (V0 m) [hostOps1] c main_v7 = (fun i => second (av m c i) (ag m c i)) := by
  obtain ⟨f4, f5, f6⟩ := final m c
  have h := (dats m 0 c).withArrays_arrAt (by decide : Pipeline.SharedIn (cfgs 0).spec) (V0 m c) (A_eq m c)
  rw [← h 4] at f4
  rw [← h 5] at f5
  rw [← h 6] at f6
  unfold afterTail₀
  generalize withArrays (cfgs 0).spec c (V0 m c) (fun w => (dats m 0 c).arrAt w (cfgs 0).N) = W at f4 f5 f6
  have b := shapeCasts_S704x1024_S2x352x1024
  refine ⟨cast_back change (h' := b) ?_ f4, cast_back (fun _ g m _ => moment m g) (A := aw m c) (D := av m c) (h' := b) ?_ f5,
    cast_back (fun _ g _ v => second v g) (A := aw m c) (C := am m c) (h' := b) ?_ f6⟩ <;>
  · after_results
    rfl

/-- The reference runs and ends with its arguments unchanged. -/
theorem reference_frame : Cert.quiescent_AdamDownRefIdeal (hAdamDownRefIdeal := Cert.AdamDownRefIdeal.Gen.facts) := fun m g _ =>
  θ_run_mono (Cert.AdamDownRefIdeal.Value.run m g) fun r h =>
    ⟨fun c => (h c).2.2.2, Idealize.ShloMosaic.sem_eq_zero_of_no_sems (by decide) r.2⟩

/-- From memories that agree on the arguments both programs run, and their results are equal. -/
theorem algebraic : Cert.algebraic_AdamDownIdeal_AdamDownRefIdeal
    (hAdamDownIdeal := Cert.AdamDownIdeal.Gen.facts) (hAdamDownRefIdeal := Cert.AdamDownRefIdeal.Gen.facts) := by
  intro m g m' g' _ agree
  refine ⟨_, _, _, θ_run_mono (θ_run_and (run_main m g) (frame m g)) fun r h c => ⟨h.1.rest_eq c main_v5 (by decide), h.1.rest_eq c main_v6 (by decide),
    h.1.rest_eq c main_v7 (by decide), h.2.1 c⟩, θ_run_mono (Cert.AdamDownRefIdeal.Value.run m' g') fun r h c => ?_⟩
  obtain ⟨e0, e1, e2, e3⟩ := agree c
  obtain ⟨r4, r5, r6, rest⟩ := h c
  obtain ⟨d, n, s⟩ := result m c
  simp only [aw, ag, am, av, ← e0, ← e1, ← e2, ← e3] at d n s
  exact ⟨r4.trans ((change_at _ _ _ _ _).trans d.symm), r5.trans ((moment_at _ _ _).trans n.symm), r6.trans ((second_at _ _ _).trans s.symm), rest⟩

end Cert.AdamDownIdeal.Val

/-! ## The input projection's weights -/

namespace Cert.AdamInIdeal.Val

open Cert.AdamInIdeal Cert.AdamInIdeal.Gen

variable (m : (ℓ : Loc nD τ sig) → Buf (Elt Ideal) ℓ) (c : Dev nD)

/-- The shards that device `c` is given. -/
abbrev aw : FVec Ideal S2x1024x801 .f32 := m ((c : Thread nD τ).loc main_arg0)
abbrev ag : FVec Ideal S2x1024x801 .f32 := m ((c : Thread nD τ).loc main_arg1)
abbrev am : FVec Ideal S2x1024x801 .f32 := m ((c : Thread nD τ).loc main_arg2)
abbrev av : FVec Ideal S2x1024x801 .f32 := m ((c : Thread nD τ).loc main_arg3)

/-- A shard as a matrix. -/
abbrev mat (A : FVec Ideal S2x1024x801 .f32) : FVec Ideal S2048x801 .f32 := shapeCast S2048x801 A shapeCasts_S2x1024x801_S2048x801

/-- The blocks of 256 rows, one after the other. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := (by decide +kernel : ∀ t : Fin grid0.N, _)

/-- The matrices the call is given. -/
theorem given : V m c main_v0 = mat (aw m c) ∧ V m c main_v1 = mat (ag m c) ∧ V m c main_v2 = mat (am m c) ∧ V m c main_v3 = mat (av m c) := by
  refine ⟨?_, ?_, ?_, ?_⟩ <;>
  · show StableHlo.after hostOps0 (fun b => m (c, b)) (Proc.devRef .tc _) = _
    after_results
    rfl

/-- The arrays the call leaves. -/
theorem final : (dats m 0 c).arrAt 4 (cfgs 0).N = (fun j => change (mat (aw m c) j) (mat (ag m c) j) (mat (am m c) j) (mat (av m c) j))
    ∧ (dats m 0 c).arrAt 5 (cfgs 0).N = (fun j => moment (mat (am m c) j) (mat (ag m c) j))
    ∧ (dats m 0 c).arrAt 6 (cfgs 0).N = (fun j => second (mat (av m c) j) (mat (ag m c) j)) := by
  rw [← (given m c).1, ← (given m c).2.1, ← (given m c).2.2.1, ← (given m c).2.2.2]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    blk_simp <;> simp only [after0_4, after0_5, after0_6] <;> first | unfold out0_4 | unfold out0_5 | unfold out0_6
  all_goals frame_out
  · refine (congrFun (kChange_eq _ _ _ _ _) _).trans (congr (congr (congrArg₂ change ?_ ?_) ?_) ?_) <;> blk_ext [iblk, idx t]
  · refine (congrFun (kMoment_eq _ _ _) _).trans (congrArg₂ moment ?_ ?_) <;> blk_ext [iblk, idx t]
  · refine (congrFun (kSecond_eq _ _ _) _).trans (congrArg₂ second ?_ ?_) <;> blk_ext [iblk, idx t]

/-- What the host makes of them: the step, entry by entry. -/
theorem result : afterTail₀ cfgs (dats m) 0 (V0 m) [hostOps1] c main_v5 = (fun i => change (aw m c i) (ag m c i) (am m c i) (av m c i))
    ∧ afterTail₀ cfgs (dats m) 0 (V0 m) [hostOps1] c main_v6 = (fun i => moment (am m c i) (ag m c i))
    ∧ afterTail₀ cfgs (dats m) 0 (V0 m) [hostOps1] c main_v7 = (fun i => second (av m c i) (ag m c i)) := by
  obtain ⟨f4, f5, f6⟩ := final m c
  have h := (dats m 0 c).withArrays_arrAt (by decide : Pipeline.SharedIn (cfgs 0).spec) (V0 m c) (A_eq m c)
  rw [← h 4] at f4
  rw [← h 5] at f5
  rw [← h 6] at f6
  unfold afterTail₀
  generalize withArrays (cfgs 0).spec c (V0 m c) (fun w => (dats m 0 c).arrAt w (cfgs 0).N) = W at f4 f5 f6
  have b := shapeCasts_S2048x801_S2x1024x801
  refine ⟨cast_back change (h' := b) ?_ f4, cast_back (fun _ g m _ => moment m g) (A := aw m c) (D := av m c) (h' := b) ?_ f5,
    cast_back (fun _ g _ v => second v g) (A := aw m c) (C := am m c) (h' := b) ?_ f6⟩ <;>
  · after_results
    rfl

/-- The reference runs and ends with its arguments unchanged. -/
theorem reference_frame : Cert.quiescent_AdamInRefIdeal (hAdamInRefIdeal := Cert.AdamInRefIdeal.Gen.facts) := fun m g _ =>
  θ_run_mono (Cert.AdamInRefIdeal.Value.run m g) fun r h =>
    ⟨fun c => (h c).2.2.2, Idealize.ShloMosaic.sem_eq_zero_of_no_sems (by decide) r.2⟩

/-- From memories that agree on the arguments both programs run, and their results are equal. -/
theorem algebraic : Cert.algebraic_AdamInIdeal_AdamInRefIdeal
    (hAdamInIdeal := Cert.AdamInIdeal.Gen.facts) (hAdamInRefIdeal := Cert.AdamInRefIdeal.Gen.facts) := by
  intro m g m' g' _ agree
  refine ⟨_, _, _, θ_run_mono (θ_run_and (run_main m g) (frame m g)) fun r h c => ⟨h.1.rest_eq c main_v5 (by decide), h.1.rest_eq c main_v6 (by decide),
    h.1.rest_eq c main_v7 (by decide), h.2.1 c⟩, θ_run_mono (Cert.AdamInRefIdeal.Value.run m' g') fun r h c => ?_⟩
  obtain ⟨e0, e1, e2, e3⟩ := agree c
  obtain ⟨r4, r5, r6, rest⟩ := h c
  obtain ⟨d, n, s⟩ := result m c
  simp only [aw, ag, am, av, ← e0, ← e1, ← e2, ← e3] at d n s
  exact ⟨r4.trans ((change_at _ _ _ _ _).trans d.symm), r5.trans ((moment_at _ _ _).trans n.symm), r6.trans ((second_at _ _ _).trans s.symm), rest⟩

end Cert.AdamInIdeal.Val

/-! ## The memory's projections, and the output projection -/

namespace Cert.AdamKvIdeal.Val

open Cert.AdamKvIdeal Cert.AdamKvIdeal.Gen

variable (m : (ℓ : Loc nD τ sig) → Buf (Elt Ideal) ℓ) (c : Dev nD)

/-- The shards that device `c` is given. -/
abbrev aw : FVec Ideal S2x128x1024 .f32 := m ((c : Thread nD τ).loc main_arg0)
abbrev ag : FVec Ideal S2x128x1024 .f32 := m ((c : Thread nD τ).loc main_arg1)
abbrev am : FVec Ideal S2x128x1024 .f32 := m ((c : Thread nD τ).loc main_arg2)
abbrev av : FVec Ideal S2x128x1024 .f32 := m ((c : Thread nD τ).loc main_arg3)

/-- A shard as a matrix. -/
abbrev mat (A : FVec Ideal S2x128x1024 .f32) : FVec Ideal S256x1024 .f32 := shapeCast S256x1024 A shapeCasts_S2x128x1024_S256x1024

/-- The call's one block. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := (by decide +kernel : ∀ t : Fin grid0.N, _)

/-- The matrices the call is given. -/
theorem given : V m c main_v0 = mat (aw m c) ∧ V m c main_v1 = mat (ag m c) ∧ V m c main_v2 = mat (am m c) ∧ V m c main_v3 = mat (av m c) := by
  refine ⟨?_, ?_, ?_, ?_⟩ <;>
  · show StableHlo.after hostOps0 (fun b => m (c, b)) (Proc.devRef .tc _) = _
    after_results
    rfl

/-- The arrays the call leaves. -/
theorem final : (dats m 0 c).arrAt 4 (cfgs 0).N = (fun j => change (mat (aw m c) j) (mat (ag m c) j) (mat (am m c) j) (mat (av m c) j))
    ∧ (dats m 0 c).arrAt 5 (cfgs 0).N = (fun j => moment (mat (am m c) j) (mat (ag m c) j))
    ∧ (dats m 0 c).arrAt 6 (cfgs 0).N = (fun j => second (mat (av m c) j) (mat (ag m c) j)) := by
  rw [← (given m c).1, ← (given m c).2.1, ← (given m c).2.2.1, ← (given m c).2.2.2]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    blk_simp <;> simp only [after0_4, after0_5, after0_6] <;> first | unfold out0_4 | unfold out0_5 | unfold out0_6
  all_goals frame_out
  · refine (congrFun (kChange_eq _ _ _ _ _) _).trans (congr (congr (congrArg₂ change ?_ ?_) ?_) ?_) <;> blk_ext [iblk, idx t]
  · refine (congrFun (kMoment_eq _ _ _) _).trans (congrArg₂ moment ?_ ?_) <;> blk_ext [iblk, idx t]
  · refine (congrFun (kSecond_eq _ _ _) _).trans (congrArg₂ second ?_ ?_) <;> blk_ext [iblk, idx t]

/-- What the host makes of them: the step, entry by entry. -/
theorem result : afterTail₀ cfgs (dats m) 0 (V0 m) [hostOps1] c main_v5 = (fun i => change (aw m c i) (ag m c i) (am m c i) (av m c i))
    ∧ afterTail₀ cfgs (dats m) 0 (V0 m) [hostOps1] c main_v6 = (fun i => moment (am m c i) (ag m c i))
    ∧ afterTail₀ cfgs (dats m) 0 (V0 m) [hostOps1] c main_v7 = (fun i => second (av m c i) (ag m c i)) := by
  obtain ⟨f4, f5, f6⟩ := final m c
  have h := (dats m 0 c).withArrays_arrAt (by decide : Pipeline.SharedIn (cfgs 0).spec) (V0 m c) (A_eq m c)
  rw [← h 4] at f4
  rw [← h 5] at f5
  rw [← h 6] at f6
  unfold afterTail₀
  generalize withArrays (cfgs 0).spec c (V0 m c) (fun w => (dats m 0 c).arrAt w (cfgs 0).N) = W at f4 f5 f6
  have b := shapeCasts_S256x1024_S2x128x1024
  refine ⟨cast_back change (h' := b) ?_ f4, cast_back (fun _ g m _ => moment m g) (A := aw m c) (D := av m c) (h' := b) ?_ f5,
    cast_back (fun _ g _ v => second v g) (A := aw m c) (C := am m c) (h' := b) ?_ f6⟩ <;>
  · after_results
    rfl

/-- The reference runs and ends with its arguments unchanged. -/
theorem reference_frame : Cert.quiescent_AdamKvRefIdeal (hAdamKvRefIdeal := Cert.AdamKvRefIdeal.Gen.facts) := fun m g _ =>
  θ_run_mono (Cert.AdamKvRefIdeal.Value.run m g) fun r h =>
    ⟨fun c => (h c).2.2.2, Idealize.ShloMosaic.sem_eq_zero_of_no_sems (by decide) r.2⟩

/-- From memories that agree on the arguments both programs run, and their results are equal. -/
theorem algebraic : Cert.algebraic_AdamKvIdeal_AdamKvRefIdeal
    (hAdamKvIdeal := Cert.AdamKvIdeal.Gen.facts) (hAdamKvRefIdeal := Cert.AdamKvRefIdeal.Gen.facts) := by
  intro m g m' g' _ agree
  refine ⟨_, _, _, θ_run_mono (θ_run_and (run_main m g) (frame m g)) fun r h c => ⟨h.1.rest_eq c main_v5 (by decide), h.1.rest_eq c main_v6 (by decide),
    h.1.rest_eq c main_v7 (by decide), h.2.1 c⟩, θ_run_mono (Cert.AdamKvRefIdeal.Value.run m' g') fun r h c => ?_⟩
  obtain ⟨e0, e1, e2, e3⟩ := agree c
  obtain ⟨r4, r5, r6, rest⟩ := h c
  obtain ⟨d, n, s⟩ := result m c
  simp only [aw, ag, am, av, ← e0, ← e1, ← e2, ← e3] at d n s
  exact ⟨r4.trans ((change_at _ _ _ _ _).trans d.symm), r5.trans ((moment_at _ _ _).trans n.symm), r6.trans ((second_at _ _ _).trans s.symm), rest⟩

end Cert.AdamKvIdeal.Val

/-! ## The branches' weights -/

namespace Cert.AdamBranchIdeal.Val

open Cert.AdamBranchIdeal Cert.AdamBranchIdeal.Gen

variable (m : (ℓ : Loc nD τ sig) → Buf (Elt Ideal) ℓ) (c : Dev nD)

/-- The shards that device `c` is given. -/
abbrev aw : FVec Ideal S2x3x512x128 .f32 := m ((c : Thread nD τ).loc main_arg0)
abbrev ag : FVec Ideal S2x3x512x128 .f32 := m ((c : Thread nD τ).loc main_arg1)
abbrev am : FVec Ideal S2x3x512x128 .f32 := m ((c : Thread nD τ).loc main_arg2)
abbrev av : FVec Ideal S2x3x512x128 .f32 := m ((c : Thread nD τ).loc main_arg3)

/-- A shard as a matrix. -/
abbrev mat (A : FVec Ideal S2x3x512x128 .f32) : FVec Ideal S3072x128 .f32 := shapeCast S3072x128 A shapeCasts_S2x3x512x128_S3072x128

/-- The blocks of 256 rows, one after the other. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := (by decide +kernel : ∀ t : Fin grid0.N, _)

/-- The matrices the call is given. -/
theorem given : V m c main_v0 = mat (aw m c) ∧ V m c main_v1 = mat (ag m c) ∧ V m c main_v2 = mat (am m c) ∧ V m c main_v3 = mat (av m c) := by
  refine ⟨?_, ?_, ?_, ?_⟩ <;>
  · show StableHlo.after hostOps0 (fun b => m (c, b)) (Proc.devRef .tc _) = _
    after_results
    rfl

/-- The arrays the call leaves. -/
theorem final : (dats m 0 c).arrAt 4 (cfgs 0).N = (fun j => change (mat (aw m c) j) (mat (ag m c) j) (mat (am m c) j) (mat (av m c) j))
    ∧ (dats m 0 c).arrAt 5 (cfgs 0).N = (fun j => moment (mat (am m c) j) (mat (ag m c) j))
    ∧ (dats m 0 c).arrAt 6 (cfgs 0).N = (fun j => second (mat (av m c) j) (mat (ag m c) j)) := by
  rw [← (given m c).1, ← (given m c).2.1, ← (given m c).2.2.1, ← (given m c).2.2.2]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    blk_simp <;> simp only [after0_4, after0_5, after0_6] <;> first | unfold out0_4 | unfold out0_5 | unfold out0_6
  all_goals frame_out
  · refine (congrFun (kChange_eq _ _ _ _ _) _).trans (congr (congr (congrArg₂ change ?_ ?_) ?_) ?_) <;> blk_ext [iblk, idx t]
  · refine (congrFun (kMoment_eq _ _ _) _).trans (congrArg₂ moment ?_ ?_) <;> blk_ext [iblk, idx t]
  · refine (congrFun (kSecond_eq _ _ _) _).trans (congrArg₂ second ?_ ?_) <;> blk_ext [iblk, idx t]

/-- What the host makes of them: the step, entry by entry. -/
theorem result : afterTail₀ cfgs (dats m) 0 (V0 m) [hostOps1] c main_v5 = (fun i => change (aw m c i) (ag m c i) (am m c i) (av m c i))
    ∧ afterTail₀ cfgs (dats m) 0 (V0 m) [hostOps1] c main_v6 = (fun i => moment (am m c i) (ag m c i))
    ∧ afterTail₀ cfgs (dats m) 0 (V0 m) [hostOps1] c main_v7 = (fun i => second (av m c i) (ag m c i)) := by
  obtain ⟨f4, f5, f6⟩ := final m c
  have h := (dats m 0 c).withArrays_arrAt (by decide : Pipeline.SharedIn (cfgs 0).spec) (V0 m c) (A_eq m c)
  rw [← h 4] at f4
  rw [← h 5] at f5
  rw [← h 6] at f6
  unfold afterTail₀
  generalize withArrays (cfgs 0).spec c (V0 m c) (fun w => (dats m 0 c).arrAt w (cfgs 0).N) = W at f4 f5 f6
  have b := shapeCasts_S3072x128_S2x3x512x128
  refine ⟨cast_back change (h' := b) ?_ f4, cast_back (fun _ g m _ => moment m g) (A := aw m c) (D := av m c) (h' := b) ?_ f5,
    cast_back (fun _ g _ v => second v g) (A := aw m c) (C := am m c) (h' := b) ?_ f6⟩ <;>
  · after_results
    rfl

/-- The reference runs and ends with its arguments unchanged. -/
theorem reference_frame : Cert.quiescent_AdamBranchRefIdeal (hAdamBranchRefIdeal := Cert.AdamBranchRefIdeal.Gen.facts) := fun m g _ =>
  θ_run_mono (Cert.AdamBranchRefIdeal.Value.run m g) fun r h =>
    ⟨fun c => (h c).2.2.2, Idealize.ShloMosaic.sem_eq_zero_of_no_sems (by decide) r.2⟩

/-- From memories that agree on the arguments both programs run, and their results are equal. -/
theorem algebraic : Cert.algebraic_AdamBranchIdeal_AdamBranchRefIdeal
    (hAdamBranchIdeal := Cert.AdamBranchIdeal.Gen.facts) (hAdamBranchRefIdeal := Cert.AdamBranchRefIdeal.Gen.facts) := by
  intro m g m' g' _ agree
  refine ⟨_, _, _, θ_run_mono (θ_run_and (run_main m g) (frame m g)) fun r h c => ⟨h.1.rest_eq c main_v5 (by decide), h.1.rest_eq c main_v6 (by decide),
    h.1.rest_eq c main_v7 (by decide), h.2.1 c⟩, θ_run_mono (Cert.AdamBranchRefIdeal.Value.run m' g') fun r h c => ?_⟩
  obtain ⟨e0, e1, e2, e3⟩ := agree c
  obtain ⟨r4, r5, r6, rest⟩ := h c
  obtain ⟨d, n, s⟩ := result m c
  simp only [aw, ag, am, av, ← e0, ← e1, ← e2, ← e3] at d n s
  exact ⟨r4.trans ((change_at _ _ _ _ _).trans d.symm), r5.trans ((moment_at _ _ _).trans n.symm), r6.trans ((second_at _ _ _).trans s.symm), rest⟩

end Cert.AdamBranchIdeal.Val
-- ==== Proof.AdamSmall.lean ====
/- The optimiser's call for the small weights, which the version packs into one matrix, computes the reference's AdamW step of
   each of them. -/
module

public import proofs.«01_k».proof.Proof.Adam
public import proofs.«01_k».proof.Proof.Gen.AdamSmallIdeal.Frame
public import proofs.«01_k».proof.Proof.Gen.AdamSmallRefIdeal.Run

@[expose] public section

set_option maxRecDepth 16384

noncomputable section

open Idealize.ShloMosaic Idealize.ShloMosaic.TcCoe Idealize.SL Idealize.SL.Sem
open Idealize.ShloMosaic.Pipeline

open Cert.Adam

/-! ## The packed weights -/

namespace Cert.AdamSmallIdeal.Val

open Cert.AdamSmallIdeal Cert.AdamSmallIdeal.Gen

/-- An array for each of the small weights. -/
structure Nine where
  lnG : FVec Ideal S2x3x128 .f32
  lnB : FVec Ideal S2x3x128 .f32
  conv : FVec Ideal S2x4x192 .f32
  memG : FVec Ideal S1024 .f32
  memB : FVec Ideal S1024 .f32
  decay : FVec Ideal S2x4 .f32
  bias : FVec Ideal S2x4 .f32
  norm : FVec Ideal S2x128 .f32
  sinks : FVec Ideal S2x8 .f32

/-- Nine rows one after the other, filled up with zeros. -/
def line (a b : FVec Ideal S768 .f32) (k : FVec Ideal S1536 .f32) (p q : FVec Ideal S1024 .f32) (r s : FVec Ideal S8 .f32) (t : FVec Ideal S256 .f32)
    (u : FVec Ideal S16 .f32) : FVec Ideal S6144 .f32 :=
  concatenate S6144 0 [⟨S5408, concatenate S5408 0 [⟨S768, a⟩, ⟨S768, b⟩, ⟨S1536, k⟩, ⟨S1024, p⟩, ⟨S1024, q⟩, ⟨S8, r⟩, ⟨S8, s⟩, ⟨S256, t⟩, ⟨S16, u⟩]
    concatenates_S768_S768_S1536_S1024_S1024_S8_S8_S256_S16_S5408_d0⟩,
    ⟨S736, broadcastInDim S736 ![] bcast_S_S736 (constant (F := Ideal) S_ .f32 0x00000000#32)⟩] concatenates_S5408_S736_S6144_d0

set_option maxHeartbeats 4000000 in
/-- Each row is where it was put. -/
theorem line_at (a b : FVec Ideal S768 .f32) (k : FVec Ideal S1536 .f32) (p q : FVec Ideal S1024 .f32) (r s : FVec Ideal S8 .f32) (t : FVec Ideal S256 .f32)
    (u : FVec Ideal S16 .f32) :
    extractStridedSlice S768 ![0] (line a b k p q r s t u) slices_S6144_S768_0 = a
    ∧ extractStridedSlice S768 ![768] (line a b k p q r s t u) slices_S6144_S768_768 = b
    ∧ extractStridedSlice S1536 ![1536] (line a b k p q r s t u) slices_S6144_S1536_1536 = k
    ∧ extractStridedSlice S1024 ![3072] (line a b k p q r s t u) slices_S6144_S1024_3072 = p
    ∧ extractStridedSlice S1024 ![4096] (line a b k p q r s t u) slices_S6144_S1024_4096 = q
    ∧ extractStridedSlice S8 ![5120] (line a b k p q r s t u) slices_S6144_S8_5120 = r
    ∧ extractStridedSlice S8 ![5128] (line a b k p q r s t u) slices_S6144_S8_5128 = s
    ∧ extractStridedSlice S256 ![5136] (line a b k p q r s t u) slices_S6144_S256_5136 = t
    ∧ extractStridedSlice S16 ![5392] (line a b k p q r s t u) slices_S6144_S16_5392 = u := by
  refine ⟨?_, ?_, ?_, ?_, ?_, ?_, ?_, ?_, ?_⟩ <;>
  · funext i
    idx_vars i
    pointwise [line]
    simp (disch := omega) only [dif_pos, dif_neg]
    all_goals exact congrArg _ (congrArg _ (Fin.ext (by first | (dsimp only; done) | (dsimp only; omega))))

/-- The packed matrix. -/
def pack (n : Nine) : FVec Ideal S48x128 .f32 :=
  shapeCast S48x128 (line (shapeCast S768 n.lnG shapeCasts_S2x3x128_S768) (shapeCast S768 n.lnB shapeCasts_S2x3x128_S768)
    (shapeCast S1536 n.conv shapeCasts_S2x4x192_S1536) n.memG n.memB (shapeCast S8 n.decay shapeCasts_S2x4_S8)
    (shapeCast S8 n.bias shapeCasts_S2x4_S8) (shapeCast S256 n.norm shapeCasts_S2x128_S256) (shapeCast S16 n.sinks shapeCasts_S2x8_S16)) shapeCasts_S6144_S48x128

/-- The arrays taken out of a packed matrix. -/
def unpack (P : FVec Ideal S48x128 .f32) : Nine :=
  let l : FVec Ideal S6144 .f32 := shapeCast S6144 P shapeCasts_S48x128_S6144
  { lnG := shapeCast S2x3x128 (extractStridedSlice S768 ![0] l slices_S6144_S768_0) shapeCasts_S768_S2x3x128
    lnB := shapeCast S2x3x128 (extractStridedSlice S768 ![768] l slices_S6144_S768_768) shapeCasts_S768_S2x3x128
    conv := shapeCast S2x4x192 (extractStridedSlice S1536 ![1536] l slices_S6144_S1536_1536) shapeCasts_S1536_S2x4x192
    memG := extractStridedSlice S1024 ![3072] l slices_S6144_S1024_3072
    memB := extractStridedSlice S1024 ![4096] l slices_S6144_S1024_4096
    decay := shapeCast S2x4 (extractStridedSlice S8 ![5120] l slices_S6144_S8_5120) shapeCasts_S8_S2x4
    bias := shapeCast S2x4 (extractStridedSlice S8 ![5128] l slices_S6144_S8_5128) shapeCasts_S8_S2x4
    norm := shapeCast S2x128 (extractStridedSlice S256 ![5136] l slices_S6144_S256_5136) shapeCasts_S256_S2x128
    sinks := shapeCast S2x8 (extractStridedSlice S16 ![5392] l slices_S6144_S16_5392) shapeCasts_S16_S2x8 }

/-- Packing and unpacking gives the arrays back. -/
theorem unpack_pack (n : Nine) : unpack (pack n) = n := by
  unfold unpack pack
  have h := line_at (shapeCast S768 n.lnG shapeCasts_S2x3x128_S768) (shapeCast S768 n.lnB shapeCasts_S2x3x128_S768)
    (shapeCast S1536 n.conv shapeCasts_S2x4x192_S1536) n.memG n.memB (shapeCast S8 n.decay shapeCasts_S2x4_S8)
    (shapeCast S8 n.bias shapeCasts_S2x4_S8) (shapeCast S256 n.norm shapeCasts_S2x128_S256) (shapeCast S16 n.sinks shapeCasts_S2x8_S16)
  simp only [shapeCast_shapeCast, h.1, h.2.1, h.2.2.1, h.2.2.2.1, h.2.2.2.2.1, h.2.2.2.2.2.1, h.2.2.2.2.2.2.1, h.2.2.2.2.2.2.2.1, h.2.2.2.2.2.2.2.2]

/-- An entrywise function of each array. -/
def Nine.map (f : EReal → EReal → EReal → EReal → EReal) (A B C D : Nine) : Nine :=
  ⟨fun i => f (A.lnG i) (B.lnG i) (C.lnG i) (D.lnG i), fun i => f (A.lnB i) (B.lnB i) (C.lnB i) (D.lnB i),
   fun i => f (A.conv i) (B.conv i) (C.conv i) (D.conv i), fun i => f (A.memG i) (B.memG i) (C.memG i) (D.memG i),
   fun i => f (A.memB i) (B.memB i) (C.memB i) (D.memB i), fun i => f (A.decay i) (B.decay i) (C.decay i) (D.decay i),
   fun i => f (A.bias i) (B.bias i) (C.bias i) (D.bias i), fun i => f (A.norm i) (B.norm i) (C.norm i) (D.norm i),
   fun i => f (A.sinks i) (B.sinks i) (C.sinks i) (D.sinks i)⟩

/-- Unpacking commutes with an entrywise function. -/
theorem unpack_map (f : EReal → EReal → EReal → EReal → EReal) (A B C D : FVec Ideal S48x128 .f32) :
    unpack (fun j => f (A j) (B j) (C j) (D j)) = (unpack A).map f (unpack B) (unpack C) (unpack D) := rfl

/-! ## The call -/

variable (m : (ℓ : Loc nD τ sig) → Buf (Elt Ideal) ℓ) (c : Dev nD)

/-- The small weights' values that device `c` is given. -/
def aw : Nine := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

/-- The small weights' gradients that device `c` is given. -/
def ag : Nine := ⟨m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17)⟩

/-- The small weights' first moments that device `c` is given. -/
def am : Nine := ⟨m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26)⟩

/-- The small weights' second moments that device `c` is given. -/
def av : Nine := ⟨m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32), m ((c : Thread nD τ).loc main_arg33), m ((c : Thread nD τ).loc main_arg34), m ((c : Thread nD τ).loc main_arg35)⟩

/-- The call's one block. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

set_option maxHeartbeats 4000000 in
/-- The matrices the call is given. -/
theorem given : V m c main_v10 = pack (aw m c) ∧ V m c main_v21 = pack (ag m c) ∧ V m c main_v32 = pack (am m c) ∧ V m c main_v43 = pack (av m c) := by
  refine ⟨?_, ?_, ?_, ?_⟩ <;>
  · show StableHlo.after hostOps0 (fun b => m (c, b)) (Proc.devRef .tc _) = _
    after_results
    rfl

set_option maxHeartbeats 4000000 in
/-- The arrays the call leaves. -/
theorem final : (dats m 0 c).arrAt 4 (cfgs 0).N = (fun j : S48x128.Idx => change (pack (aw m c) j) (pack (ag m c) j) (pack (am m c) j) (pack (av m c) j))
    ∧ (dats m 0 c).arrAt 5 (cfgs 0).N = (fun j : S48x128.Idx => moment (pack (am m c) j) (pack (ag m c) j))
    ∧ (dats m 0 c).arrAt 6 (cfgs 0).N = (fun j : S48x128.Idx => second (pack (av m c) j) (pack (ag m c) j)) := by
  obtain ⟨h0, h1, h2, h3⟩ := given m c
  rw [← h0, ← h1, ← h2, ← h3]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    blk_simp <;> simp only [after0_4, after0_5, after0_6] <;> first | unfold out0_4 | unfold out0_5 | unfold out0_6
  all_goals frame_out
  · refine (congrFun (kChange_eq _ _ _ _ _) _).trans (congr (congr (congrArg₂ change ?_ ?_) ?_) ?_) <;> blk_ext [iblk, idx t]
  · refine (congrFun (kMoment_eq _ _ _) _).trans (congrArg₂ moment ?_ ?_) <;> blk_ext [iblk, idx t]
  · refine (congrFun (kSecond_eq _ _ _) _).trans (congrArg₂ second ?_ ?_) <;> blk_ext [iblk, idx t]

/-- The changes the program ends with. -/
def changes : Nine := ⟨afterTail₀ cfgs (dats m) 0 (V0 m) [hostOps1] c main_v47,
  afterTail₀ cfgs (dats m) 0 (V0 m) [hostOps1] c main_v49,
  afterTail₀ cfgs (dats m) 0 (V0 m) [hostOps1] c main_v51,
  afterTail₀ cfgs (dats m) 0 (V0 m) [hostOps1] c main_v52,
  afterTail₀ cfgs (dats m) 0 (V0 m) [hostOps1] c main_v53,
  afterTail₀ cfgs (dats m) 0 (V0 m) [hostOps1] c main_v55,
  afterTail₀ cfgs (dats m) 0 (V0 m) [hostOps1] c main_v57,
  afterTail₀ cfgs (dats m) 0 (V0 m) [hostOps1] c main_v59,
  afterTail₀ cfgs (dats m) 0 (V0 m) [hostOps1] c main_v61⟩

/-- The new first moments the program ends with. -/
def moments : Nine := ⟨afterTail₀ cfgs (dats m) 0 (V0 m) [hostOps1] c main_v64,
  afterTail₀ cfgs (dats m) 0 (V0 m) [hostOps1] c main_v66,
  afterTail₀ cfgs (dats m) 0 (V0 m) [hostOps1] c main_v68,
  afterTail₀ cfgs (dats m) 0 (V0 m) [hostOps1] c main_v69,
  afterTail₀ cfgs (dats m) 0 (V0 m) [hostOps1] c main_v70,
  afterTail₀ cfgs (dats m) 0 (V0 m) [hostOps1] c main_v72,
  afterTail₀ cfgs (dats m) 0 (V0 m) [hostOps1] c main_v74,
  afterTail₀ cfgs (dats m) 0 (V0 m) [hostOps1] c main_v76,
  afterTail₀ cfgs (dats m) 0 (V0 m) [hostOps1] c main_v78⟩

/-- The new second moments the program ends with. -/
def seconds : Nine := ⟨afterTail₀ cfgs (dats m) 0 (V0 m) [hostOps1] c main_v81,
  afterTail₀ cfgs (dats m) 0 (V0 m) [hostOps1] c main_v83,
  afterTail₀ cfgs (dats m) 0 (V0 m) [hostOps1] c main_v85,
  afterTail₀ cfgs (dats m) 0 (V0 m) [hostOps1] c main_v86,
  afterTail₀ cfgs (dats m) 0 (V0 m) [hostOps1] c main_v87,
  afterTail₀ cfgs (dats m) 0 (V0 m) [hostOps1] c main_v89,
  afterTail₀ cfgs (dats m) 0 (V0 m) [hostOps1] c main_v91,
  afterTail₀ cfgs (dats m) 0 (V0 m) [hostOps1] c main_v93,
  afterTail₀ cfgs (dats m) 0 (V0 m) [hostOps1] c main_v95⟩

set_option maxHeartbeats 8000000 in
/-- They are what the host takes out of the call's arrays. -/
theorem tail : changes m c = unpack ((dats m 0 c).arrAt 4 (cfgs 0).N) ∧ moments m c = unpack ((dats m 0 c).arrAt 5 (cfgs 0).N)
    ∧ seconds m c = unpack ((dats m 0 c).arrAt 6 (cfgs 0).N) := by
  have h := (dats m 0 c).withArrays_arrAt (by decide : Pipeline.SharedIn (cfgs 0).spec) (V0 m c) (A_eq m c)
  rw [← h 4, ← h 5, ← h 6]
  unfold changes moments seconds afterTail₀
  generalize withArrays (cfgs 0).spec c (V0 m c) (fun w => (dats m 0 c).arrAt w (cfgs 0).N) = W
  unfold unpack
  simp only [Nine.mk.injEq]
  refine ⟨⟨?_, ?_, ?_, ?_, ?_, ?_, ?_, ?_, ?_⟩, ⟨?_, ?_, ?_, ?_, ?_, ?_, ?_, ?_, ?_⟩, ?_, ?_, ?_, ?_, ?_, ?_, ?_, ?_, ?_⟩ <;>
  · show StableHlo.after hostOps1 W (Proc.devRef .tc _) = _
    after_results
    rfl

/-- They are the AdamW step of each weight. -/
theorem result : changes m c = (aw m c).map change (ag m c) (am m c) (av m c)
    ∧ moments m c = (aw m c).map (fun _ g m _ => moment m g) (ag m c) (am m c) (av m c)
    ∧ seconds m c = (aw m c).map (fun _ g _ v => second v g) (ag m c) (am m c) (av m c) := by
  obtain ⟨t4, t5, t6⟩ := tail m c
  obtain ⟨f4, f5, f6⟩ := final m c
  have e (f : EReal → EReal → EReal → EReal → EReal) : unpack (fun j => f (pack (aw m c) j) (pack (ag m c) j) (pack (am m c) j) (pack (av m c) j))
      = (aw m c).map f (ag m c) (am m c) (av m c) := (unpack_map f _ _ _ _).trans (by simp only [unpack_pack])
  exact ⟨t4.trans ((congrArg unpack f4).trans (e change)), t5.trans ((congrArg unpack f5).trans (e fun _ g m _ => moment m g)),
    t6.trans ((congrArg unpack f6).trans (e fun _ g _ v => second v g))⟩

/-- The reference runs and ends with its arguments unchanged. -/
theorem reference_frame : Cert.quiescent_AdamSmallRefIdeal (hAdamSmallRefIdeal := Cert.AdamSmallRefIdeal.Gen.facts) := fun m g _ =>
  θ_run_mono (Cert.AdamSmallRefIdeal.Value.run m g) fun r h =>
    ⟨fun c => (h c).2.2.2.2.2.2.2.2.2.2.2.2.2.2.2.2.2.2.2.2.2.2.2.2.2.2.2, Idealize.ShloMosaic.sem_eq_zero_of_no_sems (by decide) r.2⟩

set_option maxHeartbeats 8000000 in
/-- From memories that agree on the arguments both programs run, and their results are equal. -/
theorem algebraic : Cert.algebraic_AdamSmallIdeal_AdamSmallRefIdeal
    (hAdamSmallIdeal := Cert.AdamSmallIdeal.Gen.facts) (hAdamSmallRefIdeal := Cert.AdamSmallRefIdeal.Gen.facts) := by
  intro m g m' g' _ agree
  iterate 27 apply Exists.intro
  refine ⟨θ_run_mono (θ_run_and (run_main m g) (frame m g)) fun r h c => ?_, θ_run_mono (Cert.AdamSmallRefIdeal.Value.run m' g') fun r h c => ?_⟩
  · iterate 27 refine ⟨h.1.rest_eq c _ (by decide), ?_⟩
    exact h.2.1 c
  obtain ⟨d, n, s⟩ := result m c
  simp only [changes, moments, seconds, Nine.map, aw, ag, am, av, Nine.mk.injEq] at d n s
  have r := h c
  simp only [agree c] at r
  iterate 9 (refine ⟨r.1.trans ((change_at _ _ _ _ _).trans (by simp only [d])), ?_⟩; replace r := r.2)
  iterate 9 (refine ⟨r.1.trans ((moment_at _ _ _).trans (by simp only [n])), ?_⟩; replace r := r.2)
  iterate 9 (refine ⟨r.1.trans ((second_at _ _ _).trans (by simp only [s])), ?_⟩; replace r := r.2)
  simpa only [agree c] using r

end Cert.AdamSmallIdeal.Val
-- ==== Proof.Sums.lean ====
/- The calls that sum the eight devices' parts of a sharded weight's gradient compute the sum over the devices. -/
module

public import proofs.«01_k».proof.Defs
public import Idealize.ShloMosaic.Lib.Claim
public import Idealize.ShloMosaic.Lib.Pipeline.ValueKit
public import proofs.«01_k».proof.Proof.Gen.SumBranchIdeal.Frame
public import proofs.«01_k».proof.Proof.Gen.SumBranchRefIdeal.Run
public import proofs.«01_k».proof.Proof.Gen.SumDownIdeal.Frame
public import proofs.«01_k».proof.Proof.Gen.SumDownRefIdeal.Run
public import proofs.«01_k».proof.Proof.Gen.SumGuIdeal.Frame
public import proofs.«01_k».proof.Proof.Gen.SumGuRefIdeal.Run
public import proofs.«01_k».proof.Proof.Gen.SumInIdeal.Frame
public import proofs.«01_k».proof.Proof.Gen.SumInRefIdeal.Run
public import proofs.«01_k».proof.Proof.Gen.SumKvIdeal.Frame
public import proofs.«01_k».proof.Proof.Gen.SumKvRefIdeal.Run

@[expose] public section

set_option maxRecDepth 16384

noncomputable section

open Idealize.ShloMosaic Idealize.ShloMosaic.TcCoe Idealize.SL Idealize.SL.Sem
open Idealize.ShloMosaic.Pipeline

namespace Cert.Sums

/-- A row of the matrix that two axes make, taken apart again. -/
theorem back {a b : ℕ} {β : Type} (f : Fin a → Fin b → β) (i : Fin a) (j : Fin b) (h : (i.val * b + j.val) / b < a)
    (h' : (i.val * b + j.val) % b < b) : f ⟨(i.val * b + j.val) / b, h⟩ ⟨(i.val * b + j.val) % b, h'⟩ = f i j := by
  have hb : 0 < b := Nat.lt_of_le_of_lt (Nat.zero_le _) j.isLt
  exact congrArg₂ f (Fin.ext (by simp [Nat.mul_comm i.val b, Nat.mul_add_div hb, Nat.div_eq_of_lt j.isLt]))
    (Fin.ext (by simp [Nat.mul_comm i.val b, Nat.mul_add_mod, Nat.mod_eq_of_lt j.isLt]))

/-- An entry of one device's rows in a block. -/
abbrev slot {a b : ℕ} (B : FVec Ideal ⟨3, ![8, a, b]⟩ .bf16) (p : ℕ) (h : ∀ x, (![p, 0, 0] : Fin 3 → ℕ) x + (![1, a, b] : Fin 3 → ℕ) x ≤ (![8, a, b] : Fin 3 → ℕ) x)
    (r : Fin a) (k : Fin b) : EReal :=
  View.ld (Val := Elt Ideal) (e' := .bf16) B (Rect.unit (s := ⟨3, ![8, a, b]⟩) ![p, 0, 0] ![1, a, b] h) (ix3 0 r k)

theorem slot_eq {a b : ℕ} (B : FVec Ideal ⟨3, ![8, a, b]⟩ .bf16) (p : Fin 8) (h) (r : Fin a) (k : Fin b) : slot B p.val h r k = B (ix3 p r k) := by
  refine congrArg B (funext fun x => Fin.ext ?_)
  fin_cases x <;> simp [Rect.unit, LoadRect.idx]

/-- The entries of the eight devices, added one after the other, are the sum over the devices. -/
theorem slots {a b : ℕ} (B : FVec Ideal ⟨3, ![8, a, b]⟩ .bf16) {h0 h1 h2 h3 h4 h5 h6 h7} (r : Fin a) (k : Fin b) :
    slot B 0 h0 r k + slot B 1 h1 r k + slot B 2 h2 r k + slot B 3 h3 r k + slot B 4 h4 r k + slot B 5 h5 r k + slot B 6 h6 r k + slot B 7 h7 r k
      = ∑ p : Fin 8, B (ix3 p r k) :=
  (Fin.sum_univ_eight fun p : Fin 8 => B (ix3 p r k)).symm ▸
    congrArg₂ _ (congrArg₂ _ (congrArg₂ _ (congrArg₂ _ (congrArg₂ _ (congrArg₂ _ (congrArg₂ _ (slot_eq B 0 h0 r k) (slot_eq B 1 h1 r k))
      (slot_eq B 2 h2 r k)) (slot_eq B 3 h3 r k)) (slot_eq B 4 h4 r k)) (slot_eq B 5 h5 r k)) (slot_eq B 6 h6 r k)) (slot_eq B 7 h7 r k)

end Cert.Sums

open Cert.Sums

/-! ## The feed-forward's first weights -/

namespace Cert.SumGuIdeal.Val

open Cert.SumGuIdeal Cert.SumGuIdeal.Gen

variable (m : (ℓ : Loc nD τ sig) → Buf (Elt Ideal) ℓ) (c : Dev nD)

/-- The parts that device `c` is given. -/
abbrev ap : FVec Ideal S8x2x1024x704 .bf16 := m ((c : Thread nD τ).loc main_arg0)

/-- The parts as matrices. -/
abbrev mats : FVec Ideal S8x2048x704 .bf16 := shapeCast S8x2048x704 (ap m c) shapeCasts_S8x2x1024x704_S8x2048x704

/-- What a point stores, from the blocks of the eight parts. -/
theorem pay_at (x0 x1 x2 x3 x4 x5 x6 x7 : FVec Ideal S1x256x704 .bf16) (r : Fin 256) (k : Fin 704) :
    k0_pay1 (F := Ideal) x0 x1 x2 x3 x4 x5 x6 x7 (ix2 r k) = x0 (ix3 0 r k) + x1 (ix3 0 r k) + x2 (ix3 0 r k) + x3 (ix3 0 r k) + x4 (ix3 0 r k)
      + x5 (ix3 0 r k) + x6 (ix3 0 r k) + x7 (ix3 0 r k) := by
  pointwise [k0_pay1]

/-- What a point stores, from the block it reads: the sum over the devices. -/
theorem out_at (B : FVec Ideal S8x256x704 .bf16) (r : Fin 256) (k : Fin 704) :
    out0_1 (F := Ideal) B (ix2 r k) = ∑ p : Fin 8, B (ix3 p r k) := by
  unfold out0_1
  frame_out
  exact (pay_at _ _ _ _ _ _ _ _ _ _).trans (slots B r k)

theorem idx : ∀ t : Fin cfg0.N, win0_0.index t = ![0, t.val, 0] ∧ win0_1.index t = ![t.val, 0] := (by decide +kernel : ∀ t : Fin grid0.N, _)

/-- The matrices the call is given. -/
theorem given : V m c main_v0 = mats m c := by
  show StableHlo.after hostOps0 (fun b => m (c, b)) (Proc.devRef .tc _) = _
  after_results
  rfl

/-- The array the call leaves. -/
theorem final : (dats m 0 c).arrAt 1 (cfgs 0).N = fun j : S2048x704.Idx => ∑ p : Fin 8, mats m c (ix3 p (j 0) (j 1)) := by
  rw [← given m c]
  refine (dats m 0 c).arrAt_eq_of_covers 1 _ (by decide +kernel) fun t hf y => ?_
  blk_simp
  rw [after0_1, eq_ix2 y]
  refine (out_at _ _ _).trans (Finset.sum_congr rfl fun p _ => ?_)
  blk_ext [iblk, idx t]

/-- A row of a matrix of parts. -/
theorem row (A : FVec Ideal S8x2x1024x704 .bf16) (p : Fin 8) (r : Fin 2048) (k : Fin 704) :
    shapeCast S8x2048x704 A shapeCasts_S8x2x1024x704_S8x2048x704 (ix3 p r k) = A (ix4 p ⟨r.val / 1024, by omega⟩ ⟨r.val % 1024, by omega⟩ k) := by
  pointwise

/-- A matrix as an array of the shard's shape. -/
theorem flat (g : FVec Ideal S2048x704 .f32) (i0 : Fin 2) (i1 : Fin 1024) (i2 : Fin 704) :
    shapeCast S2x1024x704 g shapeCasts_S2048x704_S2x1024x704 (ix3 i0 i1 i2) = g (ix2 ⟨i0.val * 1024 + i1.val, by omega⟩ i2) := by
  pointwise

/-- The sums of the matrices, as an array of the shard's shape, are the sums of the parts. -/
theorem sums (A : FVec Ideal S8x2x1024x704 .bf16) : shapeCast S2x1024x704 (fun j : S2048x704.Idx => ∑ p : Fin 8,
      shapeCast S8x2048x704 A shapeCasts_S8x2x1024x704_S8x2048x704 (ix3 p (j 0) (j 1))) shapeCasts_S2048x704_S2x1024x704
    = fun i : S2x1024x704.Idx => ∑ p : Fin 8, A (ix4 p (i 0) (i 1) (i 2)) := by
  funext i
  rw [eq_ix3 i]
  refine (flat _ _ _ _).trans (Finset.sum_congr rfl fun p _ => (row A p _ _).trans
    (back (fun a b => A (ix4 p a b (i 2))) (i 0) (i 1) _ _))

/-- What the host makes of it: the sum of the parts. -/
theorem result : afterTail₀ cfgs (dats m) 0 (V0 m) [hostOps1] c main_v2
    = fun i : S2x1024x704.Idx => ∑ p : Fin 8, ap m c (ix4 p (i 0) (i 1) (i 2)) := by
  have f := final m c
  rw [← (dats m 0 c).withArrays_arrAt (by decide : Pipeline.SharedIn (cfgs 0).spec) (V0 m c) (A_eq m c) 1] at f
  unfold afterTail₀
  generalize withArrays (cfgs 0).spec c (V0 m c) (fun w => (dats m 0 c).arrAt w (cfgs 0).N) = W at f
  refine Eq.trans ?_ ((congrArg (fun X => shapeCast S2x1024x704 X shapeCasts_S2048x704_S2x1024x704) f).trans (sums (ap m c)))
  after_results
  rfl

/-- The reference runs and ends with its arguments unchanged. -/
theorem reference_frame : Cert.quiescent_SumGuRefIdeal (hSumGuRefIdeal := Cert.SumGuRefIdeal.Gen.facts) := fun m g _ =>
  θ_run_mono (Cert.SumGuRefIdeal.Value.run m g) fun r h =>
    ⟨fun c => (h c).2, Idealize.ShloMosaic.sem_eq_zero_of_no_sems (by decide) r.2⟩

/-- From memories that agree on the arguments both programs run, and their results are equal. -/
theorem algebraic : Cert.algebraic_SumGuIdeal_SumGuRefIdeal
    (hSumGuIdeal := Cert.SumGuIdeal.Gen.facts) (hSumGuRefIdeal := Cert.SumGuRefIdeal.Gen.facts) := by
  intro m g m' g' _ agree
  refine ⟨_, θ_run_mono (θ_run_and (run_main m g) (frame m g)) fun r h c => ⟨h.1.rest_eq c main_v2 (by decide), h.2.1 c⟩,
    θ_run_mono (Cert.SumGuRefIdeal.Value.run m' g') fun r h c => ⟨(h c).1.trans ?_, (h c).2⟩⟩
  rw [agree c]
  refine Eq.trans ?_ (result m c).symm
  clear h
  funext i
  rw [eq_ix3 i]
  pointwise

end Cert.SumGuIdeal.Val

/-! ## The feed-forward's second weights -/

namespace Cert.SumDownIdeal.Val

open Cert.SumDownIdeal Cert.SumDownIdeal.Gen

variable (m : (ℓ : Loc nD τ sig) → Buf (Elt Ideal) ℓ) (c : Dev nD)

/-- The parts that device `c` is given. -/
abbrev ap : FVec Ideal S8x2x352x1024 .bf16 := m ((c : Thread nD τ).loc main_arg0)

/-- The parts as matrices. -/
abbrev mats : FVec Ideal S8x704x1024 .bf16 := shapeCast S8x704x1024 (ap m c) shapeCasts_S8x2x352x1024_S8x704x1024

/-- What a point stores, from the blocks of the eight parts. -/
theorem pay_at (x0 x1 x2 x3 x4 x5 x6 x7 : FVec Ideal S1x176x1024 .bf16) (r : Fin 176) (k : Fin 1024) :
    k0_pay1 (F := Ideal) x0 x1 x2 x3 x4 x5 x6 x7 (ix2 r k) = x0 (ix3 0 r k) + x1 (ix3 0 r k) + x2 (ix3 0 r k) + x3 (ix3 0 r k) + x4 (ix3 0 r k)
      + x5 (ix3 0 r k) + x6 (ix3 0 r k) + x7 (ix3 0 r k) := by
  pointwise [k0_pay1]

/-- What a point stores, from the block it reads: the sum over the devices. -/
theorem out_at (B : FVec Ideal S8x176x1024 .bf16) (r : Fin 176) (k : Fin 1024) :
    out0_1 (F := Ideal) B (ix2 r k) = ∑ p : Fin 8, B (ix3 p r k) := by
  unfold out0_1
  frame_out
  exact (pay_at _ _ _ _ _ _ _ _ _ _).trans (slots B r k)

theorem idx : ∀ t : Fin cfg0.N, win0_0.index t = ![0, t.val, 0] ∧ win0_1.index t = ![t.val, 0] := (by decide +kernel : ∀ t : Fin grid0.N, _)

/-- The matrices the call is given. -/
theorem given : V m c main_v0 = mats m c := by
  show StableHlo.after hostOps0 (fun b => m (c, b)) (Proc.devRef .tc _) = _
  after_results
  rfl

/-- The array the call leaves. -/
theorem final : (dats m 0 c).arrAt 1 (cfgs 0).N = fun j : S704x1024.Idx => ∑ p : Fin 8, mats m c (ix3 p (j 0) (j 1)) := by
  rw [← given m c]
  refine (dats m 0 c).arrAt_eq_of_covers 1 _ (by decide +kernel) fun t hf y => ?_
  blk_simp
  rw [after0_1, eq_ix2 y]
  refine (out_at _ _ _).trans (Finset.sum_congr rfl fun p _ => ?_)
  blk_ext [iblk, idx t]

/-- A row of a matrix of parts. -/
theorem row (A : FVec Ideal S8x2x352x1024 .bf16) (p : Fin 8) (r : Fin 704) (k : Fin 1024) :
    shapeCast S8x704x1024 A shapeCasts_S8x2x352x1024_S8x704x1024 (ix3 p r k) = A (ix4 p ⟨r.val / 352, by omega⟩ ⟨r.val % 352, by omega⟩ k) := by
  pointwise

/-- A matrix as an array of the shard's shape. -/
theorem flat (g : FVec Ideal S704x1024 .f32) (i0 : Fin 2) (i1 : Fin 352) (i2 : Fin 1024) :
    shapeCast S2x352x1024 g shapeCasts_S704x1024_S2x352x1024 (ix3 i0 i1 i2) = g (ix2 ⟨i0.val * 352 + i1.val, by omega⟩ i2) := by
  pointwise

/-- The sums of the matrices, as an array of the shard's shape, are the sums of the parts. -/
theorem sums (A : FVec Ideal S8x2x352x1024 .bf16) : shapeCast S2x352x1024 (fun j : S704x1024.Idx => ∑ p : Fin 8,
      shapeCast S8x704x1024 A shapeCasts_S8x2x352x1024_S8x704x1024 (ix3 p (j 0) (j 1))) shapeCasts_S704x1024_S2x352x1024
    = fun i : S2x352x1024.Idx => ∑ p : Fin 8, A (ix4 p (i 0) (i 1) (i 2)) := by
  funext i
  rw [eq_ix3 i]
  refine (flat _ _ _ _).trans (Finset.sum_congr rfl fun p _ => (row A p _ _).trans
    (back (fun a b => A (ix4 p a b (i 2))) (i 0) (i 1) _ _))

/-- What the host makes of it: the sum of the parts. -/
theorem result : afterTail₀ cfgs (dats m) 0 (V0 m) [hostOps1] c main_v2
    = fun i : S2x352x1024.Idx => ∑ p : Fin 8, ap m c (ix4 p (i 0) (i 1) (i 2)) := by
  have f := final m c
  rw [← (dats m 0 c).withArrays_arrAt (by decide : Pipeline.SharedIn (cfgs 0).spec) (V0 m c) (A_eq m c) 1] at f
  unfold afterTail₀
  generalize withArrays (cfgs 0).spec c (V0 m c) (fun w => (dats m 0 c).arrAt w (cfgs 0).N) = W at f
  refine Eq.trans ?_ ((congrArg (fun X => shapeCast S2x352x1024 X shapeCasts_S704x1024_S2x352x1024) f).trans (sums (ap m c)))
  after_results
  rfl

/-- The reference runs and ends with its arguments unchanged. -/
theorem reference_frame : Cert.quiescent_SumDownRefIdeal (hSumDownRefIdeal := Cert.SumDownRefIdeal.Gen.facts) := fun m g _ =>
  θ_run_mono (Cert.SumDownRefIdeal.Value.run m g) fun r h =>
    ⟨fun c => (h c).2, Idealize.ShloMosaic.sem_eq_zero_of_no_sems (by decide) r.2⟩

/-- From memories that agree on the arguments both programs run, and their results are equal. -/
theorem algebraic : Cert.algebraic_SumDownIdeal_SumDownRefIdeal
    (hSumDownIdeal := Cert.SumDownIdeal.Gen.facts) (hSumDownRefIdeal := Cert.SumDownRefIdeal.Gen.facts) := by
  intro m g m' g' _ agree
  refine ⟨_, θ_run_mono (θ_run_and (run_main m g) (frame m g)) fun r h c => ⟨h.1.rest_eq c main_v2 (by decide), h.2.1 c⟩,
    θ_run_mono (Cert.SumDownRefIdeal.Value.run m' g') fun r h c => ⟨(h c).1.trans ?_, (h c).2⟩⟩
  rw [agree c]
  refine Eq.trans ?_ (result m c).symm
  clear h
  funext i
  rw [eq_ix3 i]
  pointwise

end Cert.SumDownIdeal.Val

/-! ## The combined input projection's weights -/

namespace Cert.SumInIdeal.Val

open Cert.SumInIdeal Cert.SumInIdeal.Gen

variable (m : (ℓ : Loc nD τ sig) → Buf (Elt Ideal) ℓ) (c : Dev nD)

/-- The parts that device `c` is given. -/
abbrev ap : FVec Ideal S8x2x1024x801 .bf16 := m ((c : Thread nD τ).loc main_arg0)

/-- The parts as matrices. -/
abbrev mats : FVec Ideal S8x2048x801 .bf16 := shapeCast S8x2048x801 (ap m c) shapeCasts_S8x2x1024x801_S8x2048x801

/-- What a point stores, from the blocks of the eight parts. -/
theorem pay_at (x0 x1 x2 x3 x4 x5 x6 x7 : FVec Ideal S1x256x801 .bf16) (r : Fin 256) (k : Fin 801) :
    k0_pay1 (F := Ideal) x0 x1 x2 x3 x4 x5 x6 x7 (ix2 r k) = x0 (ix3 0 r k) + x1 (ix3 0 r k) + x2 (ix3 0 r k) + x3 (ix3 0 r k) + x4 (ix3 0 r k)
      + x5 (ix3 0 r k) + x6 (ix3 0 r k) + x7 (ix3 0 r k) := by
  pointwise [k0_pay1]

/-- What a point stores, from the block it reads: the sum over the devices. -/
theorem out_at (B : FVec Ideal S8x256x801 .bf16) (r : Fin 256) (k : Fin 801) :
    out0_1 (F := Ideal) B (ix2 r k) = ∑ p : Fin 8, B (ix3 p r k) := by
  unfold out0_1
  frame_out
  exact (pay_at _ _ _ _ _ _ _ _ _ _).trans (slots B r k)

theorem idx : ∀ t : Fin cfg0.N, win0_0.index t = ![0, t.val, 0] ∧ win0_1.index t = ![t.val, 0] := (by decide +kernel : ∀ t : Fin grid0.N, _)

/-- The matrices the call is given. -/
theorem given : V m c main_v0 = mats m c := by
  show StableHlo.after hostOps0 (fun b => m (c, b)) (Proc.devRef .tc _) = _
  after_results
  rfl

/-- The array the call leaves. -/
theorem final : (dats m 0 c).arrAt 1 (cfgs 0).N = fun j : S2048x801.Idx => ∑ p : Fin 8, mats m c (ix3 p (j 0) (j 1)) := by
  rw [← given m c]
  refine (dats m 0 c).arrAt_eq_of_covers 1 _ (by decide +kernel) fun t hf y => ?_
  blk_simp
  rw [after0_1, eq_ix2 y]
  refine (out_at _ _ _).trans (Finset.sum_congr rfl fun p _ => ?_)
  blk_ext [iblk, idx t]

/-- A row of a matrix of parts. -/
theorem row (A : FVec Ideal S8x2x1024x801 .bf16) (p : Fin 8) (r : Fin 2048) (k : Fin 801) :
    shapeCast S8x2048x801 A shapeCasts_S8x2x1024x801_S8x2048x801 (ix3 p r k) = A (ix4 p ⟨r.val / 1024, by omega⟩ ⟨r.val % 1024, by omega⟩ k) := by
  pointwise

/-- A matrix as an array of the shard's shape. -/
theorem flat (g : FVec Ideal S2048x801 .f32) (i0 : Fin 2) (i1 : Fin 1024) (i2 : Fin 801) :
    shapeCast S2x1024x801 g shapeCasts_S2048x801_S2x1024x801 (ix3 i0 i1 i2) = g (ix2 ⟨i0.val * 1024 + i1.val, by omega⟩ i2) := by
  pointwise

/-- The sums of the matrices, as an array of the shard's shape, are the sums of the parts. -/
theorem sums (A : FVec Ideal S8x2x1024x801 .bf16) : shapeCast S2x1024x801 (fun j : S2048x801.Idx => ∑ p : Fin 8,
      shapeCast S8x2048x801 A shapeCasts_S8x2x1024x801_S8x2048x801 (ix3 p (j 0) (j 1))) shapeCasts_S2048x801_S2x1024x801
    = fun i : S2x1024x801.Idx => ∑ p : Fin 8, A (ix4 p (i 0) (i 1) (i 2)) := by
  funext i
  rw [eq_ix3 i]
  refine (flat _ _ _ _).trans (Finset.sum_congr rfl fun p _ => (row A p _ _).trans
    (back (fun a b => A (ix4 p a b (i 2))) (i 0) (i 1) _ _))

/-- What the host makes of it: the sum of the parts. -/
theorem result : afterTail₀ cfgs (dats m) 0 (V0 m) [hostOps1] c main_v2
    = fun i : S2x1024x801.Idx => ∑ p : Fin 8, ap m c (ix4 p (i 0) (i 1) (i 2)) := by
  have f := final m c
  rw [← (dats m 0 c).withArrays_arrAt (by decide : Pipeline.SharedIn (cfgs 0).spec) (V0 m c) (A_eq m c) 1] at f
  unfold afterTail₀
  generalize withArrays (cfgs 0).spec c (V0 m c) (fun w => (dats m 0 c).arrAt w (cfgs 0).N) = W at f
  refine Eq.trans ?_ ((congrArg (fun X => shapeCast S2x1024x801 X shapeCasts_S2048x801_S2x1024x801) f).trans (sums (ap m c)))
  after_results
  rfl

/-- The reference runs and ends with its arguments unchanged. -/
theorem reference_frame : Cert.quiescent_SumInRefIdeal (hSumInRefIdeal := Cert.SumInRefIdeal.Gen.facts) := fun m g _ =>
  θ_run_mono (Cert.SumInRefIdeal.Value.run m g) fun r h =>
    ⟨fun c => (h c).2, Idealize.ShloMosaic.sem_eq_zero_of_no_sems (by decide) r.2⟩

/-- From memories that agree on the arguments both programs run, and their results are equal. -/
theorem algebraic : Cert.algebraic_SumInIdeal_SumInRefIdeal
    (hSumInIdeal := Cert.SumInIdeal.Gen.facts) (hSumInRefIdeal := Cert.SumInRefIdeal.Gen.facts) := by
  intro m g m' g' _ agree
  refine ⟨_, θ_run_mono (θ_run_and (run_main m g) (frame m g)) fun r h c => ⟨h.1.rest_eq c main_v2 (by decide), h.2.1 c⟩,
    θ_run_mono (Cert.SumInRefIdeal.Value.run m' g') fun r h c => ⟨(h c).1.trans ?_, (h c).2⟩⟩
  rw [agree c]
  refine Eq.trans ?_ (result m c).symm
  clear h
  funext i
  rw [eq_ix3 i]
  pointwise

end Cert.SumInIdeal.Val

/-! ## The memory's projection and the output projection -/

namespace Cert.SumKvIdeal.Val

open Cert.SumKvIdeal Cert.SumKvIdeal.Gen

variable (m : (ℓ : Loc nD τ sig) → Buf (Elt Ideal) ℓ) (c : Dev nD)

/-- The parts that device `c` is given. -/
abbrev ap : FVec Ideal S8x2x128x1024 .bf16 := m ((c : Thread nD τ).loc main_arg0)

/-- The parts as matrices. -/
abbrev mats : FVec Ideal S8x256x1024 .bf16 := shapeCast S8x256x1024 (ap m c) shapeCasts_S8x2x128x1024_S8x256x1024

/-- What a point stores, from the blocks of the eight parts. -/
theorem pay_at (x0 x1 x2 x3 x4 x5 x6 x7 : FVec Ideal S1x256x1024 .bf16) (r : Fin 256) (k : Fin 1024) :
    k0_pay1 (F := Ideal) x0 x1 x2 x3 x4 x5 x6 x7 (ix2 r k) = x0 (ix3 0 r k) + x1 (ix3 0 r k) + x2 (ix3 0 r k) + x3 (ix3 0 r k) + x4 (ix3 0 r k)
      + x5 (ix3 0 r k) + x6 (ix3 0 r k) + x7 (ix3 0 r k) := by
  pointwise [k0_pay1]

/-- What a point stores, from the block it reads: the sum over the devices. -/
theorem out_at (B : FVec Ideal S8x256x1024 .bf16) (r : Fin 256) (k : Fin 1024) :
    out0_1 (F := Ideal) B (ix2 r k) = ∑ p : Fin 8, B (ix3 p r k) := by
  unfold out0_1
  frame_out
  exact (pay_at _ _ _ _ _ _ _ _ _ _).trans (slots B r k)

theorem idx : ∀ t : Fin cfg0.N, win0_0.index t = ![0, t.val, 0] ∧ win0_1.index t = ![t.val, 0] := (by decide +kernel : ∀ t : Fin grid0.N, _)

/-- The matrices the call is given. -/
theorem given : V m c main_v0 = mats m c := by
  show StableHlo.after hostOps0 (fun b => m (c, b)) (Proc.devRef .tc _) = _
  after_results
  rfl

/-- The array the call leaves. -/
theorem final : (dats m 0 c).arrAt 1 (cfgs 0).N = fun j : S256x1024.Idx => ∑ p : Fin 8, mats m c (ix3 p (j 0) (j 1)) := by
  rw [← given m c]
  refine (dats m 0 c).arrAt_eq_of_covers 1 _ (by decide +kernel) fun t hf y => ?_
  blk_simp
  rw [after0_1, eq_ix2 y]
  refine (out_at _ _ _).trans (Finset.sum_congr rfl fun p _ => ?_)
  blk_ext [iblk, idx t]

/-- A row of a matrix of parts. -/
theorem row (A : FVec Ideal S8x2x128x1024 .bf16) (p : Fin 8) (r : Fin 256) (k : Fin 1024) :
    shapeCast S8x256x1024 A shapeCasts_S8x2x128x1024_S8x256x1024 (ix3 p r k) = A (ix4 p ⟨r.val / 128, by omega⟩ ⟨r.val % 128, by omega⟩ k) := by
  pointwise

/-- A matrix as an array of the shard's shape. -/
theorem flat (g : FVec Ideal S256x1024 .f32) (i0 : Fin 2) (i1 : Fin 128) (i2 : Fin 1024) :
    shapeCast S2x128x1024 g shapeCasts_S256x1024_S2x128x1024 (ix3 i0 i1 i2) = g (ix2 ⟨i0.val * 128 + i1.val, by omega⟩ i2) := by
  pointwise

/-- The sums of the matrices, as an array of the shard's shape, are the sums of the parts. -/
theorem sums (A : FVec Ideal S8x2x128x1024 .bf16) : shapeCast S2x128x1024 (fun j : S256x1024.Idx => ∑ p : Fin 8,
      shapeCast S8x256x1024 A shapeCasts_S8x2x128x1024_S8x256x1024 (ix3 p (j 0) (j 1))) shapeCasts_S256x1024_S2x128x1024
    = fun i : S2x128x1024.Idx => ∑ p : Fin 8, A (ix4 p (i 0) (i 1) (i 2)) := by
  funext i
  rw [eq_ix3 i]
  refine (flat _ _ _ _).trans (Finset.sum_congr rfl fun p _ => (row A p _ _).trans
    (back (fun a b => A (ix4 p a b (i 2))) (i 0) (i 1) _ _))

/-- What the host makes of it: the sum of the parts. -/
theorem result : afterTail₀ cfgs (dats m) 0 (V0 m) [hostOps1] c main_v2
    = fun i : S2x128x1024.Idx => ∑ p : Fin 8, ap m c (ix4 p (i 0) (i 1) (i 2)) := by
  have f := final m c
  rw [← (dats m 0 c).withArrays_arrAt (by decide : Pipeline.SharedIn (cfgs 0).spec) (V0 m c) (A_eq m c) 1] at f
  unfold afterTail₀
  generalize withArrays (cfgs 0).spec c (V0 m c) (fun w => (dats m 0 c).arrAt w (cfgs 0).N) = W at f
  refine Eq.trans ?_ ((congrArg (fun X => shapeCast S2x128x1024 X shapeCasts_S256x1024_S2x128x1024) f).trans (sums (ap m c)))
  after_results
  rfl

/-- The reference runs and ends with its arguments unchanged. -/
theorem reference_frame : Cert.quiescent_SumKvRefIdeal (hSumKvRefIdeal := Cert.SumKvRefIdeal.Gen.facts) := fun m g _ =>
  θ_run_mono (Cert.SumKvRefIdeal.Value.run m g) fun r h =>
    ⟨fun c => (h c).2, Idealize.ShloMosaic.sem_eq_zero_of_no_sems (by decide) r.2⟩

/-- From memories that agree on the arguments both programs run, and their results are equal. -/
theorem algebraic : Cert.algebraic_SumKvIdeal_SumKvRefIdeal
    (hSumKvIdeal := Cert.SumKvIdeal.Gen.facts) (hSumKvRefIdeal := Cert.SumKvRefIdeal.Gen.facts) := by
  intro m g m' g' _ agree
  refine ⟨_, θ_run_mono (θ_run_and (run_main m g) (frame m g)) fun r h c => ⟨h.1.rest_eq c main_v2 (by decide), h.2.1 c⟩,
    θ_run_mono (Cert.SumKvRefIdeal.Value.run m' g') fun r h c => ⟨(h c).1.trans ?_, (h c).2⟩⟩
  rw [agree c]
  refine Eq.trans ?_ (result m c).symm
  clear h
  funext i
  rw [eq_ix3 i]
  pointwise

end Cert.SumKvIdeal.Val

/-! ## The branches' projections -/

namespace Cert.SumBranchIdeal.Val

open Cert.SumBranchIdeal Cert.SumBranchIdeal.Gen

variable (m : (ℓ : Loc nD τ sig) → Buf (Elt Ideal) ℓ) (c : Dev nD)

/-- The parts that device `c` is given. -/
abbrev ap : FVec Ideal S8x2x3x512x128 .bf16 := m ((c : Thread nD τ).loc main_arg0)

/-- The parts as matrices. -/
abbrev mats : FVec Ideal S8x3072x128 .bf16 := shapeCast S8x3072x128 (ap m c) shapeCasts_S8x2x3x512x128_S8x3072x128

/-- What a point stores, from the blocks of the eight parts. -/
theorem pay_at (x0 x1 x2 x3 x4 x5 x6 x7 : FVec Ideal S1x256x128 .bf16) (r : Fin 256) (k : Fin 128) :
    k0_pay1 (F := Ideal) x0 x1 x2 x3 x4 x5 x6 x7 (ix2 r k) = x0 (ix3 0 r k) + x1 (ix3 0 r k) + x2 (ix3 0 r k) + x3 (ix3 0 r k) + x4 (ix3 0 r k)
      + x5 (ix3 0 r k) + x6 (ix3 0 r k) + x7 (ix3 0 r k) := by
  pointwise [k0_pay1]

/-- What a point stores, from the block it reads: the sum over the devices. -/
theorem out_at (B : FVec Ideal S8x256x128 .bf16) (r : Fin 256) (k : Fin 128) :
    out0_1 (F := Ideal) B (ix2 r k) = ∑ p : Fin 8, B (ix3 p r k) := by
  unfold out0_1
  frame_out
  exact (pay_at _ _ _ _ _ _ _ _ _ _).trans (slots B r k)

theorem idx : ∀ t : Fin cfg0.N, win0_0.index t = ![0, t.val, 0] ∧ win0_1.index t = ![t.val, 0] := (by decide +kernel : ∀ t : Fin grid0.N, _)

/-- The matrices the call is given. -/
theorem given : V m c main_v0 = mats m c := by
  show StableHlo.after hostOps0 (fun b => m (c, b)) (Proc.devRef .tc _) = _
  after_results
  rfl

/-- The array the call leaves. -/
theorem final : (dats m 0 c).arrAt 1 (cfgs 0).N = fun j : S3072x128.Idx => ∑ p : Fin 8, mats m c (ix3 p (j 0) (j 1)) := by
  rw [← given m c]
  refine (dats m 0 c).arrAt_eq_of_covers 1 _ (by decide +kernel) fun t hf y => ?_
  blk_simp
  rw [after0_1, eq_ix2 y]
  refine (out_at _ _ _).trans (Finset.sum_congr rfl fun p _ => ?_)
  blk_ext [iblk, idx t]

/-- A row of a matrix of parts. -/
theorem row (A : FVec Ideal S8x2x3x512x128 .bf16) (p : Fin 8) (r : Fin 3072) (k : Fin 128) :
    shapeCast S8x3072x128 A shapeCasts_S8x2x3x512x128_S8x3072x128 (ix3 p r k)
      = A (ix5 p ⟨r.val / 1536, by omega⟩ ⟨r.val / 512 % 3, by omega⟩ ⟨r.val % 512, by omega⟩ k) := by
  pointwise

/-- A matrix as an array of the shard's shape. -/
theorem flat (g : FVec Ideal S3072x128 .f32) (i0 : Fin 2) (i1 : Fin 3) (i2 : Fin 512) (i3 : Fin 128) :
    shapeCast S2x3x512x128 g shapeCasts_S3072x128_S2x3x512x128 (ix4 i0 i1 i2 i3) = g (ix2 ⟨i0.val * 1536 + i1.val * 512 + i2.val, by omega⟩ i3) := by
  pointwise

/-- The sums of the matrices, as an array of the shard's shape, are the sums of the parts. -/
theorem sums (A : FVec Ideal S8x2x3x512x128 .bf16) : shapeCast S2x3x512x128 (fun j : S3072x128.Idx => ∑ p : Fin 8,
      shapeCast S8x3072x128 A shapeCasts_S8x2x3x512x128_S8x3072x128 (ix3 p (j 0) (j 1))) shapeCasts_S3072x128_S2x3x512x128
    = fun i : S2x3x512x128.Idx => ∑ p : Fin 8, A (ix5 p (i 0) (i 1) (i 2) (i 3)) := by
  funext i
  rw [eq_ix4 i]
  refine (flat _ _ _ _ _).trans (Finset.sum_congr rfl fun p _ => (row A p _ _).trans ?_)
  have e0 := (i 0).isLt
  have e1 := (i 1).isLt
  have e2 := (i 2).isLt
  refine congrArg A (funext fun x => Fin.ext ?_)
  fin_cases x <;> simp at e0 e1 e2 ⊢ <;> omega

/-- What the host makes of it: the sum of the parts. -/
theorem result : afterTail₀ cfgs (dats m) 0 (V0 m) [hostOps1] c main_v2
    = fun i : S2x3x512x128.Idx => ∑ p : Fin 8, ap m c (ix5 p (i 0) (i 1) (i 2) (i 3)) := by
  have f := final m c
  rw [← (dats m 0 c).withArrays_arrAt (by decide : Pipeline.SharedIn (cfgs 0).spec) (V0 m c) (A_eq m c) 1] at f
  unfold afterTail₀
  generalize withArrays (cfgs 0).spec c (V0 m c) (fun w => (dats m 0 c).arrAt w (cfgs 0).N) = W at f
  refine Eq.trans ?_ ((congrArg (fun X => shapeCast S2x3x512x128 X shapeCasts_S3072x128_S2x3x512x128) f).trans (sums (ap m c)))
  after_results
  rfl

/-- The reference runs and ends with its arguments unchanged. -/
theorem reference_frame : Cert.quiescent_SumBranchRefIdeal (hSumBranchRefIdeal := Cert.SumBranchRefIdeal.Gen.facts) := fun m g _ =>
  θ_run_mono (Cert.SumBranchRefIdeal.Value.run m g) fun r h =>
    ⟨fun c => (h c).2, Idealize.ShloMosaic.sem_eq_zero_of_no_sems (by decide) r.2⟩

/-- From memories that agree on the arguments both programs run, and their results are equal. -/
theorem algebraic : Cert.algebraic_SumBranchIdeal_SumBranchRefIdeal
    (hSumBranchIdeal := Cert.SumBranchIdeal.Gen.facts) (hSumBranchRefIdeal := Cert.SumBranchRefIdeal.Gen.facts) := by
  intro m g m' g' _ agree
  refine ⟨_, θ_run_mono (θ_run_and (run_main m g) (frame m g)) fun r h c => ⟨h.1.rest_eq c main_v2 (by decide), h.2.1 c⟩,
    θ_run_mono (Cert.SumBranchRefIdeal.Value.run m' g') fun r h c => ⟨(h c).1.trans ?_, (h c).2⟩⟩
  rw [agree c]
  refine Eq.trans ?_ (result m c).symm
  clear h
  funext i
  rw [eq_ix4 i]
  pointwise

end Cert.SumBranchIdeal.Val
-- ==== Proof.Spec.lean ====
/- The softmax with a sink, and the gradient of it, of ONE query row of the sliding window, over the extended reals: `S` the
   256 masked scores of the row (`⊥` where the window masks), `σ` the head's sink, `g` the cotangent of the row's 256
   probabilities. Both programs' terms are read to these definitions; nothing here mentions a program. -/
module

public import Idealize.ShloMosaic.Lib.Pointwise

@[expose] public section

noncomputable section

namespace Cert.Spec

open Idealize.ShloMosaic

/-- The largest score. -/
def top (S : Fin 256 → EReal) : EReal := Finset.univ.fold max ⊥ S
/-- The running maximum the exponentials are taken against: scores and sink. -/
def cap (S : Fin 256 → EReal) (σ : EReal) : EReal := max (top S) σ
/-- The exponential of one score. -/
def ex (S : Fin 256 → EReal) (σ : EReal) (k : Fin 256) : EReal := Ideal.exp (S k - cap S σ)
/-- The exponential of the sink. -/
def exSink (S : Fin 256 → EReal) (σ : EReal) : EReal := Ideal.exp (σ - cap S σ)
/-- The denominator. -/
def den (S : Fin 256 → EReal) (σ : EReal) : EReal := (∑ k, ex S σ k) + exSink S σ
/-- The probability of key `k`. -/
def prob (S : Fin 256 → EReal) (σ : EReal) (k : Fin 256) : EReal := Ideal.div (ex S σ k) (den S σ)
/-- The cotangent of the denominator. -/
def dDen (S : Fin 256 → EReal) (σ : EReal) (g : Fin 256 → EReal) : EReal :=
  -(∑ k, g k * Ideal.div 1 (den S σ * den S σ) * ex S σ k)
/-- The cotangent of `σ - cap`. -/
def dExSink (S : Fin 256 → EReal) (σ : EReal) (g : Fin 256 → EReal) : EReal := dDen S σ g * exSink S σ
/-- The cotangent of `S k - cap`. -/
def dEx (S : Fin 256 → EReal) (σ : EReal) (g : Fin 256 → EReal) (k : Fin 256) : EReal :=
  (Ideal.div (g k) (den S σ) + dDen S σ g) * ex S σ k
/-- The cotangent of the cap. -/
def dCap (S : Fin 256 → EReal) (σ : EReal) (g : Fin 256 → EReal) : EReal := -dExSink S σ g + ∑ k, -dEx S σ g k
/-- The share of the cotangent of `max a b` that goes to `a`: all, half at a tie, or none. -/
def toLeft (a b : EReal) : EReal := if b < a then 1 else if a = b then Ideal.ofBits .f32 0x3F000000#32 else 0
/-- One where the score is the largest one. -/
def hit (S : Fin 256 → EReal) (k : Fin 256) : EReal := if S k = top S then 1 else 0
/-- The cotangent of the score of key `k`: through its exponential, and through the largest score where it is that. -/
def dScore (S : Fin 256 → EReal) (σ : EReal) (g : Fin 256 → EReal) (k : Fin 256) : EReal :=
  dEx S σ g k + Ideal.div (dCap S σ g * toLeft (top S) σ) (∑ k, hit S k) * hit S k
/-- The cotangent of the sink from this row. -/
def dSink (S : Fin 256 → EReal) (σ : EReal) (g : Fin 256 → EReal) : EReal := dExSink S σ g + dCap S σ g * toLeft σ (top S)

/-- A masked key has exponential zero, whatever the cap is. -/
theorem ex_masked {S : Fin 256 → EReal} {σ : EReal} {k : Fin 256} (h : S k = ⊥) : ex S σ k = 0 := by
  unfold ex
  rw [h, EReal.bot_sub]
  exact Ideal.exp_bot

section Masked

variable {S : Fin 256 → EReal} {σ : EReal} {g g' : Fin 256 → EReal} (h : ∀ k, S k = ⊥ ∨ g k = g' k)
include h

/-- The cotangents of the masked keys' probabilities play no part in the denominator's cotangent. -/
theorem dDen_congr : dDen S σ g = dDen S σ g' := by
  unfold dDen
  refine congrArg _ (Finset.sum_congr rfl fun k _ => ?_)
  rcases h k with e | e
  · rw [ex_masked e, mul_zero, mul_zero]
  · rw [e]

/-- … nor in the exponentials' cotangents … -/
theorem dEx_congr : dEx S σ g = dEx S σ g' := by
  funext k
  unfold dEx
  rw [dDen_congr h]
  rcases h k with e | e
  · rw [ex_masked e, mul_zero, mul_zero]
  · rw [e]

/-- … nor in the cap's … -/
theorem dCap_congr : dCap S σ g = dCap S σ g' := by
  unfold dCap dExSink
  rw [dDen_congr h, dEx_congr h]

/-- … nor in the scores' … -/
theorem dScore_congr : dScore S σ g = dScore S σ g' := by
  funext k
  unfold dScore
  rw [dEx_congr h, dCap_congr h]

/-- … nor in the sink's. -/
theorem dSink_congr : dSink S σ g = dSink S σ g' := by
  unfold dSink dExSink
  rw [dDen_congr h, dCap_congr h]

end Masked

/-- ONE key/value head at one block of 128 queries: which of the 256 keys of the band each query sees, the four query heads'
    queries and result cotangents, the band's keys and values, and the four sinks. -/
structure Grp where
  see : Fin 128 → Fin 256 → Bool
  q : Fin 4 → Fin 128 → Fin 64 → EReal
  K : Fin 256 → Fin 64 → EReal
  V : Fin 256 → Fin 64 → EReal
  σ : Fin 4 → EReal
  dO : Fin 4 → Fin 128 → Fin 64 → EReal

namespace Grp

/-- The scale `1 / √64` as the programs hold it. -/
def scale : EReal := Ideal.ofBits .f32 0x3E000000#32

/-- The masked scores of a query. -/
def score (A : Grp) (g : Fin 4) (r : Fin 128) (k : Fin 256) : EReal :=
  if A.see r k then (∑ d, A.q g r d * A.K k d) * scale else ⊥
/-- The cotangents of a query's probabilities. -/
def dProb (A : Grp) (g : Fin 4) (r : Fin 128) (k : Fin 256) : EReal := ∑ d, A.dO g r d * A.V k d
/-- The cotangent of a query's product with key `k`. -/
def dDot (A : Grp) (g : Fin 4) (r : Fin 128) (k : Fin 256) : EReal :=
  (if A.see r k then dScore (A.score g r) (A.σ g) (A.dProb g r) k else 0) * scale
/-- The gradient of a query. -/
def dQ (A : Grp) (g : Fin 4) (r : Fin 128) (d : Fin 64) : EReal := ∑ k, A.dDot g r k * A.K k d
/-- The gradient of key `k` from this block's queries. -/
def dK (A : Grp) (k : Fin 256) (d : Fin 64) : EReal := ∑ g, ∑ r, A.dDot g r k * A.q g r d
/-- The gradient of value `k` from this block's queries. -/
def dV (A : Grp) (k : Fin 256) (d : Fin 64) : EReal := ∑ g, ∑ r, prob (A.score g r) (A.σ g) k * A.dO g r d
/-- The gradient of a sink from one of this block's queries. -/
def dSig (A : Grp) (g : Fin 4) (r : Fin 128) : EReal := dSink (A.score g r) (A.σ g) (A.dProb g r)

/-- Two groups that differ at most in keys and values no query sees. -/
structure Same (A B : Grp) : Prop where
  see : A.see = B.see
  q : A.q = B.q
  K : ∀ r k, A.see r k = true → A.K k = B.K k
  V : ∀ r k, A.see r k = true → A.V k = B.V k
  σ : A.σ = B.σ
  dO : A.dO = B.dO

namespace Same

variable {A B : Grp} (h : Same A B)
include h

theorem score_eq : A.score = B.score := by
  funext g r k
  unfold score
  rw [← h.see, ← h.q]
  by_cases e : A.see r k = true
  · rw [if_pos e, if_pos e, h.K r k e]
  · rw [if_neg e, if_neg e]

theorem dProb_eq (g : Fin 4) (r : Fin 128) (k : Fin 256) : A.score g r k = ⊥ ∨ A.dProb g r k = B.dProb g r k := by
  by_cases e : A.see r k = true
  · right
    unfold dProb
    rw [h.V r k e, h.dO]
  · left
    unfold score
    rw [if_neg e]

theorem dDot_eq : A.dDot = B.dDot := by
  funext g r k
  unfold dDot
  rw [← h.see, ← h.score_eq, ← h.σ, dScore_congr (h.dProb_eq g r)]

theorem dQ_eq : A.dQ = B.dQ := by
  funext g r d
  unfold dQ
  rw [← h.dDot_eq]
  refine Finset.sum_congr rfl fun k _ => ?_
  by_cases e : A.see r k = true
  · rw [h.K r k e]
  · unfold dDot
    rw [if_neg e, zero_mul, zero_mul, zero_mul]

theorem dK_eq : A.dK = B.dK := by
  funext k d
  unfold dK
  rw [h.dDot_eq, h.q]

theorem dV_eq : A.dV = B.dV := by
  funext k d
  unfold dV
  rw [h.score_eq, h.σ, h.dO]

theorem dSig_eq : A.dSig = B.dSig := by
  funext g r
  unfold dSig
  rw [← h.score_eq, ← h.σ, dSink_congr (h.dProb_eq g r)]

end Same

end Grp

/-- Query `r` of block `n` sees key `k` of the band (blocks `n - 1` and `n`): the key is at most 127 positions back, and exists. -/
def sees (n r k : ℕ) : Bool := decide (r < k) && decide (k ≤ r + 128) && (decide (128 ≤ k) || decide (0 < n))

/-- The pattern of minus infinity. -/
theorem ofBits_negInf : Ideal.ofBits .f32 0xFF800000#32 = ⊥ := by
  simp [Ideal.ofBits, Ideal.ieee]

/-- A bit widened and converted as a signed integer is one or zero. -/
theorem sitofp_bit (p : Prop) [Decidable p] :
    (FloatOps.sitofp .f32 (BitVec.setWidth 32 (BitVec.ofBool (decide p))) : Ideal .f32) = if p then (1 : EReal) else 0 := by
  by_cases h : p
  · simp [h, FloatOps.sitofp]
  · simp [h, FloatOps.sitofp]

/-- A bit converted as an unsigned integer is one or zero. -/
theorem uitofp_bit (p : Prop) [Decidable p] :
    (FloatOps.uitofp .f32 (BitVec.ofBool (decide p)) : Ideal .f32) = if p then (1 : EReal) else 0 := by
  by_cases h : p
  · simp [h, FloatOps.uitofp]
  · simp [h, FloatOps.uitofp]

end Cert.Spec
-- ==== Proof.Arr.lean ====
/- The groups of a whole sequence: 128 blocks of 128 positions, two key/value heads of four query heads, read from the arrays
   of queries `[16384, 512]`, keys and values `[16384, 256]` (keys in columns 0..127, values in 128..255), sinks `[8]` and
   the result's cotangent `[16384, 512]`; and the three gradients they give. -/
module

public import proofs.«01_k».proof.Proof.Spec

@[expose] public section

noncomputable section

namespace Cert.Spec

open Idealize.ShloMosaic

/-- Row `k` of the band of block `n`: 128 rows of the block before it, then its own 128. Before block 0 there is nothing: the
    band holds zeros there if `z`, block 0 itself if not. -/
def band (z : Bool) (n : Fin 128) (x : Fin 16384 → EReal) (k : Fin 256) : EReal :=
  if (k : ℕ) < 128 then (if z = true ∧ (n : ℕ) = 0 then 0 else x ⟨(n - 1) * 128 + k % 128, by omega⟩)
  else x ⟨n * 128 + k % 128, by omega⟩

/-- The band's row `k` lies in the block before … -/
theorem band_before (n : Fin 128) (x : Fin 16384 → EReal) (k : Fin 256) (hk : (k : ℕ) < 128) (hn : ¬ (n : ℕ) < 1) :
    band true n x k = x ⟨(n - 1) * 128 + k, by omega⟩ := by
  unfold band
  rw [if_pos hk, if_neg fun e => hn (by have := e.2; omega)]
  exact congrArg x (Fin.ext (by dsimp only; omega))

/-- … or before the sequence … -/
theorem band_zero (n : Fin 128) (x : Fin 16384 → EReal) (k : Fin 256) (hk : (k : ℕ) < 128) (hn : (n : ℕ) < 1) : band true n x k = 0 := by
  unfold band
  rw [if_pos hk, if_pos ⟨rfl, by omega⟩]

/-- … or in the block itself. -/
theorem band_own (n : Fin 128) (x : Fin 16384 → EReal) (k : Fin 256) (hk : ¬ (k : ℕ) < 128) :
    band true n x k = x ⟨n * 128 + (k - 128), by omega⟩ := by
  unfold band
  rw [if_neg hk]
  exact congrArg x (Fin.ext (by dsimp only; omega))

/-- The group of key/value head `h` at block `n` of the sequence. -/
def agrp (z : Bool) (q : Fin 16384 → Fin 512 → EReal) (kv : Fin 16384 → Fin 256 → EReal) (s : Fin 8 → EReal)
    (dO : Fin 16384 → Fin 512 → EReal) (h : Fin 2) (n : Fin 128) : Grp where
  see r k := sees n r k
  q g r d := q ⟨n * 128 + r, by omega⟩ ⟨(h * 4 + g) * 64 + d, by omega⟩
  K k d := band z n (fun a => kv a ⟨h * 64 + d, by omega⟩) k
  V k d := band z n (fun a => kv a ⟨128 + h * 64 + d, by omega⟩) k
  σ g := s ⟨h * 4 + g, by omega⟩
  dO g r d := dO ⟨n * 128 + r, by omega⟩ ⟨(h * 4 + g) * 64 + d, by omega⟩

/-- No query of block 0 sees the keys before the sequence. -/
theorem band_eq (n : Fin 128) (x : Fin 16384 → EReal) (r : ℕ) (k : Fin 256) (h : sees n r k = true) :
    band false n x k = band true n x k := by
  unfold band
  simp only [sees, Bool.and_eq_true, Bool.or_eq_true, decide_eq_true_eq] at h
  by_cases hk : (k : ℕ) < 128
  · have hn : ¬ (n : ℕ) = 0 := by omega
    simp [hk, hn]
  · simp [hk]

/-- What stands before the sequence does not change what the groups compute. -/
theorem agrp_same (q : Fin 16384 → Fin 512 → EReal) (kv : Fin 16384 → Fin 256 → EReal) (s : Fin 8 → EReal)
    (dO : Fin 16384 → Fin 512 → EReal) (h : Fin 2) (n : Fin 128) : Grp.Same (agrp false q kv s dO h n) (agrp true q kv s dO h n) where
  see := rfl
  q := rfl
  K r k e := funext fun d => band_eq n (fun a => kv a ⟨h * 64 + d, by omega⟩) r k e
  V r k e := funext fun d => band_eq n (fun a => kv a ⟨128 + h * 64 + d, by omega⟩) r k e
  σ := rfl
  dO := rfl

/-- The gradient of key (`o = 0`) or value (`o = 1`) row `k` of the band. -/
def dKV (A : Grp) (o : Fin 2) (k : Fin 256) (d : Fin 64) : EReal := if (o : ℕ) = 0 then A.dK k d else A.dV k d

/-- The gradient of the queries. -/
def resQ (F : Fin 2 → Fin 128 → Grp) (a : Fin 16384) (b : Fin 512) : EReal :=
  (F ⟨b / 256, by omega⟩ ⟨a / 128, by omega⟩).dQ ⟨b / 64 % 4, by omega⟩ ⟨a % 128, by omega⟩ ⟨b % 64, by omega⟩

/-- The part of the gradient of keys and values that block `a / 128` gives: to its own row `a` (`e = 1`), or to the row as far into
    the block before (`e = 0`). -/
def resKV (F : Fin 2 → Fin 128 → Grp) (e : Fin 2) (a : Fin 16384) (b : Fin 256) : EReal :=
  dKV (F ⟨b / 64 % 2, by omega⟩ ⟨a / 128, by omega⟩) ⟨b / 128, by omega⟩ ⟨e * 128 + a % 128, by omega⟩ ⟨b % 64, by omega⟩

/-- The gradient of keys and values: each row's own block and the block after it. -/
def sumKV (F : Fin 2 → Fin 128 → Grp) (a : Fin 16384) (b : Fin 256) : EReal :=
  resKV F 1 a b + if ha : (a : ℕ) < 16256 then resKV F 0 ⟨a + 128, by omega⟩ b else 0

/-- The gradient of the sinks. -/
def resS (F : Fin 2 → Fin 128 → Grp) (i : Fin 8) : EReal :=
  ∑ n, ∑ r, (F ⟨i / 4, by omega⟩ n).dSig ⟨i % 4, by omega⟩ r

theorem resQ_at (F : Fin 2 → Fin 128 → Grp) (n r : Fin 128) (h : Fin 2) (g : Fin 4) (d : Fin 64) (a : Fin 16384) (b : Fin 512)
    (ha : (a : ℕ) = n * 128 + r) (hb : (b : ℕ) = (h * 4 + g) * 64 + d) : resQ F a b = (F h n).dQ g r d := by
  unfold resQ
  congr 1
  · congr 1
    · congr 1 <;> first | omega | (apply Fin.ext; dsimp only; omega)
    all_goals first | omega | (apply Fin.ext; dsimp only; omega)
  all_goals first | omega | (apply Fin.ext; dsimp only; omega)

theorem resKV_at (F : Fin 2 → Fin 128 → Grp) (e : Fin 2) (n k : Fin 128) (o h : Fin 2) (d : Fin 64) (a : Fin 16384) (b : Fin 256)
    (ha : (a : ℕ) = n * 128 + k) (hb : (b : ℕ) = o * 128 + h * 64 + d) :
    resKV F e a b = dKV (F h n) o ⟨e * 128 + k, by omega⟩ d := by
  unfold resKV
  congr 1
  · congr 1 <;> first | omega | (apply Fin.ext; dsimp only; omega)
  all_goals first | omega | (apply Fin.ext; dsimp only; omega)

theorem resS_at (F : Fin 2 → Fin 128 → Grp) (h : Fin 2) (g : Fin 4) (i : Fin 8) (hi : (i : ℕ) = h * 4 + g) :
    resS F i = ∑ n, ∑ r, (F h n).dSig g r := by
  unfold resS
  refine Finset.sum_congr rfl fun n _ => Finset.sum_congr rfl fun r _ => ?_
  congr 1
  · congr 1; apply Fin.ext; dsimp only; omega
  · apply Fin.ext; dsimp only; omega

end Cert.Spec
-- ==== Proof.KPure.lean ====
/- The body of the idealized kernel at an index: each stage of the two groups of four heads, over VARIABLE blocks, is the
   stage of `Spec.Grp` for the group those blocks hold. -/
module

public import Idealize.ShloMosaic.Lib.Pointwise
public import Idealize.ShloMosaic.Lib.WordCmp
public import proofs.«01_k».proof.Proof.Arr
public import proofs.«01_k».proof.Proof.Gen.KernelIdeal.Skeleton

@[expose] public section

set_option maxRecDepth 16384

noncomputable section

namespace Cert.KernelIdeal.Pure

open Idealize.ShloMosaic Idealize.ShloMosaic.TcCoe Idealize.SL.Sem
open Cert.KernelIdeal Cert.KernelIdeal.Gen Cert.Spec

/-- The group of key/value head `h` that the blocks of point `n` hold: queries `x0`, the current keys and values `x1`, the
    previous block's `x2`, the sinks `s`, the result's cotangent `x4`. -/
def grp (h : Fin 2) (n : ℕ) (x0 : FVec Ideal S128x512 .f32) (x1 x2 : FVec Ideal S128x256 .f32) (s : Fin 8 → EReal)
    (x4 : FVec Ideal S128x512 .f32) : Grp where
  see r k := sees n r k
  q g r d := x0 (ix2 r ⟨(h * 4 + g) * 64 + d, by omega⟩)
  K k d := if hk : (k : ℕ) < 128 then x2 (ix2 ⟨k, hk⟩ ⟨h * 64 + d, by omega⟩) else x1 (ix2 ⟨k - 128, by omega⟩ ⟨h * 64 + d, by omega⟩)
  V k d := if hk : (k : ℕ) < 128 then x2 (ix2 ⟨k, hk⟩ ⟨128 + h * 64 + d, by omega⟩) else x1 (ix2 ⟨k - 128, by omega⟩ ⟨128 + h * 64 + d, by omega⟩)
  σ g := s ⟨h * 4 + g, by omega⟩
  dO g r d := x4 (ix2 r ⟨(h * 4 + g) * 64 + d, by omega⟩)

/-- Row `r` of head `g` in a stack of four heads' 128 rows. -/
abbrev row (g : Fin 4) (r : Fin 128) : Fin 512 := ⟨g * 128 + r, by omega⟩

/-- An index of two axes is given by its coordinates. -/
theorem ix2_val {a b : ℕ} {i i' : Fin a} {j j' : Fin b} (h : (i : ℕ) = i') (h' : (j : ℕ) = j') : ix2 i j = ix2 i' j' := by
  rw [Fin.ext h, Fin.ext h']

theorem land_127 (g : Fin 4) (r : Fin 128) : IntOp.andi (BitVec.ofNat 32 (g * 128 + r)) 127#32 = BitVec.ofNat 32 r := by
  have e : (IntOp.andi (BitVec.ofNat 32 (g * 128 + r)) 127#32) = BitVec.ofNat 32 (g * 128 + r) &&& 127#32 := rfl
  apply BitVec.eq_of_toNat_eq
  rw [e, BitVec.toNat_and, BitVec.toNat_ofNat, BitVec.toNat_ofNat, BitVec.toNat_ofNat]
  rw [show (127 % 2 ^ 32 : ℕ) = 2 ^ 7 - 1 from rfl, Nat.and_two_pow_sub_one_eq_mod]
  omega

/-- The distance `r + 128 - k` as a word lies in `[0, 128)` exactly when `k` is at most 127 positions behind. -/
theorem dist_word (r : Fin 128) (k : Fin 256) :
    IntOp.andi (IntOp.cmpi CmpIPredicate.sge (IntOp.subi (IntOp.addi (BitVec.ofNat 32 r) 128#32) (BitVec.ofNat 32 k)) 0#32)
        (IntOp.cmpi CmpIPredicate.slt (IntOp.subi (IntOp.addi (BitVec.ofNat 32 r) 128#32) (BitVec.ofNat 32 k)) 128#32)
      = BitVec.ofBool (decide ((r : ℕ) < k) && decide ((k : ℕ) ≤ r + 128)) := by
  have e : IntOp.subi (IntOp.addi (BitVec.ofNat 32 r) 128#32) (BitVec.ofNat 32 k) = BitVec.ofNat 32 r + 128#32 - BitVec.ofNat 32 k := rfl
  rw [WordCmp.andi_sge_zero_slt_ofNat (by decide), e, BitVec.toNat_sub, BitVec.toNat_add, BitVec.toNat_ofNat, BitVec.toNat_ofNat,
    BitVec.toNat_ofNat, ← Bool.decide_and]
  congr 1
  rw [decide_eq_decide]
  omega

theorem mask_at (i : grid0.Coords) (g : Fin 4) (r : Fin 128) (k : Fin 256) :
    k0_pay3 i (ix2 (row g r) k) = BitVec.ofBool (sees (i 0).val r k) := by
  have hi : (i 0).val < 128 := (i 0).isLt
  pointwise [k0_pay3]
  rw [land_127, dist_word, show Scalar.cmpi CmpIPredicate.sgt (BitVec.ofNat 32 (i 0).val) 0#32
    = IntOp.cmpi CmpIPredicate.sgt (BitVec.ofNat 32 (i 0).val) (BitVec.ofNat 32 0) from rfl,
    WordCmp.cmpi_sgt_ofNat (by omega) (by omega), WordCmp.cmpi_sge_ofNat (by omega) (by omega), WordCmp.ori_ofBool, WordCmp.andi_ofBool]
  rfl

theorem q0_at (x0 : FVec Ideal S128x512 .f32) (g : Fin 4) (r : Fin 128) (d : Fin 64) :
    k0_pay6 x0 (ix2 (row g r) d) = x0 (ix2 r ⟨(0 + g) * 64 + d, by omega⟩) := by
  pointwise [k0_pay6]
  repeat' split
  all_goals exact congrArg x0 (ix2_val (by dsimp only; omega) (by dsimp only; omega))

theorem q1_at (x0 : FVec Ideal S128x512 .f32) (g : Fin 4) (r : Fin 128) (d : Fin 64) :
    k0_pay32 x0 (ix2 (row g r) d) = x0 (ix2 r ⟨(4 + g) * 64 + d, by omega⟩) := by
  pointwise [k0_pay32]
  repeat' split
  all_goals exact congrArg x0 (ix2_val (by dsimp only; omega) (by dsimp only; omega))

theorem k1_at (x1 x2 : FVec Ideal S128x256 .f32) (k : Fin 256) (d : Fin 64) :
    k0_pay30 x1 x2 (ix2 k d) = if hk : (k : ℕ) < 128 then x2 (ix2 ⟨k, hk⟩ ⟨64 + d, by omega⟩) else x1 (ix2 ⟨k - 128, by omega⟩ ⟨64 + d, by omega⟩) := by
  pointwise [k0_pay30]

theorem v1_at (x1 x2 : FVec Ideal S128x256 .f32) (k : Fin 256) (d : Fin 64) :
    k0_pay31 x1 x2 (ix2 k d) = if hk : (k : ℕ) < 128 then x2 (ix2 ⟨k, hk⟩ ⟨192 + d, by omega⟩) else x1 (ix2 ⟨k - 128, by omega⟩ ⟨192 + d, by omega⟩) := by
  pointwise [k0_pay31]

theorem k0_at (x1 x2 : FVec Ideal S128x256 .f32) (k : Fin 256) (d : Fin 64) :
    k0_pay4 x1 x2 (ix2 k d) = if hk : (k : ℕ) < 128 then x2 (ix2 ⟨k, hk⟩ ⟨0 + d, by omega⟩) else x1 (ix2 ⟨k - 128, by omega⟩ ⟨0 + d, by omega⟩) := by
  pointwise [k0_pay4]

theorem v0_at (x1 x2 : FVec Ideal S128x256 .f32) (k : Fin 256) (d : Fin 64) :
    k0_pay5 x1 x2 (ix2 k d) = if hk : (k : ℕ) < 128 then x2 (ix2 ⟨k, hk⟩ ⟨128 + d, by omega⟩) else x1 (ix2 ⟨k - 128, by omega⟩ ⟨128 + d, by omega⟩) := by
  pointwise [k0_pay5]

/-- The stack of the first group's four slices of the cotangent. -/
abbrev do0 (x4 : FVec Ideal S128x512 .f32) : FVec Ideal S512x64 .f32 :=
  k0_pay86 (k0_pay56 x4) (k0_pay57 x4) (k0_pay83 (k0_pay59 x4)) (k0_pay84 (k0_pay58 x4)) k0_pay85
/-- The stack of the second group's four slices of the cotangent. -/
abbrev do1 (x4 : FVec Ideal S128x512 .f32) : FVec Ideal S512x64 .f32 :=
  k0_pay64 (k0_pay60 x4) (k0_pay61 x4) (k0_pay62 x4) (FloatOps.ofBits FTy.f32 0#32) (k0_pay63 x4)

theorem do0_at (x4 : FVec Ideal S128x512 .f32) (g : Fin 4) (r : Fin 128) (d : Fin 64) :
    do0 x4 (ix2 (row g r) d) = x4 (ix2 r ⟨(0 + g) * 64 + d, by omega⟩) := by
  pointwise [k0_pay86, k0_pay56, k0_pay57, k0_pay58, k0_pay59, k0_pay83, k0_pay84, k0_pay85]
  repeat' split
  all_goals first | (exfalso; omega) | skip
  all_goals simp only [zero_add, add_zero]
  all_goals exact congrArg x4 (ix2_val (by dsimp only; omega) (by dsimp only; omega))

theorem do1_at (x4 : FVec Ideal S128x512 .f32) (g : Fin 4) (r : Fin 128) (d : Fin 64) :
    do1 x4 (ix2 (row g r) d) = x4 (ix2 r ⟨(4 + g) * 64 + d, by omega⟩) := by
  pointwise [k0_pay64, k0_pay60, k0_pay61, k0_pay62, k0_pay63]
  repeat' split
  all_goals first | (exfalso; omega) | skip
  all_goals simp only [zero_add, add_zero]
  all_goals exact congrArg x4 (ix2_val (by dsimp only; omega) (by dsimp only; omega))

theorem named_mask : Named.named (F := Ideal) κ "mask" (φ := .f32) 4048155338#32 = (⊥ : EReal) := IdealRules.named_const.ideal_named_scalar _ _ _ _ rfl

theorem select_bool {α : Type} (b : Bool) (x y : α) : Scalar.select (BitVec.ofBool b) x y = if b then x else y := by
  cases b <;> rfl

theorem s0_at (i : grid0.Coords) (v122 : FVec Ideal S256x64 .f32) (v130 : FVec Ideal S512x64 .f32) (g : Fin 4) (r : Fin 128) (k : Fin 256) :
    k0_pay17 (k0_pay3 i) v122 v130 (ix2 (row g r) k)
      = if sees (i 0).val r k then (∑ d : Fin 64, v130 (ix2 (row g r) d) * v122 (ix2 k d)) * Grp.scale else ⊥ := by
  rw [← select_bool, ← mask_at i g r k]
  pointwise [k0_pay17]
  rw [named_mask]
  rfl

theorem s1_at (i : grid0.Coords) (v122 : FVec Ideal S256x64 .f32) (v130 : FVec Ideal S512x64 .f32) (g : Fin 4) (r : Fin 128) (k : Fin 256) :
    k0_pay43 (k0_pay3 i) v122 v130 (ix2 (row g r) k)
      = if sees (i 0).val r k then (∑ d : Fin 64, v130 (ix2 (row g r) d) * v122 (ix2 k d)) * Grp.scale else ⊥ := by
  rw [← select_bool, ← mask_at i g r k]
  pointwise [k0_pay43]
  rw [named_mask]
  rfl

/-- The words `0, …, 7` down the sinks' rows. -/
abbrev lane : IVec S8x128 32 := iota Kind.tc S8x128 32 [0] iota_S8x128_d0_w32

/-- A maximum over equal entries, from minus infinity, is the entry. -/
theorem fold_max_const (x : EReal) : Finset.fold max (Ideal.ofBits FTy.f32 4286578688#32) (fun _ : Fin 128 => x) Finset.univ = x := by
  rw [ofBits_negInf]
  apply le_antisymm
  · exact (Finset.fold_max_le x).mpr ⟨bot_le, fun _ _ => le_rfl⟩
  · exact (Finset.le_fold_max x).mpr (.inr ⟨0, Finset.mem_univ _, le_rfl⟩)

/-- Row `h` of the eight rows of sinks, taken by a masked sum. -/
theorem pick (s : Fin 8 → EReal) (h : Fin 8) (w : BitVec 32) (hw : w = BitVec.ofNat 32 h) :
    ∑ x : Fin 8, Scalar.select (IntOp.cmpi CmpIPredicate.eq (BitVec.ofNat 32 x) w) (s x) 0 = s h := by
  subst hw
  rw [Finset.sum_eq_single h]
  · rw [WordCmp.cmpi_eq_ofNat (by omega) (by omega), select_bool, if_pos (decide_eq_true rfl)]
  · intro b _ hb
    rw [WordCmp.cmpi_eq_ofNat (by omega) (by omega), select_bool, if_neg]
    simpa using fun e => hb (Fin.ext e)
  · exact fun h' => absurd (Finset.mem_univ h) h'

/-- The second group's sinks, one per row, on every lane. -/
theorem lane1_at (x3 : FVec Ideal S8x128 .f32) (s : Fin 8 → EReal) (hs : ∀ h l, x3 (ix2 h l) = s h) (g : Fin 4) (r : Fin 128) (l : Fin 128) :
    k0_pay38 (F := Ideal) (k0_pay2 x3) lane (k0_pay33 lane) k0_pay34 (ix2 (row g r) l) = s ⟨4 + g, by omega⟩ := by
  pointwise [k0_pay38, k0_pay2, k0_pay33, k0_pay34, k0_pay35, k0_pay36, k0_pay37]
  simp only [hs]
  rw [pick s 4 4#32 rfl, pick s 5 5#32 rfl, pick s 6 6#32 rfl, pick s 7 7#32 rfl]
  repeat' split
  all_goals exact congrArg s (Fin.ext (by simp only [Fin.isValue, Fin.coe_ofNat_eq_mod]; omega))

/-- The first group's sinks, one per row, on every lane. -/
theorem lane0_at (x3 : FVec Ideal S8x128 .f32) (s : Fin 8 → EReal) (hs : ∀ h l, x3 (ix2 h l) = s h) (g : Fin 4) (r : Fin 128) (l : Fin 128) :
    k0_pay12 (F := Ideal) (k0_pay2 x3) lane (k0_pay8 x3) (ix2 (row g r) l) = s ⟨0 + g, by omega⟩ := by
  pointwise [k0_pay12, k0_pay11, k0_pay10, k0_pay9, k0_pay8, k0_pay7, k0_pay2]
  simp only [hs]
  rw [pick s 0 0#32 rfl, pick s 1 1#32 rfl, pick s 2 2#32 rfl, pick s 3 3#32 rfl]
  repeat' split
  all_goals exact congrArg s (Fin.ext (by simp only [Fin.isValue, Fin.coe_ofNat_eq_mod]; omega))

end Cert.KernelIdeal.Pure
-- ==== Proof.KRow.lean ====
/- The rows of the idealized kernel's two groups: probabilities, score and sink cotangents, and the products. -/
module

public import proofs.«01_k».proof.Proof.KPure

@[expose] public section

set_option maxRecDepth 16384

noncomputable section

namespace Cert.KernelIdeal.Pure

open Idealize.ShloMosaic Idealize.ShloMosaic.TcCoe Idealize.SL.Sem
open Cert.KernelIdeal Cert.KernelIdeal.Gen Cert.Spec

theorem sink1_at (x3 : FVec Ideal S8x128 .f32) (s : Fin 8 → EReal) (hs : ∀ h l, x3 (ix2 h l) = s h) (g : Fin 4) (r : Fin 128) :
    k0_pay42 (F := Ideal) (k0_pay2 x3) lane (k0_pay33 lane) k0_pay34 (ix2 (row g r) 0) = s ⟨4 + g, by omega⟩ := by
  refine Eq.trans ?_ (fold_max_const _)
  pointwise [k0_pay42, k0_pay39]
  simp only [lane1_at x3 s hs]

theorem sink0_at (x3 : FVec Ideal S8x128 .f32) (s : Fin 8 → EReal) (hs : ∀ h l, x3 (ix2 h l) = s h) (g : Fin 4) (r : Fin 128) :
    k0_pay16 (F := Ideal) (k0_pay2 x3) lane (k0_pay8 x3) (ix2 (row g r) 0) = s ⟨0 + g, by omega⟩ := by
  refine Eq.trans ?_ (fold_max_const _)
  pointwise [k0_pay16, k0_pay13]
  simp only [lane0_at x3 s hs, Nat.zero_add]

/-- The maximum of a row, as the first group's operations pass it on. -/
abbrev mx (S : FVec Ideal S512x256 .f32) : FVec Ideal S512 .f32 :=
  multiReduction .maximumf [1] S512 S 0xFF800000#32 reduces_S512x256_S512 (.inl rfl) rfl

/-- Row `r` of a stack. -/
abbrev rowOf (S : FVec Ideal S512x256 .f32) (r : Fin 512) : Fin 256 → EReal := fun k => S (ix2 r k)

section Row

variable (σ : FVec Ideal S512x1 .f32) (S : FVec Ideal S512x256 .f32) (r : Fin 512) (k : Fin 256)

theorem top_at : k0_pay44 S (ix1 r) = top (rowOf S r) := by
  pointwise [k0_pay44]
  rw [ofBits_negInf]
  rfl

theorem cap_at : k0_pay48 σ S (ix2 r 0) = cap (rowOf S r) (σ (ix2 r 0)) := by
  pointwise [k0_pay48, k0_pay47]
  rw [top_at]
  rfl

theorem hit_at : k0_pay45 S (ix2 r k) = hit (rowOf S r) k := by
  pointwise [k0_pay45]
  rw [top_at, sitofp_bit]
  rfl

theorem hits_at : k0_pay46 S (ix1 r) = ∑ k, hit (rowOf S r) k := by
  pointwise [k0_pay46]
  simp only [hit_at]

theorem left_at : k0_pay49 σ S (ix2 r 0) = toLeft (top (rowOf S r)) (σ (ix2 r 0)) := by
  pointwise [k0_pay49, k0_pay47]
  rw [top_at]
  rfl

theorem right_at : k0_pay50 σ S (ix2 r 0) = toLeft (σ (ix2 r 0)) (top (rowOf S r)) := by
  pointwise [k0_pay50, k0_pay47]
  rw [top_at]
  rfl

theorem ex_at : k0_pay51 σ S (ix2 r k) = ex (rowOf S r) (σ (ix2 r 0)) k := by
  pointwise [k0_pay51]
  rw [cap_at]
  rfl

theorem exSink_at : k0_pay52 σ S (ix2 r 0) = exSink (rowOf S r) (σ (ix2 r 0)) := by
  pointwise [k0_pay52]
  rw [cap_at]
  rfl

theorem den_at : k0_pay53 σ S (ix2 r 0) = den (rowOf S r) (σ (ix2 r 0)) := by
  pointwise [k0_pay53]
  simp only [exSink_at, ex_at]
  rfl

theorem prob_at : k0_pay54 σ S (ix2 r k) = prob (rowOf S r) (σ (ix2 r 0)) k := by
  pointwise [k0_pay54]
  rw [den_at, ex_at]
  rfl

theorem inv_at : k0_pay55 σ S (ix2 r 0) = Ideal.div 1 (den (rowOf S r) (σ (ix2 r 0)) * den (rowOf S r) (σ (ix2 r 0))) := by
  pointwise [k0_pay55]
  rw [den_at]

/-- The first group's operations are the second group's, with the row's maximum passed on. -/
theorem first_group : k0_pay19 S (mx S) = k0_pay45 S ∧ k0_pay20 S (mx S) = k0_pay46 S ∧ k0_pay23 σ (mx S) = k0_pay49 σ S
    ∧ k0_pay24 σ (mx S) = k0_pay50 σ S ∧ k0_pay25 σ S (mx S) = k0_pay51 σ S ∧ k0_pay26 σ (mx S) = k0_pay52 σ S
    ∧ k0_pay27 σ S (mx S) = k0_pay53 σ S ∧ k0_pay28 σ S (mx S) = k0_pay54 σ S ∧ k0_pay29 σ S (mx S) = k0_pay55 σ S :=
  ⟨rfl, rfl, rfl, rfl, rfl, rfl, rfl, rfl, rfl⟩

end Row

/-! The second group's cotangents, then the first's. -/

section Cotangents

variable (σ : FVec Ideal S512x1 .f32) (S : FVec Ideal S512x256 .f32) (v : FVec Ideal S256x64 .f32) (r : Fin 512) (k : Fin 256)

section Second

variable (a b : FVec Ideal S128x64 .f32) (c : FVec Ideal S512x64 .f32) (z : Ideal .f32) (e : FVec Ideal S384x64 .f32)

theorem dDen1_at : k0_pay67 v (k0_pay51 σ S) (k0_pay55 σ S) a b c z e (ix2 r 0)
    = dDen (rowOf S r) (σ (ix2 r 0)) (rowOf (k0_pay65 v a b c z e) r) := by
  pointwise [k0_pay67]
  simp only [ex_at, inv_at, zero_sub]
  rfl

theorem dExSink1_at : k0_pay68 v (k0_pay51 σ S) (k0_pay52 σ S) (k0_pay55 σ S) a b c z e (ix2 r 0)
    = dExSink (rowOf S r) (σ (ix2 r 0)) (rowOf (k0_pay65 v a b c z e) r) := by
  pointwise [k0_pay68]
  rw [dDen1_at, exSink_at]
  rfl

theorem dEx1_at : k0_pay69 v (k0_pay51 σ S) (k0_pay53 σ S) (k0_pay55 σ S) a b c z e (ix2 r k)
    = dEx (rowOf S r) (σ (ix2 r 0)) (rowOf (k0_pay65 v a b c z e) r) k := by
  pointwise [k0_pay69]
  rw [Fin.sum_univ_one, dDen1_at, ex_at, den_at]
  rfl

theorem dCap1_at : k0_pay70 v (k0_pay51 σ S) (k0_pay52 σ S) (k0_pay53 σ S) (k0_pay55 σ S) a b c z e (ix2 r 0)
    = dCap (rowOf S r) (σ (ix2 r 0)) (rowOf (k0_pay65 v a b c z e) r) := by
  pointwise [k0_pay70]
  simp only [dExSink1_at, dEx1_at, zero_sub]
  rfl

theorem dSink1_at : k0_pay71 v (k0_pay50 σ S) (k0_pay51 σ S) (k0_pay52 σ S) (k0_pay53 σ S) (k0_pay55 σ S) a b c z e (ix2 r 0)
    = dSink (rowOf S r) (σ (ix2 r 0)) (rowOf (k0_pay65 v a b c z e) r) := by
  pointwise [k0_pay71]
  rw [dExSink1_at, dCap1_at, right_at]
  rfl

theorem dScore1_at : k0_pay72 v (k0_pay45 S) (k0_pay46 S) (k0_pay49 σ S) (k0_pay51 σ S) (k0_pay52 σ S) (k0_pay53 σ S) (k0_pay55 σ S) a b c z e (ix2 r k)
    = dScore (rowOf S r) (σ (ix2 r 0)) (rowOf (k0_pay65 v a b c z e) r) k := by
  pointwise [k0_pay72]
  rw [Fin.sum_univ_one, dEx1_at, dCap1_at, left_at, hits_at, hit_at]
  rfl

end Second

section First

variable (a b : FVec Ideal S128x64 .f32) (c : FVec Ideal S512x64 .f32) (d : FVec Ideal S384x64 .f32) (e : FVec Ideal S128x64 .f32)

theorem dDen0_at : k0_pay89 v (k0_pay51 σ S) (k0_pay55 σ S) a b c d e (ix2 r 0)
    = dDen (rowOf S r) (σ (ix2 r 0)) (rowOf (k0_pay87 v a b c d e) r) := by
  pointwise [k0_pay89]
  simp only [ex_at, inv_at, zero_sub]
  rfl

theorem dExSink0_at : k0_pay90 v (k0_pay51 σ S) (k0_pay52 σ S) (k0_pay55 σ S) a b c d e (ix2 r 0)
    = dExSink (rowOf S r) (σ (ix2 r 0)) (rowOf (k0_pay87 v a b c d e) r) := by
  pointwise [k0_pay90]
  rw [dDen0_at, exSink_at]
  rfl

theorem dEx0_at : k0_pay91 v (k0_pay51 σ S) (k0_pay53 σ S) (k0_pay55 σ S) a b c d e (ix2 r k)
    = dEx (rowOf S r) (σ (ix2 r 0)) (rowOf (k0_pay87 v a b c d e) r) k := by
  pointwise [k0_pay91]
  rw [Fin.sum_univ_one, dDen0_at, ex_at, den_at]
  rfl

theorem dCap0_at : k0_pay92 v (k0_pay51 σ S) (k0_pay52 σ S) (k0_pay53 σ S) (k0_pay55 σ S) a b c d e (ix2 r 0)
    = dCap (rowOf S r) (σ (ix2 r 0)) (rowOf (k0_pay87 v a b c d e) r) := by
  pointwise [k0_pay92]
  simp only [dExSink0_at, dEx0_at, zero_sub]
  rfl

theorem dSink0_at : k0_pay93 v (k0_pay24 σ (mx S)) (k0_pay25 σ S (mx S)) (k0_pay26 σ (mx S)) (k0_pay27 σ S (mx S)) (k0_pay29 σ S (mx S)) a b c d e (ix2 r 0)
    = dSink (rowOf S r) (σ (ix2 r 0)) (rowOf (k0_pay87 v a b c d e) r) := by
  obtain ⟨_, _, _, h24, h25, h26, h27, _, h29⟩ := first_group σ S
  rw [h24, h25, h26, h27, h29]
  pointwise [k0_pay93]
  rw [dExSink0_at, dCap0_at, right_at]
  rfl

theorem dScore0_at : k0_pay94 v (k0_pay19 S (mx S)) (k0_pay20 S (mx S)) (k0_pay23 σ (mx S)) (k0_pay25 σ S (mx S)) (k0_pay26 σ (mx S)) (k0_pay27 σ S (mx S)) (k0_pay29 σ S (mx S)) a b c d e (ix2 r k)
    = dScore (rowOf S r) (σ (ix2 r 0)) (rowOf (k0_pay87 v a b c d e) r) k := by
  obtain ⟨h19, h20, h23, _, h25, h26, h27, _, h29⟩ := first_group σ S
  rw [h19, h20, h23, h25, h26, h27, h29]
  pointwise [k0_pay94]
  rw [Fin.sum_univ_one, dEx0_at, dCap0_at, left_at, hits_at, hit_at]
  rfl

end First

end Cotangents

/-! The cotangents of the probabilities. -/

theorem g1_at (v : FVec Ideal S256x64 .f32) (a b : FVec Ideal S128x64 .f32) (c : FVec Ideal S512x64 .f32) (z : Ideal .f32) (e : FVec Ideal S384x64 .f32)
    (r : Fin 512) (k : Fin 256) : k0_pay65 v a b c z e (ix2 r k) = ∑ d, k0_pay64 a b c z e (ix2 r d) * v (ix2 k d) := by
  pointwise [k0_pay65]

theorem g0_at (v : FVec Ideal S256x64 .f32) (a b : FVec Ideal S128x64 .f32) (c : FVec Ideal S512x64 .f32) (d : FVec Ideal S384x64 .f32) (e : FVec Ideal S128x64 .f32)
    (r : Fin 512) (k : Fin 256) : k0_pay87 v a b c d e (ix2 r k) = ∑ x, k0_pay86 a b c d e (ix2 r x) * v (ix2 k x) := by
  pointwise [k0_pay87]

/-! The three products of each group over stages `dS`, `P`. -/

section Products

variable (M : IVec S512x256 1) (K : FVec Ideal S256x64 .f32) (Q : FVec Ideal S512x64 .f32) (dS P : FVec Ideal S512x256 .f32) (k : Fin 256) (d : Fin 64)
  (r : Fin 512)

theorem dq1_at : k0_pay74 M K dS (FloatOps.ofBits FTy.f32 0#32) (ix2 r d)
    = ∑ k, Scalar.select (M (ix2 r k)) (dS (ix2 r k)) 0 * Grp.scale * K (ix2 k d) := by
  pointwise [k0_pay74, k0_pay73]
  rfl

theorem dk1_at : k0_pay75 M Q dS (FloatOps.ofBits FTy.f32 0#32) (ix2 k d)
    = ∑ r, Scalar.select (M (ix2 r k)) (dS (ix2 r k)) 0 * Grp.scale * Q (ix2 r d) := by
  pointwise [k0_pay75, k0_pay73]
  rfl

theorem dq0_at : k0_pay97 M K dS k0_pay95 (ix2 r d)
    = ∑ k, Scalar.select (M (ix2 r k)) (dS (ix2 r k)) 0 * Grp.scale * K (ix2 k d) := by
  pointwise [k0_pay97, k0_pay96, k0_pay95]
  rfl

theorem dk0_at : k0_pay98 M Q dS k0_pay95 (ix2 k d)
    = ∑ r, Scalar.select (M (ix2 r k)) (dS (ix2 r k)) 0 * Grp.scale * Q (ix2 r d) := by
  pointwise [k0_pay98, k0_pay96, k0_pay95]
  rfl

theorem dv1_at (a b : FVec Ideal S128x64 .f32) (c : FVec Ideal S512x64 .f32) (z : Ideal .f32) (e : FVec Ideal S384x64 .f32) :
    k0_pay66 P a b c z e (ix2 k d) = ∑ r, P (ix2 r k) * k0_pay64 a b c z e (ix2 r d) := by
  pointwise [k0_pay66]

theorem dv0_at (a b : FVec Ideal S128x64 .f32) (c : FVec Ideal S512x64 .f32) (d' : FVec Ideal S384x64 .f32) (e : FVec Ideal S128x64 .f32) :
    k0_pay88 P a b c d' e (ix2 k d) = ∑ r, P (ix2 r k) * k0_pay86 a b c d' e (ix2 r d) := by
  pointwise [k0_pay88]

end Products

end Cert.KernelIdeal.Pure
-- ==== Proof.KBlk.lean ====
/- The blocks the idealized kernel writes at one point, over VARIABLE input blocks, in terms of `Spec.Grp`. -/
module

public import proofs.«01_k».proof.Proof.KRow

@[expose] public section

set_option maxRecDepth 16384

noncomputable section

namespace Cert.KernelIdeal.Pure

open Idealize.ShloMosaic Idealize.ShloMosaic.TcCoe Idealize.SL.Sem
open Cert.KernelIdeal Cert.KernelIdeal.Gen Cert.Spec

/-! Where the groups' results go in the written blocks. -/

theorem put_q (A0 A1 : FVec Ideal S512x64 .f32) (h : Fin 2) (g : Fin 4) (r : Fin 128) (d : Fin 64) :
    k0_pay103 (k0_pay80 A1) A0 (ix2 r ⟨(h * 4 + g) * 64 + d, by omega⟩) = if (h : ℕ) = 0 then A0 (ix2 (row g r) d) else A1 (ix2 (row g r) d) := by
  pointwise [k0_pay103, k0_pay80]
  fin_vals h with hh <;> fin_vals g with hg
  all_goals simp (disch := omega) only [dif_pos, dif_neg, if_pos, if_neg, zero_add, add_zero]
  all_goals first
    | exact congrArg A0 (ix2_val (by dsimp only; omega) (by dsimp only; omega))
    | exact congrArg A1 (ix2_val (by dsimp only; omega) (by dsimp only; omega))

theorem put_cur (V1 K1 V0 K0 : FVec Ideal S256x64 .f32) (o h : Fin 2) (k : Fin 128) (d : Fin 64) :
    k0_pay104 (k0_pay81 V1 K1) V0 K0 (ix2 k ⟨o * 128 + h * 64 + d, by omega⟩)
      = (if (o : ℕ) = 0 then (if (h : ℕ) = 0 then K0 else K1) else (if (h : ℕ) = 0 then V0 else V1)) (ix2 ⟨128 + k, by omega⟩ d) := by
  pointwise [k0_pay104, k0_pay81]
  fin_vals o with ho <;> fin_vals h with hh
  all_goals simp (disch := omega) only [dif_pos, dif_neg, if_pos, if_neg, zero_add, add_zero]
  all_goals first
    | exact congrArg K0 (ix2_val (by dsimp only) (by dsimp only; omega))
    | exact congrArg K1 (ix2_val (by dsimp only) (by dsimp only; omega))
    | exact congrArg V0 (ix2_val (by dsimp only) (by dsimp only; omega))
    | exact congrArg V1 (ix2_val (by dsimp only) (by dsimp only; omega))

theorem put_prev (V1 K1 V0 K0 : FVec Ideal S256x64 .f32) (o h : Fin 2) (k : Fin 128) (d : Fin 64) :
    k0_pay105 (k0_pay82 V1 K1) V0 K0 (ix2 k ⟨o * 128 + h * 64 + d, by omega⟩)
      = (if (o : ℕ) = 0 then (if (h : ℕ) = 0 then K0 else K1) else (if (h : ℕ) = 0 then V0 else V1)) (ix2 ⟨k, by omega⟩ d) := by
  pointwise [k0_pay105, k0_pay82]
  fin_vals o with ho <;> fin_vals h with hh
  all_goals simp (disch := omega) only [dif_pos, dif_neg, if_pos, if_neg, zero_add, add_zero]
  all_goals first
    | exact congrArg K0 (ix2_val (by dsimp only) (by dsimp only; omega))
    | exact congrArg K1 (ix2_val (by dsimp only) (by dsimp only; omega))
    | exact congrArg V0 (ix2_val (by dsimp only) (by dsimp only; omega))
    | exact congrArg V1 (ix2_val (by dsimp only) (by dsimp only; omega))

theorem ones_128 : (∑ _l : Fin 128, (1 : EReal)) = 128 := by
  rw [Finset.sum_const, Finset.card_univ, Fintype.card_fin]
  simp

/-- The second group's share of a sink gradient, per row and lane: the row's cotangent over the number of lanes. -/
theorem lanes1_at (x3 : FVec Ideal S8x128 .f32) (s : Fin 8 → EReal) (hs : ∀ h l, x3 (ix2 h l) = s h) (T : FVec Ideal S512x1 .f32)
    (g : Fin 4) (r : Fin 128) (l : Fin 128) :
    k0_pay76 (k0_pay40 (k0_pay2 x3) lane (k0_pay33 lane) k0_pay34) (k0_pay41 (k0_pay2 x3) lane (k0_pay33 lane) k0_pay34) T (ix2 (row g r) l)
      = Ideal.div (T (ix2 (row g r) 0)) 128 := by
  have h1 : ∀ l, k0_pay40 (F := Ideal) (k0_pay2 x3) lane (k0_pay33 lane) k0_pay34 (ix2 (row g r) l) = (1 : EReal) := by
    intro l
    have hm : k0_pay39 (F := Ideal) (k0_pay2 x3) lane (k0_pay33 lane) k0_pay34 (ix1 (row g r)) = s ⟨4 + g, by omega⟩ := by
      rw [← sink1_at x3 s hs g r]
      pointwise [k0_pay42]
    pointwise [k0_pay40]
    rw [lane1_at x3 s hs, hm, sitofp_bit, if_pos rfl]
  pointwise [k0_pay76, k0_pay41]
  simp only [h1]
  rw [ones_128, mul_one, Fin.sum_univ_one]

theorem lanes0_at (x3 : FVec Ideal S8x128 .f32) (s : Fin 8 → EReal) (hs : ∀ h l, x3 (ix2 h l) = s h) (T : FVec Ideal S512x1 .f32)
    (g : Fin 4) (r : Fin 128) (l : Fin 128) :
    k0_pay99 (k0_pay14 (k0_pay2 x3) lane (k0_pay8 x3)) (k0_pay15 (k0_pay2 x3) lane (k0_pay8 x3)) T (ix2 (row g r) l)
      = Ideal.div (T (ix2 (row g r) 0)) 128 := by
  have h1 : ∀ l, k0_pay14 (F := Ideal) (k0_pay2 x3) lane (k0_pay8 x3) (ix2 (row g r) l) = (1 : EReal) := by
    intro l
    have hm : k0_pay13 (F := Ideal) (k0_pay2 x3) lane (k0_pay8 x3) (ix1 (row g r)) = s ⟨0 + g, by omega⟩ := by
      rw [← sink0_at x3 s hs g r]
      pointwise [k0_pay16]
    pointwise [k0_pay14]
    rw [lane0_at x3 s hs, hm, sitofp_bit, if_pos rfl]
  pointwise [k0_pay99, k0_pay15]
  simp only [h1]
  rw [ones_128, mul_one, Fin.sum_univ_one]

theorem sel_eq {a : ℕ} {w : BitVec 32} (x : EReal) (h : BitVec.ofNat 32 a = w) :
    Scalar.select (IntOp.cmpi CmpIPredicate.eq (BitVec.ofNat 32 a) w) x 0 = x := by
  subst h
  show Scalar.select (BitVec.ofBool (BitVec.ofNat 32 a == BitVec.ofNat 32 a)) x 0 = x
  rw [beq_self_eq_true]
  rfl

theorem sel_ne {a : ℕ} {w : BitVec 32} (x : EReal) (h : BitVec.ofNat 32 a ≠ w) :
    Scalar.select (IntOp.cmpi CmpIPredicate.eq (BitVec.ofNat 32 a) w) x 0 = 0 := by
  show Scalar.select (BitVec.ofBool (BitVec.ofNat 32 a == w)) x 0 = 0
  rw [beq_false_of_ne h]
  rfl

/-- The block of sink gradients: each head's row is the sum over the head's 128 queries, on every lane. -/
theorem put_sink (a0 a1 : FVec Ideal S512x128 .f32) (b0 b1 : FVec Ideal S512 .f32) (T0 T1 : FVec Ideal S512x1 .f32)
    (h : Fin 2) (g : Fin 4) (l : Fin 128) :
    k0_pay102 k0_pay7 (k0_pay100 (k0_pay9 lane) (k0_pay10 lane) (k0_pay11 lane) a0 b0
        (k0_pay79 (k0_pay33 lane) (k0_pay77 (k0_pay35 lane) (k0_pay36 lane) (k0_pay37 lane) a1 b1 T1) (k0_pay78 a1 b1 T1)) T0)
        (k0_pay101 a0 b0 T0) (ix2 ⟨h * 4 + g, by omega⟩ l)
      = if (h : ℕ) = 0 then ∑ r, k0_pay99 a0 b0 T0 (ix2 (row g r) l) else ∑ r, k0_pay76 a1 b1 T1 (ix2 (row g r) l) := by
  pointwise [k0_pay102, k0_pay7, k0_pay100, k0_pay9, k0_pay10, k0_pay11, k0_pay79, k0_pay33, k0_pay77, k0_pay35, k0_pay36, k0_pay37, k0_pay78, k0_pay101]
  simp only [Fin.sum_univ_one]
  generalize k0_pay99 a0 b0 T0 = A
  generalize k0_pay76 a1 b1 T1 = B
  fin_vals h with hh <;> fin_vals g with hg <;> simp only [hh, hg, Nat.reduceMul, Nat.reduceAdd]
  all_goals simp (disch := decide) only [sel_eq, sel_ne, zero_add, add_zero, if_pos, if_neg]
  all_goals first
    | exact Finset.sum_congr rfl fun r _ => congrArg A (ix2_val (by dsimp only; omega) rfl)
    | exact Finset.sum_congr rfl fun r _ => congrArg B (ix2_val (by dsimp only; omega) rfl)

/-! The stages of the two groups over the point's blocks. -/

section Blocks

variable (i : grid0.Coords) (x0 : FVec Ideal S128x512 .f32) (x1 x2 : FVec Ideal S128x256 .f32) (x3 : FVec Ideal S8x128 .f32)
  (x4 : FVec Ideal S128x512 .f32)

abbrev σ0 : FVec Ideal S512x1 .f32 := k0_pay16 (k0_pay2 x3) lane (k0_pay8 x3)
abbrev σ1 : FVec Ideal S512x1 .f32 := k0_pay42 (k0_pay2 x3) lane (k0_pay33 lane) k0_pay34
abbrev S0 : FVec Ideal S512x256 .f32 := k0_pay17 (k0_pay3 i) (k0_pay4 x1 x2) (k0_pay6 x0)
abbrev S1 : FVec Ideal S512x256 .f32 := k0_pay43 (k0_pay3 i) (k0_pay30 x1 x2) (k0_pay32 x0)
/-- The first group's row maxima. -/
abbrev m0 : FVec Ideal S512 .f32 := k0_pay18 (k0_pay3 i) (k0_pay4 x1 x2) (k0_pay6 x0)
abbrev dS0 : FVec Ideal S512x256 .f32 :=
  k0_pay94 (k0_pay5 x1 x2) (k0_pay19 (S0 i x0 x1 x2) (m0 i x0 x1 x2)) (k0_pay20 (S0 i x0 x1 x2) (m0 i x0 x1 x2)) (k0_pay23 (σ0 x3) (m0 i x0 x1 x2))
    (k0_pay25 (σ0 x3) (S0 i x0 x1 x2) (m0 i x0 x1 x2)) (k0_pay26 (σ0 x3) (m0 i x0 x1 x2)) (k0_pay27 (σ0 x3) (S0 i x0 x1 x2) (m0 i x0 x1 x2))
    (k0_pay29 (σ0 x3) (S0 i x0 x1 x2) (m0 i x0 x1 x2)) (k0_pay56 x4) (k0_pay57 x4) (k0_pay83 (k0_pay59 x4)) (k0_pay84 (k0_pay58 x4)) k0_pay85
abbrev dS1 : FVec Ideal S512x256 .f32 :=
  k0_pay72 (k0_pay31 x1 x2) (k0_pay45 (S1 i x0 x1 x2)) (k0_pay46 (S1 i x0 x1 x2)) (k0_pay49 (σ1 x3) (S1 i x0 x1 x2)) (k0_pay51 (σ1 x3) (S1 i x0 x1 x2))
    (k0_pay52 (σ1 x3) (S1 i x0 x1 x2)) (k0_pay53 (σ1 x3) (S1 i x0 x1 x2)) (k0_pay55 (σ1 x3) (S1 i x0 x1 x2))
    (k0_pay60 x4) (k0_pay61 x4) (k0_pay62 x4) (FloatOps.ofBits FTy.f32 0#32) (k0_pay63 x4)
abbrev T0 : FVec Ideal S512x1 .f32 :=
  k0_pay93 (k0_pay5 x1 x2) (k0_pay24 (σ0 x3) (m0 i x0 x1 x2))
    (k0_pay25 (σ0 x3) (S0 i x0 x1 x2) (m0 i x0 x1 x2)) (k0_pay26 (σ0 x3) (m0 i x0 x1 x2)) (k0_pay27 (σ0 x3) (S0 i x0 x1 x2) (m0 i x0 x1 x2))
    (k0_pay29 (σ0 x3) (S0 i x0 x1 x2) (m0 i x0 x1 x2)) (k0_pay56 x4) (k0_pay57 x4) (k0_pay83 (k0_pay59 x4)) (k0_pay84 (k0_pay58 x4)) k0_pay85
abbrev T1 : FVec Ideal S512x1 .f32 :=
  k0_pay71 (k0_pay31 x1 x2) (k0_pay50 (σ1 x3) (S1 i x0 x1 x2)) (k0_pay51 (σ1 x3) (S1 i x0 x1 x2))
    (k0_pay52 (σ1 x3) (S1 i x0 x1 x2)) (k0_pay53 (σ1 x3) (S1 i x0 x1 x2)) (k0_pay55 (σ1 x3) (S1 i x0 x1 x2))
    (k0_pay60 x4) (k0_pay61 x4) (k0_pay62 x4) (FloatOps.ofBits FTy.f32 0#32) (k0_pay63 x4)
abbrev dV0 : FVec Ideal S256x64 .f32 := k0_pay88 (k0_pay28 (σ0 x3) (S0 i x0 x1 x2) (m0 i x0 x1 x2)) (k0_pay56 x4) (k0_pay57 x4) (k0_pay83 (k0_pay59 x4)) (k0_pay84 (k0_pay58 x4)) k0_pay85
abbrev dV1 : FVec Ideal S256x64 .f32 := k0_pay66 (k0_pay54 (σ1 x3) (S1 i x0 x1 x2)) (k0_pay60 x4) (k0_pay61 x4) (k0_pay62 x4) (FloatOps.ofBits FTy.f32 0#32) (k0_pay63 x4)
abbrev dK0 : FVec Ideal S256x64 .f32 := k0_pay98 (k0_pay3 i) (k0_pay6 x0) (dS0 i x0 x1 x2 x3 x4) k0_pay95
abbrev dK1 : FVec Ideal S256x64 .f32 := k0_pay75 (k0_pay3 i) (k0_pay32 x0) (dS1 i x0 x1 x2 x3 x4) (FloatOps.ofBits FTy.f32 0#32)
abbrev dQ0 : FVec Ideal S512x64 .f32 := k0_pay97 (k0_pay3 i) (k0_pay4 x1 x2) (dS0 i x0 x1 x2 x3 x4) k0_pay95
abbrev dQ1 : FVec Ideal S512x64 .f32 := k0_pay74 (k0_pay3 i) (k0_pay30 x1 x2) (dS1 i x0 x1 x2 x3 x4) (FloatOps.ofBits FTy.f32 0#32)

/-- The block of query gradients. -/
abbrev bq : FVec Ideal S128x512 .f32 := k0_pay103 (k0_pay80 (dQ1 i x0 x1 x2 x3 x4)) (dQ0 i x0 x1 x2 x3 x4)
/-- The block of gradients of this block's keys and values. -/
abbrev bcur : FVec Ideal S128x256 .f32 :=
  k0_pay104 (k0_pay81 (dV1 i x0 x1 x2 x3 x4) (dK1 i x0 x1 x2 x3 x4)) (dV0 i x0 x1 x2 x3 x4) (dK0 i x0 x1 x2 x3 x4)
/-- The block of gradients of the previous block's keys and values. -/
abbrev bprev : FVec Ideal S128x256 .f32 :=
  k0_pay105 (k0_pay82 (dV1 i x0 x1 x2 x3 x4) (dK1 i x0 x1 x2 x3 x4)) (dV0 i x0 x1 x2 x3 x4) (dK0 i x0 x1 x2 x3 x4)
/-- The block of sink gradients. -/
abbrev bsink : FVec Ideal S8x128 .f32 :=
  k0_pay102 k0_pay7 (k0_pay100 (k0_pay9 lane) (k0_pay10 lane) (k0_pay11 lane)
      (k0_pay14 (k0_pay2 x3) lane (k0_pay8 x3)) (k0_pay15 (k0_pay2 x3) lane (k0_pay8 x3))
      (k0_pay79 (k0_pay33 lane)
        (k0_pay77 (k0_pay35 lane) (k0_pay36 lane) (k0_pay37 lane) (k0_pay40 (k0_pay2 x3) lane (k0_pay33 lane) k0_pay34)
          (k0_pay41 (k0_pay2 x3) lane (k0_pay33 lane) k0_pay34) (T1 i x0 x1 x2 x3 x4))
        (k0_pay78 (k0_pay40 (k0_pay2 x3) lane (k0_pay33 lane) k0_pay34)
          (k0_pay41 (k0_pay2 x3) lane (k0_pay33 lane) k0_pay34) (T1 i x0 x1 x2 x3 x4)))
      (T0 i x0 x1 x2 x3 x4))
    (k0_pay101 (k0_pay14 (k0_pay2 x3) lane (k0_pay8 x3)) (k0_pay15 (k0_pay2 x3) lane (k0_pay8 x3)) (T0 i x0 x1 x2 x3 x4))

variable (s : Fin 8 → EReal) (hs : ∀ h l, x3 (ix2 h l) = s h)

/-- The group of key/value head `h` at this point. -/
abbrev G (h : Fin 2) : Grp := grp h (i 0).val x0 x1 x2 s x4

theorem S1_row (g : Fin 4) (r : Fin 128) : rowOf (S1 i x0 x1 x2) (row g r) = (G i x0 x1 x2 x4 s 1).score g r := by
  funext k
  refine (s1_at i _ _ g r k).trans ?_
  simp only [q1_at, k1_at]
  rfl

theorem S0_row (g : Fin 4) (r : Fin 128) : rowOf (S0 i x0 x1 x2) (row g r) = (G i x0 x1 x2 x4 s 0).score g r := by
  funext k
  refine (s0_at i _ _ g r k).trans ?_
  simp only [q0_at, k0_at]
  rfl

theorem g1_row (g : Fin 4) (r : Fin 128) :
    rowOf (k0_pay65 (k0_pay31 x1 x2) (k0_pay60 x4) (k0_pay61 x4) (k0_pay62 x4) (FloatOps.ofBits FTy.f32 0#32) (k0_pay63 x4)) (row g r)
      = (G i x0 x1 x2 x4 s 1).dProb g r := by
  funext k
  refine (g1_at _ _ _ _ _ _ _ k).trans ?_
  simp only [do1_at, v1_at]
  rfl

theorem g0_row (g : Fin 4) (r : Fin 128) :
    rowOf (k0_pay87 (k0_pay5 x1 x2) (k0_pay56 x4) (k0_pay57 x4) (k0_pay83 (k0_pay59 x4)) (k0_pay84 (k0_pay58 x4)) k0_pay85) (row g r)
      = (G i x0 x1 x2 x4 s 0).dProb g r := by
  funext k
  refine (g0_at _ _ _ _ _ _ _ k).trans ?_
  simp only [do0_at, v0_at]
  rfl

/-- A sum over the stack of four heads' rows, head by head. -/
theorem sum_rows (f : Fin 512 → EReal) : ∑ a, f a = ∑ g, ∑ r, f (row g r) := Fin.sum_univ_tiles 4 128 rfl f

include hs

theorem σ1_row (g : Fin 4) (r : Fin 128) : σ1 x3 (ix2 (row g r) 0) = (G i x0 x1 x2 x4 s 1).σ g := sink1_at x3 s hs g r

theorem σ0_row (g : Fin 4) (r : Fin 128) : σ0 x3 (ix2 (row g r) 0) = (G i x0 x1 x2 x4 s 0).σ g := sink0_at x3 s hs g r

theorem dot1 (g : Fin 4) (r : Fin 128) (k : Fin 256) :
    Scalar.select (k0_pay3 i (ix2 (row g r) k)) (dS1 i x0 x1 x2 x3 x4 (ix2 (row g r) k)) 0 * Grp.scale = (G i x0 x1 x2 x4 s 1).dDot g r k := by
  rw [mask_at, select_bool]
  rw [show dS1 i x0 x1 x2 x3 x4 (ix2 (row g r) k) = _ from dScore1_at (σ1 x3) (S1 i x0 x1 x2) _ (row g r) k _ _ _ _ _]
  rw [S1_row i x0 x1 x2 x4 s, g1_row i x0 x1 x2 x4 s, σ1_row i x0 x1 x2 x3 x4 s hs]
  rfl

theorem dot0 (g : Fin 4) (r : Fin 128) (k : Fin 256) :
    Scalar.select (k0_pay3 i (ix2 (row g r) k)) (dS0 i x0 x1 x2 x3 x4 (ix2 (row g r) k)) 0 * Grp.scale = (G i x0 x1 x2 x4 s 0).dDot g r k := by
  rw [mask_at, select_bool]
  rw [show dS0 i x0 x1 x2 x3 x4 (ix2 (row g r) k) = _ from dScore0_at (σ0 x3) (S0 i x0 x1 x2) _ (row g r) k _ _ _ _ _]
  rw [S0_row i x0 x1 x2 x4 s, g0_row i x0 x1 x2 x4 s, σ0_row i x0 x1 x2 x3 x4 s hs]
  rfl

theorem bq_at (h : Fin 2) (g : Fin 4) (r : Fin 128) (d : Fin 64) :
    bq i x0 x1 x2 x3 x4 (ix2 r ⟨(h * 4 + g) * 64 + d, by omega⟩) = (G i x0 x1 x2 x4 s h).dQ g r d := by
  refine (put_q _ _ h g r d).trans ?_
  split
  next hh =>
    obtain rfl : h = 0 := Fin.ext hh
    refine (dq0_at _ _ _ d _).trans ?_
    simp only [dot0 i x0 x1 x2 x3 x4 s hs, k0_at]
    rfl
  next hh =>
    obtain rfl : h = 1 := Fin.ext (by have := h.isLt; omega)
    refine (dq1_at _ _ _ d _).trans ?_
    simp only [dot1 i x0 x1 x2 x3 x4 s hs, k1_at]
    rfl

theorem dK1_row (k : Fin 256) (d : Fin 64) : dK1 i x0 x1 x2 x3 x4 (ix2 k d) = (G i x0 x1 x2 x4 s 1).dK k d := by
  refine (dk1_at _ _ _ k d).trans ((sum_rows _).trans ?_)
  simp only [dot1 i x0 x1 x2 x3 x4 s hs, q1_at]
  rfl

theorem dK0_row (k : Fin 256) (d : Fin 64) : dK0 i x0 x1 x2 x3 x4 (ix2 k d) = (G i x0 x1 x2 x4 s 0).dK k d := by
  refine (dk0_at _ _ _ k d).trans ((sum_rows _).trans ?_)
  simp only [dot0 i x0 x1 x2 x3 x4 s hs, q0_at]
  rfl

theorem dV1_row (k : Fin 256) (d : Fin 64) : dV1 i x0 x1 x2 x3 x4 (ix2 k d) = (G i x0 x1 x2 x4 s 1).dV k d := by
  refine (dv1_at _ k d _ _ _ _ _).trans ((sum_rows _).trans ?_)
  simp only [prob_at, S1_row i x0 x1 x2 x4 s, σ1_row i x0 x1 x2 x3 x4 s hs, do1_at]
  rfl

theorem dV0_row (k : Fin 256) (d : Fin 64) : dV0 i x0 x1 x2 x3 x4 (ix2 k d) = (G i x0 x1 x2 x4 s 0).dV k d := by
  refine (dv0_at _ k d _ _ _ _ _).trans ((sum_rows _).trans ?_)
  have e : k0_pay28 (σ0 x3) (S0 i x0 x1 x2) (m0 i x0 x1 x2) = k0_pay54 (σ0 x3) (S0 i x0 x1 x2) := rfl
  simp only [e, prob_at, S0_row i x0 x1 x2 x4 s, σ0_row i x0 x1 x2 x3 x4 s hs, do0_at]
  rfl

/-- The four gradient matrices, by key or value and by head, are the groups'. -/
theorem parts (o h : Fin 2) (k : Fin 256) (d : Fin 64) :
    (if (o : ℕ) = 0 then (if (h : ℕ) = 0 then dK0 i x0 x1 x2 x3 x4 else dK1 i x0 x1 x2 x3 x4)
        else (if (h : ℕ) = 0 then dV0 i x0 x1 x2 x3 x4 else dV1 i x0 x1 x2 x3 x4)) (ix2 k d)
      = dKV (G i x0 x1 x2 x4 s h) o k d := by
  unfold dKV
  by_cases hh : (h : ℕ) = 0
  · obtain rfl : h = 0 := Fin.ext hh
    split
    · exact dK0_row i x0 x1 x2 x3 x4 s hs k d
    · exact dV0_row i x0 x1 x2 x3 x4 s hs k d
  · obtain rfl : h = 1 := Fin.ext (by have := h.isLt; omega)
    split
    · exact dK1_row i x0 x1 x2 x3 x4 s hs k d
    · exact dV1_row i x0 x1 x2 x3 x4 s hs k d

theorem bcur_at (o h : Fin 2) (k : Fin 128) (d : Fin 64) :
    bcur i x0 x1 x2 x3 x4 (ix2 k ⟨o * 128 + h * 64 + d, by omega⟩) = dKV (G i x0 x1 x2 x4 s h) o ⟨128 + k, by omega⟩ d := by
  exact (put_cur _ _ _ _ o h k d).trans (parts i x0 x1 x2 x3 x4 s hs o h _ d)

theorem bprev_at (o h : Fin 2) (k : Fin 128) (d : Fin 64) :
    bprev i x0 x1 x2 x3 x4 (ix2 k ⟨o * 128 + h * 64 + d, by omega⟩) = dKV (G i x0 x1 x2 x4 s h) o ⟨k, by omega⟩ d := by
  exact (put_prev _ _ _ _ o h k d).trans (parts i x0 x1 x2 x3 x4 s hs o h _ d)

theorem bsink_at (h : Fin 2) (g : Fin 4) (l : Fin 128) :
    bsink i x0 x1 x2 x3 x4 (ix2 ⟨h * 4 + g, by omega⟩ l) = ∑ r, Ideal.div ((G i x0 x1 x2 x4 s h).dSig g r) 128 := by
  refine (put_sink _ _ _ _ _ _ h g l).trans ?_
  split
  next hh =>
    obtain rfl : h = 0 := Fin.ext hh
    refine Finset.sum_congr rfl fun r _ => ?_
    rw [lanes0_at x3 s hs]
    rw [show T0 i x0 x1 x2 x3 x4 (ix2 (row g r) 0) = _ from dSink0_at (σ0 x3) (S0 i x0 x1 x2) _ (row g r) _ _ _ _ _]
    rw [S0_row i x0 x1 x2 x4 s, g0_row i x0 x1 x2 x4 s, σ0_row i x0 x1 x2 x3 x4 s hs]
    rfl
  next hh =>
    obtain rfl : h = 1 := Fin.ext (by have := h.isLt; omega)
    refine Finset.sum_congr rfl fun r _ => ?_
    rw [lanes1_at x3 s hs]
    rw [show T1 i x0 x1 x2 x3 x4 (ix2 (row g r) 0) = _ from dSink1_at (σ1 x3) (S1 i x0 x1 x2) _ (row g r) _ _ _ _ _]
    rw [S1_row i x0 x1 x2 x4 s, g1_row i x0 x1 x2 x4 s, σ1_row i x0 x1 x2 x3 x4 s hs]
    rfl

end Blocks

end Cert.KernelIdeal.Pure
-- ==== Proof.KVal.lean ====
/- The arrays the idealized kernel leaves: each output window's array, in terms of the groups of the whole sequence. -/
module

public import Idealize.ShloMosaic.Lib.Claim
public import Idealize.ShloMosaic.Lib.Pipeline.ValueKit
public import proofs.«01_k».proof.Proof.KBlk
public import proofs.«01_k».proof.Proof.Gen.KernelIdeal.Frame

@[expose] public section

set_option maxRecDepth 16384

noncomputable section

namespace Cert.KernelIdeal.Val

open Idealize.ShloMosaic Idealize.ShloMosaic.TcCoe Idealize.SL Idealize.SL.Sem
open Idealize.ShloMosaic.Pipeline
open Cert.KernelIdeal Cert.KernelIdeal.Gen Cert.KernelIdeal.Pure Cert.Spec

variable (m : (ℓ : Loc nD τ sig) → Buf (Elt Ideal) ℓ) (c : Dev nD)

/-- The queries, the keys and values, the sinks and the cotangent that device `c` is given. -/
abbrev aq : FVec Ideal S16384x512 .f32 := m ((c : Thread nD τ).loc main_arg0)
abbrev akv : FVec Ideal S16384x256 .f32 := m ((c : Thread nD τ).loc main_arg1)
abbrev asink : FVec Ideal S8 .f32 := m ((c : Thread nD τ).loc main_arg2)
abbrev ado : FVec Ideal S16384x512 .f32 := m ((c : Thread nD τ).loc main_arg3)

/-- The groups of the sequence that the kernel sees. -/
abbrev KF : Fin 2 → Fin 128 → Grp :=
  agrp false (fun a b => aq m c (ix2 a b)) (fun a b => akv m c (ix2 a b)) (fun i => asink m c (ix1 i)) (fun a b => ado m c (ix2 a b))

theorem idx : ∀ t : Fin cfg0.N, win0_0.index t = ![t.val, 0] ∧ win0_1.index t = ![t.val, 0] ∧ win0_2.index t = ![t.val - 1, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] ∧ (grid0.coords t 0).val = t.val :=
  (by decide +kernel : ∀ t : Fin grid0.N, _)

theorem sinks_at (t : Fin cfg0.N) (h : Fin 8) (l : Fin 128) : iblk m c 3 t (ix2 h l) = asink m c (ix1 h) := by
  have e : V m c main_v1 = broadcastInDim S8x128 ![0, 1] bcast_S8x1_S8x128_0_1 (broadcastInDim S8x1 ![0] bcast_S8_S8x1_0 (asink m c)) := by
    unfold V
    after_results
    try rfl
  have e' : iblk m c 3 t (ix2 h l) = V m c main_v1 ((win0_3.blk t).view.emb (ix2 h l)) := by blk_simp [iblk, idx t]
  rw [e', e]
  pointwise
  blk_ext [idx t]

theorem group_at (t : Fin cfg0.N) (h : Fin 2) :
    G (grid0.coords t) (iblk m c 0 t) (iblk m c 1 t) (iblk m c 2 t) (iblk m c 4 t) (fun i => asink m c (ix1 i)) h
      = KF m c h ⟨t.val, lt_of_lt_of_eq t.isLt N_0⟩ := by
  have ht : t.val < 128 := lt_of_lt_of_eq t.isLt N_0
  unfold G grp KF agrp
  congr 1
  · funext r k
    rw [(idx t).2.2.2.2.2.2.2.2.2]
  · funext g r d
    blk_ext [iblk, V, idx t]
  · funext k d
    unfold band
    split
    · rw [if_neg (by simp)]
      blk_ext [iblk, V, idx t]
    · blk_ext [iblk, V, idx t]
  · funext k d
    unfold band
    split
    · rw [if_neg (by simp)]
      blk_ext [iblk, V, idx t]
    · blk_ext [iblk, V, idx t]
  · funext g r d
    blk_ext [iblk, V, idx t]

/-- An index of a block of queries, by row, head and column in the head. -/
theorem split_q (y : S128x512.Idx) : ∃ (r : Fin 128) (h : Fin 2) (g : Fin 4) (d : Fin 64), y = ix2 r ⟨(h * 4 + g) * 64 + d, by omega⟩ := by
  have h1 : (y 1 : ℕ) < 512 := (y 1).isLt
  refine ⟨y 0, ⟨y 1 / 256, by omega⟩, ⟨y 1 / 64 % 4, by omega⟩, ⟨y 1 % 64, by omega⟩, ?_⟩
  blk_ext

/-- An index of a block of keys and values, by row, key or value, head and column in the head. -/
theorem split_kv (y : S128x256.Idx) : ∃ (k : Fin 128) (o h : Fin 2) (d : Fin 64), y = ix2 k ⟨o * 128 + h * 64 + d, by omega⟩ := by
  have h1 : (y 1 : ℕ) < 256 := (y 1).isLt
  refine ⟨y 0, ⟨y 1 / 128, by omega⟩, ⟨y 1 / 64 % 2, by omega⟩, ⟨y 1 % 64, by omega⟩, ?_⟩
  blk_ext

/-- An index of a block of sinks' gradients, by head and lane. -/
theorem split_s (y : S8x128.Idx) : ∃ (h : Fin 2) (g : Fin 4) (l : Fin 128), y = ix2 ⟨h * 4 + g, by omega⟩ l := by
  have h0 : (y 0 : ℕ) < 8 := (y 0).isLt
  refine ⟨⟨y 0 / 4, by omega⟩, ⟨y 0 % 4, by omega⟩, y 1, ?_⟩
  blk_ext

/-- The array of the queries' gradient. -/
theorem final_5 : (dats m 0 c).arrAt 5 (cfgs 0).N = fun j : S16384x512.Idx => resQ (KF m c) (j 0) (j 1) := by
  refine (dats m 0 c).arrAt_eq_of_covers 5 _ (by decide +kernel) fun t _ y => ?_
  blk_simp
  rw [after0_5]
  have e : (outsAt0 m c t.val t.isLt).1 = bq (grid0.coords t) (iblk m c 0 t) (iblk m c 1 t) (iblk m c 2 t) (iblk m c 3 t) (iblk m c 4 t) := by
    by_cases h0 : t.val % 128 = 0
    · rw [outsAt0_A m c t h0 (by have := lt_of_lt_of_eq t.isLt N_0; omega)]
      frame_out
    · rw [outsAt0_B m c t h0 (by omega)]
      frame_out
  rw [e]
  obtain ⟨r, h, g, d, rfl⟩ := split_q y
  refine (bq_at _ _ _ _ _ _ _ (sinks_at m c t) h g r d).trans ?_
  rw [group_at]
  refine (resQ_at _ ⟨t.val, lt_of_lt_of_eq t.isLt N_0⟩ r h g d _ _ ?_ ?_).symm
  · blk_simp [idx t]
  · blk_simp [idx t]

/-- The array of the gradient that keys and values get from their own block. -/
theorem final_6 : (dats m 0 c).arrAt 6 (cfgs 0).N = fun j : S16384x256.Idx => resKV (KF m c) 1 (j 0) (j 1) := by
  refine (dats m 0 c).arrAt_eq_of_covers 6 _ (by decide +kernel) fun t _ y => ?_
  blk_simp
  rw [after0_6]
  have e : (outsAt0 m c t.val t.isLt).2.1 = bcur (grid0.coords t) (iblk m c 0 t) (iblk m c 1 t) (iblk m c 2 t) (iblk m c 3 t) (iblk m c 4 t) := by
    by_cases h0 : t.val % 128 = 0
    · rw [outsAt0_A m c t h0 (by have := lt_of_lt_of_eq t.isLt N_0; omega)]
      frame_out
    · rw [outsAt0_B m c t h0 (by omega)]
      frame_out
  rw [e]
  obtain ⟨k, o, h, d, rfl⟩ := split_kv y
  refine (bcur_at _ _ _ _ _ _ _ (sinks_at m c t) o h k d).trans ?_
  rw [group_at]
  refine (resKV_at _ 1 ⟨t.val, lt_of_lt_of_eq t.isLt N_0⟩ k o h d _ _ ?_ ?_).symm
  · blk_simp [idx t]
  · blk_simp [idx t]

/-- The array of the gradient that keys and values get from the block after theirs, held where that block is. -/
theorem final_7 : (dats m 0 c).arrAt 7 (cfgs 0).N = fun j : S16384x256.Idx => resKV (KF m c) 0 (j 0) (j 1) := by
  refine (dats m 0 c).arrAt_eq_of_covers 7 _ (by decide +kernel) fun t _ y => ?_
  blk_simp
  rw [after0_7]
  have e : (outsAt0 m c t.val t.isLt).2.2.1 = bprev (grid0.coords t) (iblk m c 0 t) (iblk m c 1 t) (iblk m c 2 t) (iblk m c 3 t) (iblk m c 4 t) := by
    by_cases h0 : t.val % 128 = 0
    · rw [outsAt0_A m c t h0 (by have := lt_of_lt_of_eq t.isLt N_0; omega)]
      frame_out
    · rw [outsAt0_B m c t h0 (by omega)]
      frame_out
  rw [e]
  obtain ⟨k, o, h, d, rfl⟩ := split_kv y
  refine (bprev_at _ _ _ _ _ _ _ (sinks_at m c t) o h k d).trans ?_
  rw [group_at]
  refine Eq.trans ?_ (resKV_at _ 0 ⟨t.val, lt_of_lt_of_eq t.isLt N_0⟩ k o h d _ _ ?_ ?_).symm
  · congr 1; apply Fin.ext; simp
  · blk_simp [idx t]
  · blk_simp [idx t]

/-- What a later point adds to the sinks' gradient. -/
theorem more_at (A B : FVec Ideal S8x128 .f32) (j : S8x128.Idx) : k0_pay1 A B j = B j + A j := by
  pointwise [k0_pay1]

/-- The array of the sinks' gradient: each lane a 128th of it. -/
theorem final_8 : (dats m 0 c).arrAt 8 (cfgs 0).N
    = fun j : S8x128.Idx => ∑ n, ∑ r, Ideal.div ((KF m c ⟨j 0 / 4, by have h0 : (j 0 : ℕ) < 8 := (j 0).isLt; omega⟩ n).dSig ⟨j 0 % 4, by omega⟩ r) (128 : EReal) := by
  refine (dats m 0 c).arrAt_eq_of_covers 8 _ (by decide +kernel) fun t hf y => ?_
  blk_simp
  rw [after0_8, Pipeline.eq_sum_fin_of_reset_step_apply_of_flush (fun n h => (outsAt0 m c n h).2.2.2) 128 (fun _ => 0)
    (fun t j => bsink (grid0.coords t) (iblk m c 0 t) (iblk m c 1 t) (iblk m c 2 t) (iblk m c 3 t) (iblk m c 4 t) j)
    (fun t h j => by
      rw [outsAt0_A m c t h (by have := lt_of_lt_of_eq t.isLt N_0; omega)]
      frame_out
      exact (zero_add _).symm)
    (fun t h j => by
      rw [outsAt0_B m c t h (by omega)]
      frame_out
      exact more_at _ _ _) t ((flush0_8 t).mp hf) _, zero_add]
  obtain ⟨h, g, l, rfl⟩ := split_s y
  have h127 := (flush0_8 t).mp hf
  have ht : t.val < 128 := lt_of_lt_of_eq t.isLt N_0
  refine Fin.sum_fin_congr fun s => ?_
  refine (bsink_at _ _ _ _ _ _ _ (sinks_at m c _) h g l).trans ?_
  refine Fin.sum_fin_congr fun r => ?_
  rw [group_at]
  have e8 : win0_8.index t 0 = 0 := by rw [(idx t).2.2.2.2.2.2.2.2.1]; rfl
  congr 2
  · congr 1
    · apply Fin.ext
      dsimp only
      rw [e8]
      simp
      omega
    · apply Fin.ext
      dsimp only
      omega
  · apply Fin.ext
    dsimp only
    rw [e8]
    simp
    omega

end Cert.KernelIdeal.Val
-- ==== Proof.KTail.lean ====
/- What the idealized kernel's program returns: the lines after the pipeline, and its three results at an index. -/
module

public import proofs.«01_k».proof.Proof.KVal

@[expose] public section

set_option maxRecDepth 16384

noncomputable section

namespace Cert.KernelIdeal.Val

open Idealize.ShloMosaic Idealize.ShloMosaic.TcCoe Idealize.SL Idealize.SL.Sem
open Idealize.ShloMosaic.Pipeline
open Cert.KernelIdeal Cert.KernelIdeal.Gen Cert.KernelIdeal.Pure Cert.Spec

variable (m : (ℓ : Loc nD τ sig) → Buf (Elt Ideal) ℓ) (c : Dev nD)

/-- The sum of the two parts of the gradient of keys and values, the second one block up. -/
def join (A B : FVec Ideal S16384x256 .f32) : FVec Ideal S16384x256 .f32 :=
  addf A (concatenate S16384x256 0 [⟨S16256x256, extractStridedSlice S16256x256 ![128, 0] B slices_S16384x256_S16256x256_128_0⟩,
    ⟨S128x256, broadcastInDim S128x256 ![] bcast_S_S128x256 (constant (F := Ideal) S_ .f32 0x00000000#32)⟩] concatenates_S16256x256_S128x256_S16384x256_d0)

/-- The sum over the lanes. -/
def lanes (A : FVec Ideal S8x128 .f32) : FVec Ideal S8 .f32 :=
  Host.reduceAdd A (constant (F := Ideal) S_ .f32 0x00000000#32) reducesTo_S8x128_S8_d1 h_S_

theorem tail_6 : afterTail₀ cfgs (dats m) 0 (V0 m) [hostOps1] c main_v6
    = join ((dats m 0 c).arrAt 6 (cfgs 0).N) ((dats m 0 c).arrAt 7 (cfgs 0).N) := by
  have h6 := (dats m 0 c).withArrays_arrAt launch₀0.sharedIn (V0 m c) (A_eq m c) 6
  have h7 := (dats m 0 c).withArrays_arrAt launch₀0.sharedIn (V0 m c) (A_eq m c) 7
  rw [← h6, ← h7]
  unfold afterTail₀
  generalize withArrays (cfgs 0).spec c (V0 m c) (fun w => (dats m 0 c).arrAt w (cfgs 0).N) = W
  after_results
  rfl

theorem tail_7 : afterTail₀ cfgs (dats m) 0 (V0 m) [hostOps1] c main_v7 = lanes ((dats m 0 c).arrAt 8 (cfgs 0).N) := by
  have h8 := (dats m 0 c).withArrays_arrAt launch₀0.sharedIn (V0 m c) (A_eq m c) 8
  rw [← h8]
  unfold afterTail₀
  generalize withArrays (cfgs 0).spec c (V0 m c) (fun w => (dats m 0 c).arrAt w (cfgs 0).N) = W
  after_results
  rfl

theorem join_at (A B : FVec Ideal S16384x256 .f32) (a : Fin 16384) (b : Fin 256) :
    join A B (ix2 a b) = A (ix2 a b) + if ha : (a : ℕ) < 16256 then B (ix2 ⟨a + 128, by omega⟩ b) else 0 := by
  pointwise [join]
  simp only [Nat.add_comm 128]

theorem lanes_at (A : FVec Ideal S8x128 .f32) (i : Fin 8) : lanes A (ix1 i) = ∑ l : Fin 128, A (ix2 i l) := by
  pointwise [lanes]

/-- A 128th of a number on each of 128 lanes sums to it. -/
theorem sum_128 (x : EReal) : (∑ _l : Fin 128, Ideal.div x (128 : EReal)) = x := by
  have e : (128 : EReal) = ((128 : ℝ) : EReal) := rfl
  rw [Finset.sum_const, Finset.card_univ, Fintype.card_fin, EReal.nsmul_eq_mul, e, Ideal.div_coe (by norm_num), mul_left_comm]
  have e' : ((128 : ℕ) : EReal) * ((1 / 128 : ℝ) : EReal) = 1 := by
    rw [show ((128 : ℕ) : EReal) = ((128 : ℝ) : EReal) from rfl, ← EReal.coe_mul]
    norm_num
  rw [e', mul_one]

theorem result_kv (a : Fin 16384) (b : Fin 256) :
    join ((dats m 0 c).arrAt 6 (cfgs 0).N) ((dats m 0 c).arrAt 7 (cfgs 0).N) (ix2 a b) = sumKV (KF m c) a b := by
  rw [final_6, final_7, join_at]
  rfl

theorem result_s (i : Fin 8) : lanes ((dats m 0 c).arrAt 8 (cfgs 0).N) (ix1 i) = resS (KF m c) i := by
  rw [final_8, lanes_at]
  show (∑ l : Fin 128, ∑ n : Fin 128, ∑ r : Fin 128, Ideal.div ((KF m c ⟨i / 4, by omega⟩ n).dSig ⟨i % 4, by omega⟩ r) (128 : EReal)) = _
  rw [Finset.sum_comm]
  refine Finset.sum_congr rfl fun n _ => ?_
  rw [Finset.sum_comm]
  exact Finset.sum_congr rfl fun r _ => sum_128 _

/-- The two results as functions of the index. -/
theorem fun_kv : join ((dats m 0 c).arrAt 6 (cfgs 0).N) ((dats m 0 c).arrAt 7 (cfgs 0).N)
    = fun j : S16384x256.Idx => sumKV (KF m c) (j 0) (j 1) := by
  funext j
  rw [eq_ix2 j]
  exact result_kv m c _ _

theorem fun_s : lanes ((dats m 0 c).arrAt 8 (cfgs 0).N) = fun j : S8.Idx => resS (KF m c) (j 0) := by
  funext j
  rw [eq_ix1 j]
  exact result_s m c _

end Cert.KernelIdeal.Val
-- ==== Proof.Max.lean ====
/- The host's maximum over the last of five axes, at an index. -/
module

public import Idealize.ShloMosaic.Lib.Pointwise
public import Idealize.ShloMosaic.PureOps.Reduce

@[expose] public section

noncomputable section

namespace Cert.Spec

open Idealize.ShloMosaic

/-- A maximum over the last of five axes is the maximum over that axis's coordinates. -/
theorem reduce_max_last {n0 n1 n2 n3 n4 : ℕ} {u : Shape} (x : (⟨5, ![n0, n1, n2, n3, n4]⟩ : Shape).Idx → EReal) (init : u.Idx → EReal)
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < u.numel)
    (a : Fin n0) (b : Fin n1) (c : Fin n2) (d : Fin n3) :
    Host.reduce max x init h' hu (ix4 a b c d) = Finset.univ.fold max (init (Shape.Idx.first hu)) fun k : Fin n4 => x (ix5 a b c d k) := by
  refine (Host.reduce_eq_fold_single max x init h' h hu _).trans ?_
  have e : ∀ k : Fin n4, h.lift (ix4 a b c d) k = ix5 a b c d k := by
    intro k
    funext i
    apply Fin.ext
    refine (h.lift_val _ _ _).trans ?_
    unfold Shape.Reduces.liftVal
    fin_cases i <;> rfl
  exact congrArg (fun f => Finset.fold max (init (Shape.Idx.first hu)) f (Finset.univ : Finset (Fin n4))) (funext fun k => congrArg x (e k))

end Cert.Spec
-- ==== Proof.RefPure.lean ====
/- The idealized reference at an index: each stage of it is the stage of `Spec.Grp` for the groups of the whole sequence. -/
module

public import Idealize.ShloMosaic.Lib.Pointwise
public import Idealize.ShloMosaic.Lib.WordCmp
public import Idealize.ShloMosaic.Lib.Pipeline.ValueKit
public import proofs.«01_k».proof.Proof.Max
public import proofs.«01_k».proof.Proof.Arr
public import proofs.«01_k».proof.Proof.Gen.ReferenceIdeal.Run

@[expose] public section

set_option maxRecDepth 16384

noncomputable section

namespace Cert.ReferenceIdeal.Pure

open Idealize.ShloMosaic Idealize.ShloMosaic.TcCoe Idealize.SL.Sem
open Cert.ReferenceIdeal Cert.ReferenceIdeal.Value Cert.Spec Cert.ReferenceIdeal.Gen

variable (V0 : Valuation τ sig (Elt Ideal))

/-- The queries, the keys and values, the sinks and the cotangent. -/
abbrev aq : FVec Ideal S16384x512 .f32 := V0 (Proc.devRef .tc main_arg0)
abbrev akv : FVec Ideal S16384x256 .f32 := V0 (Proc.devRef .tc main_arg1)
abbrev asink : FVec Ideal S8 .f32 := V0 (Proc.devRef .tc main_arg2)
abbrev ado : FVec Ideal S16384x512 .f32 := V0 (Proc.devRef .tc main_arg3)

/-- The groups of the sequence that the reference sees: zeros before the first block. -/
abbrev RF : Fin 2 → Fin 128 → Grp :=
  agrp true (fun a b => aq V0 (ix2 a b)) (fun a b => akv V0 (ix2 a b)) (fun i => asink V0 (ix1 i)) (fun a b => ado V0 (ix2 a b))

theorem select_bool {α : Type} (b : Bool) (x y : α) : Scalar.select (BitVec.ofBool b) x y = if b then x else y := by
  cases b <;> rfl

theorem q_val {a a' b b' : ℕ} {A B : ℕ} {ha : a < A} {ha' : a' < A} {hb : b < B} {hb' : b' < B} (e : a = a') (e' : b = b') :
    ix2 (⟨a, ha⟩ : Fin A) (⟨b, hb⟩ : Fin B) = ix2 ⟨a', ha'⟩ ⟨b', hb'⟩ := by
  subst e e'; rfl

theorem v2_at (n r : Fin 128) (h : Fin 2) (g : Fin 4) (d : Fin 64) : res_main_v2 V0 (ix5 n r h g d) = (RF V0 h n).q g r d := by
  pointwise [res_main_v2]
  exact congrArg (aq V0) (q_val rfl (by omega))

theorem v9_at (n : Fin 128) (k : Fin 256) (h : Fin 2) (d : Fin 64) : res_main_v9 V0 (ix4 n k h d) = (RF V0 h n).K k d := by
  pointwise [res_main_v9, res_main_v3]
  by_cases hk : (k : ℕ) < 128
  · rw [dif_pos hk]
    by_cases hn : (n : ℕ) < 1
    · rw [dif_pos hn]
      exact (band_zero n (fun a => akv V0 (ix2 a ⟨h * 64 + d, by omega⟩)) k hk hn).symm
    · rw [dif_neg hn]
      exact (band_before n (fun a => akv V0 (ix2 a ⟨h * 64 + d, by omega⟩)) k hk hn).symm
  · rw [dif_neg hk]
    exact (band_own n (fun a => akv V0 (ix2 a ⟨h * 64 + d, by omega⟩)) k hk).symm

theorem v16_at (n : Fin 128) (k : Fin 256) (h : Fin 2) (d : Fin 64) : res_main_v16 V0 (ix4 n k h d) = (RF V0 h n).V k d := by
  have e : (⟨128 + h * 64 + d, by omega⟩ : Fin 256) = ⟨128 + (h * 64 + d), by omega⟩ := Fin.ext (by dsimp only; omega)
  have e' : (RF V0 h n).V k d = band true n (fun a => akv V0 (ix2 a ⟨128 + (h * 64 + d), by omega⟩)) k :=
    congrArg (fun b => band true n (fun a => akv V0 (ix2 a b)) k) e
  rw [e']
  pointwise [res_main_v16, res_main_v10]
  by_cases hk : (k : ℕ) < 128
  · rw [dif_pos hk]
    by_cases hn : (n : ℕ) < 1
    · rw [dif_pos hn]
      exact (band_zero n _ k hk hn).symm
    · rw [dif_neg hn]
      exact (band_before n (fun a => akv V0 (ix2 a ⟨128 + (h * 64 + d), by omega⟩)) k hk hn).symm
  · rw [dif_neg hk]
    exact (band_own n (fun a => akv V0 (ix2 a ⟨128 + (h * 64 + d), by omega⟩)) k hk).symm

/-- The three conditions of the mask as words: the key's distance behind the query is in `[0, 128)`, and the key exists. -/
theorem mask_word (n r : Fin 128) (k : Fin 256) :
    IntOp.andi
      (IntOp.andi
        (IntOp.cmpi CmpIPredicate.sge
          (IntOp.subi (IntOp.addi (IntOp.muli (BitVec.ofNat 32 n) 128#32) (BitVec.ofNat 32 r))
            (IntOp.addi (IntOp.subi (IntOp.muli (BitVec.ofNat 32 n) 128#32) 128#32) (BitVec.ofNat 32 k))) 0#32)
        (IntOp.cmpi CmpIPredicate.slt
          (IntOp.subi (IntOp.addi (IntOp.muli (BitVec.ofNat 32 n) 128#32) (BitVec.ofNat 32 r))
            (IntOp.addi (IntOp.subi (IntOp.muli (BitVec.ofNat 32 n) 128#32) 128#32) (BitVec.ofNat 32 k))) 128#32))
      (IntOp.cmpi CmpIPredicate.sge
        (IntOp.addi (IntOp.subi (IntOp.muli (BitVec.ofNat 32 n) 128#32) 128#32) (BitVec.ofNat 32 k)) 0#32)
      = BitVec.ofBool (sees n r k) := by
  have e : IntOp.muli (BitVec.ofNat 32 n) 128#32 = BitVec.ofNat 32 (n * 128) := by
    show BitVec.ofNat 32 n * BitVec.ofNat 32 128 = _
    rw [← BitVec.ofNat_mul]
  rw [e]
  have e1 : IntOp.subi (IntOp.addi (BitVec.ofNat 32 (n * 128)) (BitVec.ofNat 32 r))
      (IntOp.addi (IntOp.subi (BitVec.ofNat 32 (n * 128)) 128#32) (BitVec.ofNat 32 k)) = BitVec.ofNat 32 r + 128#32 - BitVec.ofNat 32 k := by
    show BitVec.ofNat 32 (n * 128) + BitVec.ofNat 32 r - (BitVec.ofNat 32 (n * 128) - 128#32 + BitVec.ofNat 32 k) = _
    apply BitVec.eq_of_toNat_eq
    simp only [BitVec.toNat_sub, BitVec.toNat_add, BitVec.toNat_ofNat, Nat.reducePow, Nat.reduceMod, Nat.reduceSub]
    omega
  have e2 : (IntOp.addi (IntOp.subi (BitVec.ofNat 32 (n * 128)) 128#32) (BitVec.ofNat 32 k)).toNat
      = (n * 128 + (k : ℕ) + 4294967168) % 4294967296 := by
    show (BitVec.ofNat 32 (n * 128) - 128#32 + BitVec.ofNat 32 k).toNat = _
    simp only [BitVec.toNat_sub, BitVec.toNat_add, BitVec.toNat_ofNat, Nat.reducePow, Nat.reduceMod, Nat.reduceSub]
    omega
  have e3 : decide ((n * 128 + (k : ℕ) + 4294967168) % 4294967296 < 2 ^ (32 - 1)) = (decide (128 ≤ (k : ℕ)) || decide (0 < (n : ℕ))) := by
    rw [← Bool.decide_or, decide_eq_decide]
    show (n * 128 + (k : ℕ) + 4294967168) % 4294967296 < 2147483648 ↔ _
    omega
  have e4 : decide ((BitVec.ofNat 32 r + 128#32 - BitVec.ofNat 32 k).toNat < 128) = (decide ((r : ℕ) < k) && decide ((k : ℕ) ≤ r + 128)) := by
    rw [← Bool.decide_and, decide_eq_decide]
    simp only [BitVec.toNat_sub, BitVec.toNat_add, BitVec.toNat_ofNat, Nat.reducePow, Nat.reduceMod, Nat.reduceSub]
    omega
  rw [e1, WordCmp.andi_sge_zero_slt_ofNat (by decide), WordCmp.cmpi_sge_zero, e2, e3, e4, WordCmp.andi_ofBool]
  rfl

theorem v57_1_at (n : Fin 128) (h : Fin 2) (g : Fin 4) (r : Fin 128) (k : Fin 256) :
    res_main_v57_1 V0 (ix5 n h g r k) = BitVec.ofBool (sees n r k) := by
  pointwise [res_main_v57_1, res_main_v45, res_main_v40]
  exact mask_word n r k

theorem v57_0_at (n : Fin 128) (h : Fin 2) (g : Fin 4) (r : Fin 128) (k : Fin 256) :
    res_main_v57_0 V0 (ix5 n h g r k) = (RF V0 h n).score g r k := by
  pointwise [res_main_v57_0]
  rw [v57_1_at, select_bool]
  simp only [v9_at, v2_at]
  show (if _ then _ else Ideal.ofBits .f32 4286578688#32) = _
  rw [ofBits_negInf]
  unfold Grp.score
  simp only [mul_comm ((RF V0 h n).K k _)]
  rfl

theorem v60_at (n : Fin 128) (h : Fin 2) (g : Fin 4) (r : Fin 128) : res_main_v60 V0 (ix4 n h g r) = (RF V0 h n).σ g := by
  pointwise [res_main_v60]
  rfl

theorem v61_at (n : Fin 128) (h : Fin 2) (g : Fin 4) (r : Fin 128) : res_main_v61 V0 (ix4 n h g r) = top ((RF V0 h n).score g r) := by
  unfold res_main_v61
  refine (reduce_max_last _ _ _ (by decide) _ n h g r).trans ?_
  simp only [v57_0_at]
  show Finset.univ.fold max (Ideal.ofBits .f32 4286578688#32) _ = _
  rw [ofBits_negInf]
  rfl

/-- The array that is one where `H` holds its row's `T`, zero elsewhere. -/
theorem hits_at (H : FVec Ideal S128x2x4x128x256 .f32) (T : FVec Ideal S128x2x4x128 .f32)
    (n : Fin 128) (h : Fin 2) (g : Fin 4) (r : Fin 128) (k : Fin 256) :
    (uitofp .f32 (cmpf .oeq H (broadcastInDim S128x2x4x128x256 ![0, 1, 2, 3, 4] bcast_S128x2x4x128x1_S128x2x4x128x256_0_1_2_3_4
      (shapeCast _ T shapeCasts_S128x2x4x128_S128x2x4x128x1))) : FVec Ideal S128x2x4x128x256 .f32) (ix5 n h g r k)
      = if H (ix5 n h g r k) = T (ix4 n h g r) then (1 : EReal) else 0 := by
  pointwise
  exact uitofp_bit _

theorem v65_at (n : Fin 128) (h : Fin 2) (g : Fin 4) (r : Fin 128) (k : Fin 256) : res_main_v65 V0 (ix5 n h g r k) = hit ((RF V0 h n).score g r) k := by
  unfold res_main_v65
  refine (hits_at (res_main_v57_0 V0) (res_main_v61 V0) n h g r k).trans ?_
  rw [v57_0_at, v61_at]
  rfl

/-- The larger of two arrays at an index. -/
theorem larger_at (T U : FVec Ideal S128x2x4x128 .f32) (i : S128x2x4x128.Idx) : maximumf T U i = (max (T i) (U i) : EReal) := by
  pointwise

theorem v67_at (n : Fin 128) (h : Fin 2) (g : Fin 4) (r : Fin 128) : res_main_v67 V0 (ix4 n h g r) = cap ((RF V0 h n).score g r) ((RF V0 h n).σ g) := by
  unfold res_main_v67
  refine (larger_at (res_main_v61 V0) (res_main_v60 V0) (ix4 n h g r)).trans ?_
  rw [v61_at, v60_at]
  unfold cap
  rfl

theorem v85_at (n : Fin 128) (h : Fin 2) (g : Fin 4) (r : Fin 128) (k : Fin 256) :
    res_main_v85 V0 (ix5 n h g r k) = ex ((RF V0 h n).score g r) ((RF V0 h n).σ g) k := by
  pointwise [res_main_v85]
  rw [v57_0_at, v67_at]
  rfl

theorem v88_at (n : Fin 128) (h : Fin 2) (g : Fin 4) (r : Fin 128) :
    res_main_v88 V0 (ix4 n h g r) = exSink ((RF V0 h n).score g r) ((RF V0 h n).σ g) := by
  pointwise [res_main_v88]
  rw [v60_at, v67_at]
  rfl

theorem v90_at (n : Fin 128) (h : Fin 2) (g : Fin 4) (r : Fin 128) (u : Fin 1) :
    res_main_v90 V0 (ix5 n h g r u) = den ((RF V0 h n).score g r) ((RF V0 h n).σ g) := by
  pointwise [res_main_v90]
  simp only [v85_at, v88_at]
  rfl

theorem v92_at (n : Fin 128) (h : Fin 2) (g : Fin 4) (r : Fin 128) (k : Fin 256) :
    res_main_v92 V0 (ix5 n h g r k) = prob ((RF V0 h n).score g r) ((RF V0 h n).σ g) k := by
  pointwise [res_main_v92]
  rw [v85_at, v90_at]
  rfl

theorem v100_at (n : Fin 128) (h : Fin 2) (g : Fin 4) (r : Fin 128) (d : Fin 64) :
    res_main_v100 V0 (ix5 n h d g r) = (RF V0 h n).dO g r d := by
  pointwise [res_main_v100]
  exact congrArg (ado V0) (q_val rfl (by omega))

theorem v101_at (n : Fin 128) (h : Fin 2) (g : Fin 4) (r : Fin 128) (k : Fin 256) :
    res_main_v101 V0 (ix5 n h g r k) = (RF V0 h n).dProb g r k := by
  pointwise [res_main_v101]
  simp only [v100_at, v16_at]
  rfl

theorem v103_at (n : Fin 128) (h : Fin 2) (k : Fin 256) (d : Fin 64) :
    res_main_v103 V0 (ix4 n k h d) = (RF V0 h n).dV k d := by
  pointwise [res_main_v103]
  simp only [v100_at, v92_at]
  unfold Grp.dV
  show (_ : EReal) = _
  exact Finset.sum_congr rfl fun g _ => Finset.sum_congr rfl fun r _ => mul_comm _ _

theorem v112_at (n : Fin 128) (h : Fin 2) (g : Fin 4) (r : Fin 128) :
    res_main_v112 V0 (ix4 n h g r) = dDen ((RF V0 h n).score g r) ((RF V0 h n).σ g) ((RF V0 h n).dProb g r) := by
  pointwise [res_main_v112]
  simp only [v101_at, v90_at, v85_at]
  rw [Fin.sum_univ_one]
  rfl

theorem v113_at (n : Fin 128) (h : Fin 2) (g : Fin 4) (r : Fin 128) :
    res_main_v113 V0 (ix4 n h g r) = dExSink ((RF V0 h n).score g r) ((RF V0 h n).σ g) ((RF V0 h n).dProb g r) := by
  pointwise [res_main_v113]
  rw [v112_at, v88_at]
  rfl

theorem v117_at (n : Fin 128) (h : Fin 2) (g : Fin 4) (r : Fin 128) (k : Fin 256) :
    res_main_v117 V0 (ix5 n h g r k) = dEx ((RF V0 h n).score g r) ((RF V0 h n).σ g) ((RF V0 h n).dProb g r) k := by
  pointwise [res_main_v117]
  rw [v101_at, v90_at, v112_at, v85_at]
  rfl

theorem v122_at (n : Fin 128) (h : Fin 2) (g : Fin 4) (r : Fin 128) :
    res_main_v122 V0 (ix4 n h g r) = dCap ((RF V0 h n).score g r) ((RF V0 h n).σ g) ((RF V0 h n).dProb g r) := by
  pointwise [res_main_v122]
  simp only [v113_at, v117_at]
  rw [Fin.sum_univ_one]
  rfl

/-- The cotangent `C` of a maximum of `T` and `U`, as far as it goes to `T`. -/
def left (C T U : FVec Ideal S128x2x4x128 .f32) : FVec Ideal S128x2x4x128 .f32 :=
  mulf C (select (cmpf .ogt T U) (broadcastInDim S128x2x4x128 ![] bcast_S_S128x2x4x128 (constant S_ .f32 0x3F800000#32))
    (select (cmpf .oeq T U) (broadcastInDim S128x2x4x128 ![] bcast_S_S128x2x4x128 (constant S_ .f32 0x3F000000#32))
      (broadcastInDim S128x2x4x128 ![] bcast_S_S128x2x4x128 (constant S_ .f32 0x00000000#32))))

theorem left_at (C T U : FVec Ideal S128x2x4x128 .f32) (n : Fin 128) (h : Fin 2) (g : Fin 4) (r : Fin 128) :
    left C T U (ix4 n h g r) = C (ix4 n h g r) * toLeft (T (ix4 n h g r)) (U (ix4 n h g r)) := by
  pointwise [left]
  rfl

/-- The products' cotangents: `E` of the exponentials, and `L` of each row's largest score spread over its hits `H`, where the mask `M` lets through. -/
def through (M : IVec S128x2x4x128x256 1) (E H : FVec Ideal S128x2x4x128x256 .f32) (L : FVec Ideal S128x2x4x128 .f32) :
    FVec Ideal S128x2x256x128x4 .f32 :=
  transpose S128x2x256x128x4 [0, 1, 4, 3, 2] (mulf (select M (addf E (mulf
    (broadcastInDim S128x2x4x128x256 ![0, 1, 2, 3] bcast_S128x2x4x128_S128x2x4x128x256_0_1_2_3
      (Host.divf L (Host.reduceAdd H (constant S_ .f32 0x00000000#32) reducesTo_S128x2x4x128x256_S128x2x4x128_d4 h_S_))) H))
    (broadcastInDim S128x2x4x128x256 ![] bcast_S_S128x2x4x128x256 (constant S_ .f32 0x00000000#32)))
    (broadcastInDim S128x2x4x128x256 ![] bcast_S_S128x2x4x128x256 (constant S_ .f32 0x3E000000#32)))
    transposes_S128x2x4x128x256_S128x2x256x128x4_0_1_4_3_2

theorem through_at (M : IVec S128x2x4x128x256 1) (E H : FVec Ideal S128x2x4x128x256 .f32) (L : FVec Ideal S128x2x4x128 .f32)
    (n : Fin 128) (h : Fin 2) (g : Fin 4) (r : Fin 128) (k : Fin 256) :
    through M E H L (ix5 n h k r g) = Scalar.select (M (ix5 n h g r k))
      ((E (ix5 n h g r k) + Ideal.div (L (ix4 n h g r)) (∑ k, H (ix5 n h g r k)) * H (ix5 n h g r k)) * Grp.scale) 0 := by
  pointwise [through]
  rfl

theorem v137_at (n : Fin 128) (h : Fin 2) (g : Fin 4) (r : Fin 128) (k : Fin 256) :
    res_main_v137 V0 (ix5 n h k r g) = (RF V0 h n).dDot g r k := by
  unfold res_main_v137
  refine (through_at (res_main_v57_1 V0) (res_main_v117 V0) (res_main_v65 V0)
    (left (res_main_v122 V0) (res_main_v61 V0) (res_main_v60 V0)) n h g r k).trans ?_
  rw [left_at, v57_1_at, v117_at, v122_at, v61_at, v60_at, v65_at, select_bool]
  simp only [v65_at]
  unfold Grp.dDot
  show (if sees n r k = true then _ else _) = (if sees n r k = true then _ else _) * _
  by_cases e : sees n r k = true
  · rw [if_pos e, if_pos e]
    rfl
  · rw [if_neg e, if_neg e, zero_mul]

theorem v141_at (n : Fin 128) (h : Fin 2) (k : Fin 256) (d : Fin 64) :
    res_main_v141 V0 (ix4 n k h d) = (RF V0 h n).dK k d := by
  pointwise [res_main_v141]
  simp only [v137_at, v2_at]
  unfold Grp.dK
  show (_ : EReal) = _
  exact Finset.sum_comm

end Cert.ReferenceIdeal.Pure
-- ==== Proof.RefRes.lean ====
/- The three results of the idealized reference: the gradients of `Spec` for the groups of the whole sequence. -/
module

public import proofs.«01_k».proof.Proof.RefPure
public import Idealize.ShloMosaic.Lib.StableHlo.RunHlo

@[expose] public section

set_option maxRecDepth 16384

noncomputable section

namespace Cert.ReferenceIdeal.Pure

open Idealize.ShloMosaic Idealize.ShloMosaic.TcCoe Idealize.SL.Sem
open Cert.ReferenceIdeal Cert.ReferenceIdeal.Value Cert.Spec Cert.ReferenceIdeal.Gen

/-- The gradient of the queries from the products' cotangents `D` and the band's keys `K`. -/
def queries (D : FVec Ideal S128x2x256x128x4 .f32) (K : FVec Ideal S128x256x2x64 .f32) : FVec Ideal S16384x512 .f32 :=
  shapeCast _ (transpose S128x128x2x4x64 [0, 2, 1, 3, 4] (Host.dotGeneral dot_S128x2x256x128x4_S128x256x2x64_S128x2x128x4x64_2_1_34_3_01_02 none D K)
    transposes_S128x2x128x4x64_S128x128x2x4x64_0_2_1_3_4) shapeCasts_S128x128x2x4x64_S16384x512

theorem queries_at (D : FVec Ideal S128x2x256x128x4 .f32) (K : FVec Ideal S128x256x2x64 .f32) (a : Fin 16384) (b : Fin 512) :
    queries D K (ix2 a b) = ∑ k : Fin 256,
      D (ix5 ⟨a / 128, by omega⟩ ⟨b / 256, by omega⟩ k ⟨a % 128, by omega⟩ ⟨b / 64 % 4, by omega⟩)
        * K (ix4 ⟨a / 128, by omega⟩ k ⟨b / 256, by omega⟩ ⟨b % 64, by omega⟩) := by
  pointwise [queries]

/-- The gradient of keys (or values) of the sequence from that of the bands: a block's own rows, and the next band's first rows. -/
def both (G : FVec Ideal S128x256x2x64 .f32) : FVec Ideal S16384x128 .f32 :=
  shapeCast _ (addf (extractStridedSlice S128x128x2x64 ![0, 128, 0, 0] G slices_S128x256x2x64_S128x128x2x64_0_128_0_0)
    (pad S128x128x2x64 ![0, 0, 0, 0] ![1, 0, 0, 0] ![0, 0, 0, 0] (extractStridedSlice S127x128x2x64 ![1, 0, 0, 0]
      (extractStridedSlice S128x128x2x64 ![0, 0, 0, 0] G slices_S128x256x2x64_S128x128x2x64_0_0_0_0) slices_S128x128x2x64_S127x128x2x64_1_0_0_0)
      (constant S_ .f32 0x00000000#32) pads_S127x128x2x64_S128x128x2x64_010_000_000_000 h_S_)) shapeCasts_S128x128x2x64_S16384x128

theorem both_at (G : FVec Ideal S128x256x2x64 .f32) (a : Fin 16384) (b : Fin 128) :
    both G (ix2 a b) = G (ix4 ⟨a / 128, by omega⟩ ⟨128 + a % 128, by omega⟩ ⟨b / 64, by omega⟩ ⟨b % 64, by omega⟩)
      + if h : (a : ℕ) / 128 < 127 ∧ (a : ℕ) % 128 < 128 ∧ (b : ℕ) / 64 < 2 ∧ (b : ℕ) % 64 < 64 then
          G (ix4 ⟨1 + a / 128, by omega⟩ ⟨a % 128, by omega⟩ ⟨b / 64, by omega⟩ ⟨b % 64, by omega⟩) else 0 := by
  pointwise [both]

/-- The gradient of the packed keys and values. -/
def packed (Y X : FVec Ideal S16384x128 .f32) : FVec Ideal S16384x256 .f32 :=
  addf (pad S16384x256 ![0, 128] ![0, 0] ![0, 0] Y (constant S_ .f32 0x00000000#32) pads_S16384x128_S16384x256_000_12800 h_S_)
    (pad S16384x256 ![0, 0] ![0, 128] ![0, 0] X (constant S_ .f32 0x00000000#32) pads_S16384x128_S16384x256_000_01280 h_S_)

theorem packed_at (Y X : FVec Ideal S16384x128 .f32) (a : Fin 16384) (b : Fin 256) :
    packed Y X (ix2 a b) = if h : (b : ℕ) < 128 then X (ix2 a ⟨b, h⟩) else Y (ix2 a ⟨b - 128, by omega⟩) := by
  pointwise [packed]
  by_cases h : (b : ℕ) < 128
  · rw [dif_pos h, dif_pos h, dif_neg fun e => absurd e.1 (by omega), zero_add]
  · rw [dif_neg h, dif_neg h, dif_pos ⟨by omega, by omega⟩, add_zero]

/-- The gradient of the sinks from that of each row. -/
def summed (R : FVec Ideal S128x2x4x128 .f32) : FVec Ideal S8 .f32 :=
  shapeCast _ (broadcastInDim S2x4x1 ![0, 1] bcast_S2x4_S2x4x1_0_1 (Host.reduceAdd (Host.reduceAdd R
    (constant S_ .f32 0x00000000#32) reducesTo_S128x2x4x128_S2x4x128_d0 h_S_) (constant S_ .f32 0x00000000#32) reducesTo_S2x4x128_S2x4_d2 h_S_))
    shapeCasts_S2x4x1_S8

theorem summed_at (R : FVec Ideal S128x2x4x128 .f32) (i : Fin 8) :
    summed R (ix1 i) = ∑ r : Fin 128, ∑ n : Fin 128, R (ix4 n ⟨i / 4, by omega⟩ ⟨i % 4, by omega⟩ r) := by
  pointwise [summed]

variable (V0 : Valuation τ sig (Elt Ideal))

/-- The first result is the gradient of the queries. -/
theorem res_q (a : Fin 16384) (b : Fin 512) : queries (res_main_v137 V0) (res_main_v9 V0) (ix2 a b) = resQ (RF V0) a b := by
  rw [queries_at]
  simp only [v137_at, v9_at]
  rfl

/-- Keys or values: what `both` gives is the sum of the two blocks' parts. -/
theorem both_eq (F : Fin 2 → Fin 128 → Grp) (G : FVec Ideal S128x256x2x64 .f32) (o : Fin 2)
    (hG : ∀ n k h d, G (ix4 n k h d) = dKV (F h n) o k d) (a : Fin 16384) (b : Fin 128) (b' : Fin 256) (hb : (b' : ℕ) = o * 128 + b) :
    both G (ix2 a b) = sumKV F a b' := by
  rw [both_at]
  unfold sumKV
  rw [resKV_at F 1 ⟨a / 128, by omega⟩ ⟨a % 128, by omega⟩ o ⟨b / 64, by omega⟩ ⟨b % 64, by omega⟩ a b' (by dsimp only; omega) (by dsimp only; omega), hG]
  show (_ : EReal) + _ = _ + _
  refine congrArg₂ _ (congrArg (fun k => dKV _ o k _) (Fin.ext (by dsimp only; omega))) ?_
  by_cases h : (a : ℕ) / 128 < 127
  · have ha : (a : ℕ) < 16256 := by omega
    rw [dif_pos ⟨h, by omega, by omega, by omega⟩, dif_pos ha, hG, resKV_at F 0 ⟨1 + a / 128, by omega⟩ ⟨a % 128, by omega⟩ o ⟨b / 64, by omega⟩ ⟨b % 64, by omega⟩
      ⟨a + 128, by omega⟩ b' (by dsimp only; omega) (by dsimp only; omega)]
    exact congrArg (fun k => dKV _ o k _) (Fin.ext (by dsimp only; omega))
  · rw [dif_neg fun e => h e.1, dif_neg (by omega)]

/-- The second result is the gradient of keys and values. -/
theorem res_kv (a : Fin 16384) (b : Fin 256) : packed (both (res_main_v103 V0)) (both (res_main_v141 V0)) (ix2 a b) = sumKV (RF V0) a b := by
  rw [packed_at]
  by_cases h : (b : ℕ) < 128
  · rw [dif_pos h]
    exact both_eq (RF V0) (res_main_v141 V0) 0 (fun n k h d => v141_at V0 n h k d) a ⟨b, h⟩ b (by dsimp only; omega)
  · rw [dif_neg h]
    exact both_eq (RF V0) (res_main_v103 V0) 1 (fun n k h d => v103_at V0 n h k d) a ⟨b - 128, by omega⟩ b (by dsimp only; omega)

/-- The sum of two arrays at an index. -/
theorem plus_at (T U : FVec Ideal S128x2x4x128 .f32) (i : S128x2x4x128.Idx) : addf T U i = (T i + U i : EReal) := by
  pointwise

/-- The third result is the gradient of the sinks. -/
theorem res_s (i : Fin 8) :
    summed (addf (res_main_v113 V0) (left (res_main_v122 V0) (res_main_v60 V0) (res_main_v61 V0))) (ix1 i) = resS (RF V0) i := by
  rw [summed_at]
  have e : ∀ n h g r, addf (res_main_v113 V0) (left (res_main_v122 V0) (res_main_v60 V0) (res_main_v61 V0)) (ix4 n h g r)
      = (RF V0 h n).dSig g r := by
    intro n h g r
    refine (plus_at (res_main_v113 V0) (left (res_main_v122 V0) (res_main_v60 V0) (res_main_v61 V0)) (ix4 n h g r)).trans ?_
    rw [left_at, v113_at, v122_at, v60_at, v61_at]
    rfl
  simp only [e]
  unfold resS
  show (_ : EReal) = _
  exact Finset.sum_comm

/-- The results of the program's run, by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v156) = queries (res_main_v137 (StableHlo.launchContents m c)) (res_main_v9 (StableHlo.launchContents m c))
      ∧ r.2.mem ((c.tc : Thread nD τ).loc main_v159)
          = packed (both (res_main_v103 (StableHlo.launchContents m c))) (both (res_main_v141 (StableHlo.launchContents m c)))
      ∧ r.2.mem ((c.tc : Thread nD τ).loc main_v133)
          = summed (addf (res_main_v113 (StableHlo.launchContents m c))
              (left (res_main_v122 (StableHlo.launchContents m c)) (res_main_v60 (StableHlo.launchContents m c)) (res_main_v61 (StableHlo.launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold queries packed both summed left
  exact Value.run m ρ

/-- The three results as functions of the index. -/
theorem fun_q : queries (res_main_v137 V0) (res_main_v9 V0) = fun j : S16384x512.Idx => resQ (RF V0) (j 0) (j 1) := by
  funext j
  rw [eq_ix2 j]
  exact res_q V0 _ _

theorem fun_kv : packed (both (res_main_v103 V0)) (both (res_main_v141 V0)) = fun j : S16384x256.Idx => sumKV (RF V0) (j 0) (j 1) := by
  funext j
  rw [eq_ix2 j]
  exact res_kv V0 _ _

theorem fun_s : summed (addf (res_main_v113 V0) (left (res_main_v122 V0) (res_main_v60 V0) (res_main_v61 V0)))
    = fun j : S8.Idx => resS (RF V0) (j 0) := by
  funext j
  rw [eq_ix1 j]
  exact res_s V0 _

end Cert.ReferenceIdeal.Pure
-- ==== Proof.Window.lean ====
/- The gradient of the sliding-window attention: the idealized kernel's three results are the idealized reference's. -/
module

public import proofs.«01_k».proof.Defs
public import proofs.«01_k».proof.Proof.KTail
public import proofs.«01_k».proof.Proof.RefRes
public import Idealize.ShloMosaic.Lib.Quiescent
public import Idealize.ShloMosaic.Lib.StableHlo.RunHlo

@[expose] public section

set_option maxRecDepth 16384

noncomputable section

namespace Cert.Window

open Idealize.ShloMosaic Idealize.ShloMosaic.TcCoe Idealize.SL.Sem
open Idealize.ShloMosaic.StableHlo Cert.Spec

/-- The reference runs and ends with its arguments unchanged; it has no semaphore. -/
theorem reference_frame : Cert.quiescent_ReferenceIdeal (hReferenceIdeal := Cert.ReferenceIdeal.Gen.facts) := fun m g _ =>
  θ_run_mono (Cert.ReferenceIdeal.Value.run m g) fun r h =>
    ⟨fun c => (h c).2.2.2, Idealize.ShloMosaic.sem_eq_zero_of_no_sems (by decide) r.2⟩

/-- Two groups' gradients are equal where the groups differ only in what no query sees. -/
theorem results_eq {F F' : Fin 2 → Fin 128 → Grp} (h : ∀ i n, Grp.Same (F i n) (F' i n)) :
    resQ F = resQ F' ∧ sumKV F = sumKV F' ∧ resS F = resS F' := by
  refine ⟨?_, ?_, ?_⟩
  · funext a b
    unfold resQ
    rw [(h _ _).dQ_eq]
  · funext a b
    simp only [sumKV, resKV, dKV, (h _ _).dK_eq, (h _ _).dV_eq]
  · funext i
    simp only [resS, (h _ _).dSig_eq]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- On memories that agree on the arguments the reference's groups are the kernel's, up to what stands before the sequence. -/
theorem groups_same
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (i : Fin 2) (n : Fin 128) :
    Grp.Same (Cert.KernelIdeal.Val.KF m c i n) (Cert.ReferenceIdeal.Pure.RF (launchContents m' c) i n) := by
  have e0 : Cert.ReferenceIdeal.Pure.aq (launchContents m' c) = Cert.KernelIdeal.Val.aq m c := h0
  have e1 : Cert.ReferenceIdeal.Pure.akv (launchContents m' c) = Cert.KernelIdeal.Val.akv m c := h1
  have e2 : Cert.ReferenceIdeal.Pure.asink (launchContents m' c) = Cert.KernelIdeal.Val.asink m c := h2
  have e3 : Cert.ReferenceIdeal.Pure.ado (launchContents m' c) = Cert.KernelIdeal.Val.ado m c := h3
  unfold Cert.ReferenceIdeal.Pure.RF
  rw [e0, e1, e2, e3]
  exact agrp_same _ _ _ _ i n

/-- From memories that agree on the arguments both programs run, and their three results are equal. -/
theorem algebraic : Cert.algebraic_KernelIdeal_ReferenceIdeal
    (hKernelIdeal := Cert.KernelIdeal.Gen.facts) (hReferenceIdeal := Cert.ReferenceIdeal.Gen.facts) := by
  intro m g m' g' _ agree
  have same := fun c => results_eq (groups_same m m' c (agree c).1 (agree c).2.1 (agree c).2.2.1 (agree c).2.2.2)
  refine ⟨fun c => fun j : Cert.KernelIdeal.S16384x512.Idx => resQ (Cert.KernelIdeal.Val.KF m c) (j 0) (j 1),
    fun c => fun j : Cert.KernelIdeal.S16384x256.Idx => sumKV (Cert.KernelIdeal.Val.KF m c) (j 0) (j 1),
    fun c => fun j : Cert.KernelIdeal.S8.Idx => resS (Cert.KernelIdeal.Val.KF m c) (j 0), ?_, ?_⟩
  · refine θ_run_mono (θ_run_and (Cert.KernelIdeal.Gen.run_main m g) (Cert.KernelIdeal.Gen.frame m g)) fun r h c => ⟨?_, ?_, ?_, h.2.1 c⟩
    · exact (h.1.out_eq c 5).trans (Cert.KernelIdeal.Val.final_5 m c)
    · exact (h.1.rest_eq c Cert.KernelIdeal.main_v6 (by decide)).trans ((Cert.KernelIdeal.Val.tail_6 m c).trans (Cert.KernelIdeal.Val.fun_kv m c))
    · exact (h.1.rest_eq c Cert.KernelIdeal.main_v7 (by decide)).trans ((Cert.KernelIdeal.Val.tail_7 m c).trans (Cert.KernelIdeal.Val.fun_s m c))
  · refine θ_run_mono (Cert.ReferenceIdeal.Pure.run m' g') fun r h c => ⟨(h c).1.trans ?_, (h c).2.1.trans ?_, (h c).2.2.1.trans ?_, (h c).2.2.2⟩
    · exact (Cert.ReferenceIdeal.Pure.fun_q (launchContents m' c)).trans
        (congrArg (fun (R : Fin 16384 → Fin 512 → EReal) (j : Cert.ReferenceIdeal.S16384x512.Idx) => R (j 0) (j 1)) (same c).1.symm)
    · exact (Cert.ReferenceIdeal.Pure.fun_kv (launchContents m' c)).trans
        (congrArg (fun (R : Fin 16384 → Fin 256 → EReal) (j : Cert.ReferenceIdeal.S16384x256.Idx) => R (j 0) (j 1)) (same c).2.1.symm)
    · exact (Cert.ReferenceIdeal.Pure.fun_s (launchContents m' c)).trans
        (congrArg (fun (R : Fin 8 → EReal) (j : Cert.ReferenceIdeal.S8.Idx) => R (j 0)) (same c).2.2.symm)

end Cert.Window
-- ==== Proof.lean ====
/- The claims: the sliding-window attention's gradient kernel, the calls that multiply by weights, the activation's calls and the
   optimiser's, with their references, run and keep their arguments, and over the extended reals each kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.GuDx
public import proofs.«01_k».proof.Proof.Gen.GuDx.Skeleton
public import proofs.«01_k».proof.Proof.Gen.GuDx.Launch
public import proofs.«01_k».proof.Proof.Gen.GuDx.Points
public import proofs.«01_k».proof.Proof.Gen.GuDx.Frame
public import proofs.«01_k».proof.Proof.Gen.GuDxIdeal
public import proofs.«01_k».proof.Proof.Gen.GuDxIdeal.Skeleton
public import proofs.«01_k».proof.Proof.Gen.GuDxIdeal.Launch
public import proofs.«01_k».proof.Proof.Gen.GuDxIdeal.Points
public import proofs.«01_k».proof.Proof.Gen.GuDxIdeal.Frame
public import proofs.«01_k».proof.Proof.Gen.GuDxRefIdeal
public import proofs.«01_k».proof.Proof.Gen.GuDxRefIdeal.Run
public import proofs.«01_k».proof.Proof.Gen.GuDw
public import proofs.«01_k».proof.Proof.Gen.GuDw.Skeleton
public import proofs.«01_k».proof.Proof.Gen.GuDw.Launch
public import proofs.«01_k».proof.Proof.Gen.GuDw.Points
public import proofs.«01_k».proof.Proof.Gen.GuDw.Frame
public import proofs.«01_k».proof.Proof.Gen.GuDwIdeal
public import proofs.«01_k».proof.Proof.Gen.GuDwIdeal.Skeleton
public import proofs.«01_k».proof.Proof.Gen.GuDwIdeal.Launch
public import proofs.«01_k».proof.Proof.Gen.GuDwIdeal.Points
public import proofs.«01_k».proof.Proof.Gen.GuDwIdeal.Frame
public import proofs.«01_k».proof.Proof.Gen.GuDwIdeal.Value
public import proofs.«01_k».proof.Proof.Gen.GuDwRefIdeal
public import proofs.«01_k».proof.Proof.Gen.GuDwRefIdeal.Run
public import proofs.«01_k».proof.Proof.Gen.GuFwd
public import proofs.«01_k».proof.Proof.Gen.GuFwd.Skeleton
public import proofs.«01_k».proof.Proof.Gen.GuFwd.Launch
public import proofs.«01_k».proof.Proof.Gen.GuFwd.Points
public import proofs.«01_k».proof.Proof.Gen.GuFwd.Frame
public import proofs.«01_k».proof.Proof.Gen.GuFwdIdeal
public import proofs.«01_k».proof.Proof.Gen.GuFwdIdeal.Skeleton
public import proofs.«01_k».proof.Proof.Gen.GuFwdIdeal.Launch
public import proofs.«01_k».proof.Proof.Gen.GuFwdIdeal.Points
public import proofs.«01_k».proof.Proof.Gen.GuFwdIdeal.Frame
public import proofs.«01_k».proof.Proof.Gen.GuFwdIdeal.Value
public import proofs.«01_k».proof.Proof.Gen.GuFwdRefIdeal
public import proofs.«01_k».proof.Proof.Gen.GuFwdRefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InDwRefIdeal.Run
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.InFwdRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.BranchDx
public import proofs.«01_k».proof.Proof.Gen.BranchDx.Skeleton
public import proofs.«01_k».proof.Proof.Gen.BranchDx.Launch
public import proofs.«01_k».proof.Proof.Gen.BranchDx.Points
public import proofs.«01_k».proof.Proof.Gen.BranchDx.Frame
public import proofs.«01_k».proof.Proof.Gen.BranchDxIdeal
public import proofs.«01_k».proof.Proof.Gen.BranchDxIdeal.Skeleton
public import proofs.«01_k».proof.Proof.Gen.BranchDxIdeal.Launch
public import proofs.«01_k».proof.Proof.Gen.BranchDxIdeal.Points
public import proofs.«01_k».proof.Proof.Gen.BranchDxIdeal.Frame
public import proofs.«01_k».proof.Proof.Gen.BranchDxIdeal.Value
public import proofs.«01_k».proof.Proof.Gen.BranchDxRefIdeal
public import proofs.«01_k».proof.Proof.Gen.BranchDxRefIdeal.Run
public import proofs.«01_k».proof.Proof.Gen.BranchDw
public import proofs.«01_k».proof.Proof.Gen.BranchDw.Skeleton
public import proofs.«01_k».proof.Proof.Gen.BranchDw.Launch
public import proofs.«01_k».proof.Proof.Gen.BranchDw.Points
public import proofs.«01_k».proof.Proof.Gen.BranchDw.Frame
public import proofs.«01_k».proof.Proof.Gen.BranchDwIdeal
public import proofs.«01_k».proof.Proof.Gen.BranchDwIdeal.Skeleton
public import proofs.«01_k».proof.Proof.Gen.BranchDwIdeal.Launch
public import proofs.«01_k».proof.Proof.Gen.BranchDwIdeal.Points
public import proofs.«01_k».proof.Proof.Gen.BranchDwIdeal.Frame
public import proofs.«01_k».proof.Proof.Gen.BranchDwIdeal.Value
public import proofs.«01_k».proof.Proof.Gen.BranchDwRefIdeal
public import proofs.«01_k».proof.Proof.Gen.BranchDwRefIdeal.Run
public import proofs.«01_k».proof.Proof.Gen.BranchFwd
public import proofs.«01_k».proof.Proof.Gen.BranchFwd.Skeleton
public import proofs.«01_k».proof.Proof.Gen.BranchFwd.Launch
public import proofs.«01_k».proof.Proof.Gen.BranchFwd.Points
public import proofs.«01_k».proof.Proof.Gen.BranchFwd.Frame
public import proofs.«01_k».proof.Proof.Gen.BranchFwdIdeal
public import proofs.«01_k».proof.Proof.Gen.BranchFwdIdeal.Skeleton
public import proofs.«01_k».proof.Proof.Gen.BranchFwdIdeal.Launch
public import proofs.«01_k».proof.Proof.Gen.BranchFwdIdeal.Points
public import proofs.«01_k».proof.Proof.Gen.BranchFwdIdeal.Frame
public import proofs.«01_k».proof.Proof.Gen.BranchFwdIdeal.Value
public import proofs.«01_k».proof.Proof.Gen.BranchFwdRefIdeal
public import proofs.«01_k».proof.Proof.Gen.BranchFwdRefIdeal.Run
public import proofs.«01_k».proof.Proof.Gen.ActBwd
public import proofs.«01_k».proof.Proof.Gen.ActBwd.Skeleton
public import proofs.«01_k».proof.Proof.Gen.ActBwd.Launch
public import proofs.«01_k».proof.Proof.Gen.ActBwd.Points
public import proofs.«01_k».proof.Proof.Gen.ActBwd.Frame
public import proofs.«01_k».proof.Proof.Gen.ActBwdIdeal
public import proofs.«01_k».proof.Proof.Gen.ActBwdIdeal.Skeleton
public import proofs.«01_k».proof.Proof.Gen.ActBwdIdeal.Launch
public import proofs.«01_k».proof.Proof.Gen.ActBwdIdeal.Points
public import proofs.«01_k».proof.Proof.Gen.ActBwdIdeal.Frame
public import proofs.«01_k».proof.Proof.Gen.ActBwdIdeal.Value
public import proofs.«01_k».proof.Proof.Gen.ActBwdRefIdeal
public import proofs.«01_k».proof.Proof.Gen.ActBwdRefIdeal.Run
public import proofs.«01_k».proof.Proof.Gen.ActFwd
public import proofs.«01_k».proof.Proof.Gen.ActFwd.Skeleton
public import proofs.«01_k».proof.Proof.Gen.ActFwd.Launch
public import proofs.«01_k».proof.Proof.Gen.ActFwd.Points
public import proofs.«01_k».proof.Proof.Gen.ActFwd.Frame
public import proofs.«01_k».proof.Proof.Gen.ActFwdIdeal
public import proofs.«01_k».proof.Proof.Gen.ActFwdIdeal.Skeleton
public import proofs.«01_k».proof.Proof.Gen.ActFwdIdeal.Launch
public import proofs.«01_k».proof.Proof.Gen.ActFwdIdeal.Points
public import proofs.«01_k».proof.Proof.Gen.ActFwdIdeal.Frame
public import proofs.«01_k».proof.Proof.Gen.ActFwdIdeal.Value
public import proofs.«01_k».proof.Proof.Gen.ActFwdRefIdeal
public import proofs.«01_k».proof.Proof.Gen.ActFwdRefIdeal.Run
public import proofs.«01_k».proof.Proof.Gen.AdamGu
public import proofs.«01_k».proof.Proof.Gen.AdamGu.Skeleton
public import proofs.«01_k».proof.Proof.Gen.AdamGu.Launch
public import proofs.«01_k».proof.Proof.Gen.AdamGu.Points
public import proofs.«01_k».proof.Proof.Gen.AdamGu.Frame
public import proofs.«01_k».proof.Proof.Gen.AdamGuIdeal
public import proofs.«01_k».proof.Proof.Gen.AdamGuIdeal.Skeleton
public import proofs.«01_k».proof.Proof.Gen.AdamGuIdeal.Launch
public import proofs.«01_k».proof.Proof.Gen.AdamGuIdeal.Points
public import proofs.«01_k».proof.Proof.Gen.AdamGuIdeal.Frame
public import proofs.«01_k».proof.Proof.Gen.AdamGuRefIdeal
public import proofs.«01_k».proof.Proof.Gen.AdamGuRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvRefIdeal
public import proofs.«01_k».proof.Proof.Gen.AdamKvRefIdeal.Run
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchRefIdeal
public import proofs.«01_k».proof.Proof.Gen.AdamBranchRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.SumGu
public import proofs.«01_k».proof.Proof.Gen.SumGu.Skeleton
public import proofs.«01_k».proof.Proof.Gen.SumGu.Launch
public import proofs.«01_k».proof.Proof.Gen.SumGu.Points
public import proofs.«01_k».proof.Proof.Gen.SumGu.Frame
public import proofs.«01_k».proof.Proof.Gen.SumGuIdeal
public import proofs.«01_k».proof.Proof.Gen.SumGuIdeal.Skeleton
public import proofs.«01_k».proof.Proof.Gen.SumGuIdeal.Launch
public import proofs.«01_k».proof.Proof.Gen.SumGuIdeal.Points
public import proofs.«01_k».proof.Proof.Gen.SumGuIdeal.Frame
public import proofs.«01_k».proof.Proof.Gen.SumGuRefIdeal
public import proofs.«01_k».proof.Proof.Gen.SumGuRefIdeal.Run
public import proofs.«01_k».proof.Proof.Gen.SumDown
public import proofs.«01_k».proof.Proof.Gen.SumDown.Skeleton
public import proofs.«01_k».proof.Proof.Gen.SumDown.Launch
public import proofs.«01_k».proof.Proof.Gen.SumDown.Points
public import proofs.«01_k».proof.Proof.Gen.SumDown.Frame
public import proofs.«01_k».proof.Proof.Gen.SumDownIdeal
public import proofs.«01_k».proof.Proof.Gen.SumDownIdeal.Skeleton
public import proofs.«01_k».proof.Proof.Gen.SumDownIdeal.Launch
public import proofs.«01_k».proof.Proof.Gen.SumDownIdeal.Points
public import proofs.«01_k».proof.Proof.Gen.SumDownIdeal.Frame
public import proofs.«01_k».proof.Proof.Gen.SumDownRefIdeal
public import proofs.«01_k».proof.Proof.Gen.SumDownRefIdeal.Run
public import proofs.«01_k».proof.Proof.Gen.SumIn
public import proofs.«01_k».proof.Proof.Gen.SumIn.Skeleton
public import proofs.«01_k».proof.Proof.Gen.SumIn.Launch
public import proofs.«01_k».proof.Proof.Gen.SumIn.Points
public import proofs.«01_k».proof.Proof.Gen.SumIn.Frame
public import proofs.«01_k».proof.Proof.Gen.SumInIdeal
public import proofs.«01_k».proof.Proof.Gen.SumInIdeal.Skeleton
public import proofs.«01_k».proof.Proof.Gen.SumInIdeal.Launch
public import proofs.«01_k».proof.Proof.Gen.SumInIdeal.Points
public import proofs.«01_k».proof.Proof.Gen.SumInIdeal.Frame
public import proofs.«01_k».proof.Proof.Gen.SumInRefIdeal
public import proofs.«01_k».proof.Proof.Gen.SumInRefIdeal.Run
public import proofs.«01_k».proof.Proof.Gen.SumKv
public import proofs.«01_k».proof.Proof.Gen.SumKv.Skeleton
public import proofs.«01_k».proof.Proof.Gen.SumKv.Launch
public import proofs.«01_k».proof.Proof.Gen.SumKv.Points
public import proofs.«01_k».proof.Proof.Gen.SumKv.Frame
public import proofs.«01_k».proof.Proof.Gen.SumKvIdeal
public import proofs.«01_k».proof.Proof.Gen.SumKvIdeal.Skeleton
public import proofs.«01_k».proof.Proof.Gen.SumKvIdeal.Launch
public import proofs.«01_k».proof.Proof.Gen.SumKvIdeal.Points
public import proofs.«01_k».proof.Proof.Gen.SumKvIdeal.Frame
public import proofs.«01_k».proof.Proof.Gen.SumKvRefIdeal
public import proofs.«01_k».proof.Proof.Gen.SumKvRefIdeal.Run
public import proofs.«01_k».proof.Proof.Gen.SumBranch
public import proofs.«01_k».proof.Proof.Gen.SumBranch.Skeleton
public import proofs.«01_k».proof.Proof.Gen.SumBranch.Launch
public import proofs.«01_k».proof.Proof.Gen.SumBranch.Points
public import proofs.«01_k».proof.Proof.Gen.SumBranch.Frame
public import proofs.«01_k».proof.Proof.Gen.SumBranchIdeal
public import proofs.«01_k».proof.Proof.Gen.SumBranchIdeal.Skeleton
public import proofs.«01_k».proof.Proof.Gen.SumBranchIdeal.Launch
public import proofs.«01_k».proof.Proof.Gen.SumBranchIdeal.Points
public import proofs.«01_k».proof.Proof.Gen.SumBranchIdeal.Frame
public import proofs.«01_k».proof.Proof.Gen.SumBranchRefIdeal
public import proofs.«01_k».proof.Proof.Gen.SumBranchRefIdeal.Run
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossBwdRefIdeal
public import proofs.«01_k».proof.Proof.Gen.LossBwdRefIdeal.Run
public import proofs.«01_k».proof.Proof.Gen.LossFwd
public import proofs.«01_k».proof.Proof.Gen.LossFwd.Skeleton
public import proofs.«01_k».proof.Proof.Gen.LossFwd.Launch
public import proofs.«01_k».proof.Proof.Gen.LossFwd.Points
public import proofs.«01_k».proof.Proof.Gen.LossFwd.Frame
public import proofs.«01_k».proof.Proof.Gen.LossFwdIdeal
public import proofs.«01_k».proof.Proof.Gen.LossFwdIdeal.Skeleton
public import proofs.«01_k».proof.Proof.Gen.LossFwdIdeal.Launch
public import proofs.«01_k».proof.Proof.Gen.LossFwdIdeal.Points
public import proofs.«01_k».proof.Proof.Gen.LossFwdIdeal.Frame
public import proofs.«01_k».proof.Proof.Gen.LossFwdRefIdeal
public import proofs.«01_k».proof.Proof.Gen.LossFwdRefIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.ProdGu
public import proofs.«01_k».proof.Proof.ProdDown
public import proofs.«01_k».proof.Proof.ProdIn
public import proofs.«01_k».proof.Proof.ProdOut
public import proofs.«01_k».proof.Proof.ProdBranch
public import proofs.«01_k».proof.Proof.Act
public import proofs.«01_k».proof.Proof.Merge
public import proofs.«01_k».proof.Proof.Norm
public import proofs.«01_k».proof.Proof.Loss
public import proofs.«01_k».proof.Proof.Adam
public import proofs.«01_k».proof.Proof.AdamSmall
public import proofs.«01_k».proof.Proof.Sums
public import proofs.«01_k».proof.Proof.Window
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := ⟨Cert.Kernel.Gen.facts, Cert.KernelIdeal.Gen.facts, Cert.ReferenceIdeal.Gen.facts,
  Cert.GuDx.Gen.facts, Cert.GuDxIdeal.Gen.facts, Cert.GuDxRefIdeal.Gen.facts,
  Cert.GuDw.Gen.facts, Cert.GuDwIdeal.Gen.facts, Cert.GuDwRefIdeal.Gen.facts,
  Cert.GuFwd.Gen.facts, Cert.GuFwdIdeal.Gen.facts, Cert.GuFwdRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.DownFwd.Gen.facts, Cert.DownFwdIdeal.Gen.facts, Cert.DownFwdRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.InFwd.Gen.facts, Cert.InFwdIdeal.Gen.facts, Cert.InFwdRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.OutFwd.Gen.facts, Cert.OutFwdIdeal.Gen.facts, Cert.OutFwdRefIdeal.Gen.facts,
  Cert.BranchDx.Gen.facts, Cert.BranchDxIdeal.Gen.facts, Cert.BranchDxRefIdeal.Gen.facts,
  Cert.BranchDw.Gen.facts, Cert.BranchDwIdeal.Gen.facts, Cert.BranchDwRefIdeal.Gen.facts,
  Cert.BranchFwd.Gen.facts, Cert.BranchFwdIdeal.Gen.facts, Cert.BranchFwdRefIdeal.Gen.facts,
  Cert.ActBwd.Gen.facts, Cert.ActBwdIdeal.Gen.facts, Cert.ActBwdRefIdeal.Gen.facts,
  Cert.ActFwd.Gen.facts, Cert.ActFwdIdeal.Gen.facts, Cert.ActFwdRefIdeal.Gen.facts,
  Cert.AdamGu.Gen.facts, Cert.AdamGuIdeal.Gen.facts, Cert.AdamGuRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamKv.Gen.facts, Cert.AdamKvIdeal.Gen.facts, Cert.AdamKvRefIdeal.Gen.facts,
  Cert.AdamBranch.Gen.facts, Cert.AdamBranchIdeal.Gen.facts, Cert.AdamBranchRefIdeal.Gen.facts,
  Cert.AdamSmall.Gen.facts, Cert.AdamSmallIdeal.Gen.facts, Cert.AdamSmallRefIdeal.Gen.facts,
  Cert.SumGu.Gen.facts, Cert.SumGuIdeal.Gen.facts, Cert.SumGuRefIdeal.Gen.facts,
  Cert.SumDown.Gen.facts, Cert.SumDownIdeal.Gen.facts, Cert.SumDownRefIdeal.Gen.facts,
  Cert.SumIn.Gen.facts, Cert.SumInIdeal.Gen.facts, Cert.SumInRefIdeal.Gen.facts,
  Cert.SumKv.Gen.facts, Cert.SumKvIdeal.Gen.facts, Cert.SumKvRefIdeal.Gen.facts,
  Cert.SumBranch.Gen.facts, Cert.SumBranchIdeal.Gen.facts, Cert.SumBranchRefIdeal.Gen.facts,
  Cert.MergeBwd.Gen.facts, Cert.MergeBwdIdeal.Gen.facts, Cert.MergeBwdRefIdeal.Gen.facts,
  Cert.MergeFwd.Gen.facts, Cert.MergeFwdIdeal.Gen.facts, Cert.MergeFwdRefIdeal.Gen.facts,
  Cert.LossBwd.Gen.facts, Cert.LossBwdIdeal.Gen.facts, Cert.LossBwdRefIdeal.Gen.facts,
  Cert.LossFwd.Gen.facts, Cert.LossFwdIdeal.Gen.facts, Cert.LossFwdRefIdeal.Gen.facts,
  Cert.NormBwd.Gen.facts, Cert.NormBwdIdeal.Gen.facts, Cert.NormBwdRefIdeal.Gen.facts,
  Cert.NormFwd.Gen.facts, Cert.NormFwdIdeal.Gen.facts, Cert.NormFwdRefIdeal.Gen.facts,
  fun m ρ _ => Cert.Kernel.Gen.frame m ρ,
  fun m ρ _ => Cert.KernelIdeal.Gen.frame m ρ,
  Cert.Window.reference_frame,
  fun m ρ _ => Cert.GuDx.Gen.frame m ρ, fun m ρ _ => Cert.GuDxIdeal.Gen.frame m ρ, Cert.GuDxIdeal.Val.reference_frame,
  fun m ρ _ => Cert.GuDw.Gen.frame m ρ, fun m ρ _ => Cert.GuDwIdeal.Gen.frame m ρ, Cert.GuDwIdeal.Val.reference_frame,
  fun m ρ _ => Cert.GuFwd.Gen.frame m ρ, fun m ρ _ => Cert.GuFwdIdeal.Gen.frame m ρ, Cert.GuFwdIdeal.Val.reference_frame,
  fun m ρ _ => Cert.DownDx.Gen.frame m ρ, fun m ρ _ => Cert.DownDxIdeal.Gen.frame m ρ, Cert.DownDxIdeal.Val.reference_frame,
  fun m ρ _ => Cert.DownDw.Gen.frame m ρ, fun m ρ _ => Cert.DownDwIdeal.Gen.frame m ρ, Cert.DownDwIdeal.Val.reference_frame,
  fun m ρ _ => Cert.DownFwd.Gen.frame m ρ, fun m ρ _ => Cert.DownFwdIdeal.Gen.frame m ρ, Cert.DownFwdIdeal.Val.reference_frame,
  fun m ρ _ => Cert.InDx.Gen.frame m ρ, fun m ρ _ => Cert.InDxIdeal.Gen.frame m ρ, Cert.InDxIdeal.Val.reference_frame,
  fun m ρ _ => Cert.InDw.Gen.frame m ρ, fun m ρ _ => Cert.InDwIdeal.Gen.frame m ρ, Cert.InDwIdeal.Val.reference_frame,
  fun m ρ _ => Cert.InFwd.Gen.frame m ρ, fun m ρ _ => Cert.InFwdIdeal.Gen.frame m ρ, Cert.InFwdIdeal.Val.reference_frame,
  fun m ρ _ => Cert.OutDx.Gen.frame m ρ, fun m ρ _ => Cert.OutDxIdeal.Gen.frame m ρ, Cert.OutDxIdeal.Val.reference_frame,
  fun m ρ _ => Cert.OutDw.Gen.frame m ρ, fun m ρ _ => Cert.OutDwIdeal.Gen.frame m ρ, Cert.OutDwIdeal.Val.reference_frame,
  fun m ρ _ => Cert.OutFwd.Gen.frame m ρ, fun m ρ _ => Cert.OutFwdIdeal.Gen.frame m ρ, Cert.OutFwdIdeal.Val.reference_frame,
  fun m ρ _ => Cert.BranchDx.Gen.frame m ρ, fun m ρ _ => Cert.BranchDxIdeal.Gen.frame m ρ, Cert.BranchDxIdeal.Val.reference_frame,
  fun m ρ _ => Cert.BranchDw.Gen.frame m ρ, fun m ρ _ => Cert.BranchDwIdeal.Gen.frame m ρ, Cert.BranchDwIdeal.Val.reference_frame,
  fun m ρ _ => Cert.BranchFwd.Gen.frame m ρ, fun m ρ _ => Cert.BranchFwdIdeal.Gen.frame m ρ, Cert.BranchFwdIdeal.Val.reference_frame,
  fun m ρ _ => Cert.ActBwd.Gen.frame m ρ, fun m ρ _ => Cert.ActBwdIdeal.Gen.frame m ρ, Cert.ActBwdIdeal.Val.reference_frame,
  fun m ρ _ => Cert.ActFwd.Gen.frame m ρ, fun m ρ _ => Cert.ActFwdIdeal.Gen.frame m ρ, Cert.ActFwdIdeal.Val.reference_frame,
  fun m ρ _ => Cert.AdamGu.Gen.frame m ρ, fun m ρ _ => Cert.AdamGuIdeal.Gen.frame m ρ, Cert.AdamGuIdeal.Val.reference_frame,
  fun m ρ _ => Cert.AdamDown.Gen.frame m ρ, fun m ρ _ => Cert.AdamDownIdeal.Gen.frame m ρ, Cert.AdamDownIdeal.Val.reference_frame,
  fun m ρ _ => Cert.AdamIn.Gen.frame m ρ, fun m ρ _ => Cert.AdamInIdeal.Gen.frame m ρ, Cert.AdamInIdeal.Val.reference_frame,
  fun m ρ _ => Cert.AdamKv.Gen.frame m ρ, fun m ρ _ => Cert.AdamKvIdeal.Gen.frame m ρ, Cert.AdamKvIdeal.Val.reference_frame,
  fun m ρ _ => Cert.AdamBranch.Gen.frame m ρ, fun m ρ _ => Cert.AdamBranchIdeal.Gen.frame m ρ, Cert.AdamBranchIdeal.Val.reference_frame,
  fun m ρ _ => Cert.AdamSmall.Gen.frame m ρ, fun m ρ _ => Cert.AdamSmallIdeal.Gen.frame m ρ, Cert.AdamSmallIdeal.Val.reference_frame,
  fun m ρ _ => Cert.SumGu.Gen.frame m ρ, fun m ρ _ => Cert.SumGuIdeal.Gen.frame m ρ, Cert.SumGuIdeal.Val.reference_frame,
  fun m ρ _ => Cert.SumDown.Gen.frame m ρ, fun m ρ _ => Cert.SumDownIdeal.Gen.frame m ρ, Cert.SumDownIdeal.Val.reference_frame,
  fun m ρ _ => Cert.SumIn.Gen.frame m ρ, fun m ρ _ => Cert.SumInIdeal.Gen.frame m ρ, Cert.SumInIdeal.Val.reference_frame,
  fun m ρ _ => Cert.SumKv.Gen.frame m ρ, fun m ρ _ => Cert.SumKvIdeal.Gen.frame m ρ, Cert.SumKvIdeal.Val.reference_frame,
  fun m ρ _ => Cert.SumBranch.Gen.frame m ρ, fun m ρ _ => Cert.SumBranchIdeal.Gen.frame m ρ, Cert.SumBranchIdeal.Val.reference_frame,
  fun m ρ _ => Cert.MergeBwd.Gen.frame m ρ, fun m ρ _ => Cert.MergeBwdIdeal.Gen.frame m ρ, Cert.MergeBwdIdeal.Val.reference_frame,
  fun m ρ _ => Cert.MergeFwd.Gen.frame m ρ, fun m ρ _ => Cert.MergeFwdIdeal.Gen.frame m ρ, Cert.MergeFwdIdeal.Val.reference_frame,
  fun m ρ _ => Cert.LossBwd.Gen.frame m ρ, fun m ρ _ => Cert.LossBwdIdeal.Gen.frame m ρ, Cert.LossBwdIdeal.Val.reference_frame,
  fun m ρ _ => Cert.LossFwd.Gen.frame m ρ, fun m ρ _ => Cert.LossFwdIdeal.Gen.frame m ρ, Cert.LossFwdIdeal.Val.reference_frame,
  fun m ρ _ => Cert.NormBwd.Gen.frame m ρ, fun m ρ _ => Cert.NormBwdIdeal.Gen.frame m ρ, Cert.NormBwdIdeal.Val.reference_frame,
  fun m ρ _ => Cert.NormFwd.Gen.frame m ρ, fun m ρ _ => Cert.NormFwdIdeal.Gen.frame m ρ, Cert.NormFwdIdeal.Val.reference_frame,
  IdealRules.named_const.statement Cert.KernelIdeal.κ "mask" .f32 0xF149F2CA#32 ⊥ rfl,
  Cert.Window.algebraic,
  trivial, Cert.GuDxIdeal.Val.algebraic,
  trivial, Cert.GuDwIdeal.Val.algebraic,
  trivial, Cert.GuFwdIdeal.Val.algebraic,
  trivial, Cert.DownDxIdeal.Val.algebraic,
  trivial, Cert.DownDwIdeal.Val.algebraic,
  trivial, Cert.DownFwdIdeal.Val.algebraic,
  trivial, Cert.InDxIdeal.Val.algebraic,
  trivial, Cert.InDwIdeal.Val.algebraic,
  trivial, Cert.InFwdIdeal.Val.algebraic,
  trivial, Cert.OutDxIdeal.Val.algebraic,
  trivial, Cert.OutDwIdeal.Val.algebraic,
  trivial, Cert.OutFwdIdeal.Val.algebraic,
  trivial, Cert.BranchDxIdeal.Val.algebraic,
  trivial, Cert.BranchDwIdeal.Val.algebraic,
  trivial, Cert.BranchFwdIdeal.Val.algebraic,
  trivial, Cert.ActBwdIdeal.Val.algebraic,
  trivial, Cert.ActFwdIdeal.Val.algebraic,
  trivial, Cert.AdamGuIdeal.Val.algebraic,
  trivial, Cert.AdamDownIdeal.Val.algebraic,
  trivial, Cert.AdamInIdeal.Val.algebraic,
  trivial, Cert.AdamKvIdeal.Val.algebraic,
  trivial, Cert.AdamBranchIdeal.Val.algebraic,
  trivial, Cert.AdamSmallIdeal.Val.algebraic,
  trivial, Cert.SumGuIdeal.Val.algebraic,
  trivial, Cert.SumDownIdeal.Val.algebraic,
  trivial, Cert.SumInIdeal.Val.algebraic,
  trivial, Cert.SumKvIdeal.Val.algebraic,
  trivial, Cert.SumBranchIdeal.Val.algebraic,
  trivial, Cert.MergeBwdIdeal.Val.algebraic,
  trivial, Cert.MergeFwdIdeal.Val.algebraic,
  trivial, Cert.LossBwdIdeal.Val.algebraic,
  trivial, Cert.LossFwdIdeal.Val.algebraic,
  trivial, Cert.NormBwdIdeal.Val.algebraic,
  trivial, Cert.NormFwdIdeal.Val.algebraic⟩

end Cert.Proof

end
